-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S32768x3200 : Shape := ⟨2, ![32768, 3200]⟩
abbrev S4x1024 : Shape := ⟨2, ![4, 1024]⟩
abbrev S1024 : Shape := ⟨1, ![1024]⟩
abbrev S2x4 : Shape := ⟨2, ![2, 4]⟩
abbrev S_ : Shape := ⟨0, ![]⟩

class Facts : Prop where
  bcast_S_S32768x3200 : S_.BroadcastsInDim S32768x3200 (![] : Fin 0 → Fin S32768x3200.rank)
  bcast_S_S4x1024 : S_.BroadcastsInDim S4x1024 (![] : Fin 0 → Fin S4x1024.rank)
  bcast_S_S1024 : S_.BroadcastsInDim S1024 (![] : Fin 0 → Fin S1024.rank)
  bcast_S_S2x4 : S_.BroadcastsInDim S2x4 (![] : Fin 0 → Fin S2x4.rank)

variable [Facts]

def fn {F : FTy → Type} [FloatOps F] (main_arg0 : FVec F S32768x3200 .f32) (main_arg1 : FVec F S4x1024 .f32) (main_arg2 : FVec F S1024 .f32) (main_arg3 : FVec F S2x4 .f32) (main_arg4 : FVec F S1024 .f32) : IVec S32768x3200 1 × IVec S4x1024 1 × IVec S1024 1 × IVec S2x4 1 :=
  let main_v0 : FVec F S32768x3200 .f32 := Host.absf main_arg0
  let main_cst : FVec F S_ .f32 := constant S_ .f32 0x7F800000#32
  let main_v1 : FVec F S32768x3200 .f32 := broadcastInDim S32768x3200 ![] bcast_S_S32768x3200 main_cst
  let main_v2 : IVec S32768x3200 1 := cmpf .olt main_v0 main_v1
  let main_v3 : FVec F S4x1024 .f32 := Host.absf main_arg1
  let main_cst_0 : FVec F S_ .f32 := constant S_ .f32 0x7F800000#32
  let main_v4 : FVec F S4x1024 .f32 := broadcastInDim S4x1024 ![] bcast_S_S4x1024 main_cst_0
  let main_v5 : IVec S4x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x4 .f32 := Host.absf main_arg3
  let main_cst_2 : FVec F S_ .f32 := constant S_ .f32 0x7F800000#32
  let main_v10 : FVec F S2x4 .f32 := broadcastInDim S2x4 ![] bcast_S_S2x4 main_cst_2
  let main_v11 : IVec S2x4 1 := cmpf .olt main_v9 main_v10
  (main_v2, main_v5, main_v8, main_v11)
-- ==== Kernel.lean ====
abbrev S32768x3200 : Shape := ⟨2, ![32768, 3200]⟩
abbrev S4x1024 : Shape := ⟨2, ![4, 1024]⟩
abbrev S1024 : Shape := ⟨1, ![1024]⟩
abbrev S2x4 : Shape := ⟨2, ![2, 4]⟩
abbrev S1x8 : Shape := ⟨2, ![1, 8]⟩
abbrev S_ : Shape := ⟨0, ![]⟩
abbrev S1x128 : Shape := ⟨2, ![1, 128]⟩
abbrev S1x1024 : Shape := ⟨2, ![1, 1024]⟩
abbrev S32768x1024 : Shape := ⟨2, ![32768, 1024]⟩
abbrev S256x1024 : Shape := ⟨2, ![256, 1024]⟩
abbrev S256x128 : Shape := ⟨2, ![256, 128]⟩
abbrev S16x1024 : Shape := ⟨2, ![16, 1024]⟩
abbrev S4x128x256 : Shape := ⟨3, ![4, 128, 256]⟩
abbrev S4x1x128 : Shape := ⟨3, ![4, 1, 128]⟩
abbrev S8x1024 : Shape := ⟨2, ![8, 1024]⟩
abbrev S248x1024 : Shape := ⟨2, ![248, 1024]⟩
abbrev S256x256 : Shape := ⟨2, ![256, 256]⟩
abbrev S128x256 : Shape := ⟨2, ![128, 256]⟩
abbrev S1x128x256 : Shape := ⟨3, ![1, 128, 256]⟩
abbrev S1x1x128 : Shape := ⟨3, ![1, 1, 128]⟩
abbrev S256 : Shape := ⟨1, ![256]⟩
abbrev S256x1 : Shape := ⟨2, ![256, 1]⟩
abbrev S1x256 : Shape := ⟨2, ![1, 256]⟩
abbrev S1x1 : Shape := ⟨2, ![1, 1]⟩
abbrev S1 : Shape := ⟨1, ![1]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S32768x3200, .f32⟩
  | .hbm, ⟨1, _⟩ => ⟨S4x1024, .f32⟩
  | .hbm, ⟨2, _⟩ => ⟨S1024, .f32⟩
  | .hbm, ⟨3, _⟩ => ⟨S2x4, .f32⟩
  | .hbm, ⟨4, _⟩ => ⟨S1024, .f32⟩
  | .hbm, ⟨5, _⟩ => ⟨S1x8, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S1x1024, .f32⟩
  | .hbm, ⟨10, _⟩ => ⟨S1x1024, .f32⟩
  | .hbm, ⟨11, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x128, .f32⟩
  | .local _ .vmem, ⟨7, _⟩ => ⟨S256x128, .f32⟩
  | .local _ .vmem, ⟨8, _⟩ => ⟨S4x1024, .f32⟩
  | .local _ .vmem, ⟨9, _⟩ => ⟨S1x1024, .f32⟩
  | .local _ .vmem, ⟨10, _⟩ => ⟨S1x128, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S16x1024, .f32⟩
  | .local _ .vmem, ⟨15, _⟩ => ⟨S4x128x256, .f32⟩
  | .local _ .vmem, ⟨16, _⟩ => ⟨S4x1x128, .f32⟩
  | .local _ .vmem, ⟨17, _⟩ => ⟨S4x1x128, .f32⟩
  | _, _ => ⟨S32768x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c24_i32 : BitVec 32 := 24#32
  let c0_i32 : BitVec 32 := 0#32
  ![v1.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x3200 : Shape := ⟨2, ![32768, 3200]⟩
abbrev S4x1024 : Shape := ⟨2, ![4, 1024]⟩
abbrev S1024 : Shape := ⟨1, ![1024]⟩
abbrev S2x4 : Shape := ⟨2, ![2, 4]⟩
abbrev S4x8192x3200 : Shape := ⟨3, ![4, 8192, 3200]⟩
abbrev S4x8192x1024 : Shape := ⟨3, ![4, 8192, 1024]⟩
abbrev S4x8192x4 : Shape := ⟨3, ![4, 8192, 4]⟩
abbrev S_ : Shape := ⟨0, ![]⟩
abbrev S4x8195x1024 : Shape := ⟨3, ![4, 8195, 1024]⟩
abbrev S1x1024 : Shape := ⟨2, ![1, 1024]⟩
abbrev S1x1x1024 : Shape := ⟨3, ![1, 1, 1024]⟩
abbrev S4x8192x512 : Shape := ⟨3, ![4, 8192, 512]⟩
abbrev S1x4 : Shape := ⟨2, ![1, 4]⟩
abbrev S4 : Shape := ⟨1, ![4]⟩
abbrev S1x1x4 : Shape := ⟨3, ![1, 1, 4]⟩
abbrev S4x4x8192 : Shape := ⟨3, ![4, 4, 8192]⟩
abbrev S4x8192x4x128 : Shape := ⟨4, ![4, 8192, 4, 128]⟩
abbrev S4x4x8192x128 : Shape := ⟨4, ![4, 4, 8192, 128]⟩
abbrev S4x8192x4x256 : Shape := ⟨4, ![4, 8192, 4, 256]⟩
abbrev S4x4x8192x256 : Shape := ⟨4, ![4, 4, 8192, 256]⟩
abbrev S4x4x128x64x128 : Shape := ⟨5, ![4, 4, 128, 64, 128]⟩
abbrev S4x4x128x64x256 : Shape := ⟨5, ![4, 4, 128, 64, 256]⟩
abbrev S4x4x128x64 : Shape := ⟨4, ![4, 4, 128, 64]⟩
abbrev S64x64 : Shape := ⟨2, ![64, 64]⟩
abbrev S128x4x4x64x128 : Shape := ⟨5, ![128, 4, 4, 64, 128]⟩
abbrev S128x4x4x64x256 : Shape := ⟨5, ![128, 4, 4, 64, 256]⟩
abbrev S128x4x4x64 : Shape := ⟨4, ![128, 4, 4, 64]⟩
abbrev S4x4x128x256 : Shape := ⟨4, ![4, 4, 128, 256]⟩
abbrev S4x4x128 : Shape := ⟨3, ![4, 4, 128]⟩
abbrev S4x4 : Shape := ⟨2, ![4, 4]⟩
abbrev S1x4x4x64x128 : Shape := ⟨5, ![1, 4, 4, 64, 128]⟩
abbrev S4x4x64x128 : Shape := ⟨4, ![4, 4, 64, 128]⟩
abbrev S1x4x4x64x256 : Shape := ⟨5, ![1, 4, 4, 64, 256]⟩
abbrev S4x4x64x256 : Shape := ⟨4, ![4, 4, 64, 256]⟩
abbrev S1x4x4x64 : Shape := ⟨4, ![1, 4, 4, 64]⟩
abbrev S4x4x64 : Shape := ⟨3, ![4, 4, 64]⟩
abbrev S4x4x64x1 : Shape := ⟨4, ![4, 4, 64, 1]⟩
abbrev S4x4x1x64 : Shape := ⟨4, ![4, 4, 1, 64]⟩
abbrev S4x4x64x64 : Shape := ⟨4, ![4, 4, 64, 64]⟩
abbrev S4x4x1 : Shape := ⟨3, ![4, 4, 1]⟩
abbrev S4x4x1x1 : Shape := ⟨4, ![4, 4, 1, 1]⟩
abbrev S4x4x8192x1 : Shape := ⟨4, ![4, 4, 8192, 1]⟩
abbrev S4x256 : Shape := ⟨2, ![4, 256]⟩
abbrev S1x4x1x256 : Shape := ⟨4, ![1, 4, 1, 256]⟩
abbrev S32768x1024 : Shape := ⟨2, ![32768, 1024]⟩

abbrev nBuf : Space → Nat
  | .hbm => 283
  | .vmem => 0
  | .smem => 0
  | _ => 0

abbrev hbmTy0_0 (i : Nat) : BufTy := match i % 128 with
  | 0 => ⟨S32768x3200, .f32⟩
  | 1 => ⟨S4x1024, .f32⟩
  | 2 => ⟨S1024, .f32⟩
  | 3 => ⟨S2x4, .f32⟩
  | 4 => ⟨S1024, .f32⟩
  | 5 => ⟨S4x8192x3200, .f32⟩
  | 6 => ⟨S4x8192x1024, .f32⟩
  | 7 => ⟨S4x8192x1024, .f32⟩
  | 8 => ⟨S4x8192x4, .f32⟩
  | 9 => ⟨S4x8192x4, .f32⟩
  | 10 => ⟨S_, .i32⟩
  | 11 => ⟨S_, .f32⟩
  | 12 => ⟨S4x8195x1024, .f32⟩
  | 13 => ⟨S4x8192x1024, .f32⟩
  | 14 => ⟨S1x1024, .f32⟩
  | 15 => ⟨S1024, .f32⟩
  | 16 => ⟨S1x1x1024, .f32⟩
  | 17 => ⟨S4x8192x1024, .f32⟩
  | 18 => ⟨S4x8192x1024, .f32⟩
  | 19 => ⟨S4x8192x1024, .f32⟩
  | 20 => ⟨S1x1024, .f32⟩
  | 21 => ⟨S1024, .f32⟩
  | 22 => ⟨S1x1x1024, .f32⟩
  | 23 => ⟨S4x8192x1024, .f32⟩
  | 24 => ⟨S4x8192x1024, .f32⟩
  | 25 => ⟨S4x8192x1024, .f32⟩
  | 26 => ⟨S4x8192x1024, .f32⟩
  | 27 => ⟨S1x1024, .f32⟩
  | 28 => ⟨S1024, .f32⟩
  | 29 => ⟨S1x1x1024, .f32⟩
  | 30 => ⟨S4x8192x1024, .f32⟩
  | 31 => ⟨S4x8192x1024, .f32⟩
  | 32 => ⟨S4x8192x1024, .f32⟩
  | 33 => ⟨S4x8192x1024, .f32⟩
  | 34 => ⟨S1x1024, .f32⟩
  | 35 => ⟨S1024, .f32⟩
  | 36 => ⟨S1x1x1024, .f32⟩
  | 37 => ⟨S4x8192x1024, .f32⟩
  | 38 => ⟨S4x8192x1024, .f32⟩
  | 39 => ⟨S4x8192x1024, .f32⟩
  | 40 => ⟨S1x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S_, .f32⟩
  | 46 => ⟨S4x8192x1024, .f32⟩
  | 47 => ⟨S4x8192x1024, .f32⟩
  | 48 => ⟨S_, .f32⟩
  | 49 => ⟨S4x8192x1024, .f32⟩
  | 50 => ⟨S4x8192x1024, .f32⟩
  | 51 => ⟨S4x8192x1024, .f32⟩
  | 52 => ⟨S4x8192x512, .f32⟩
  | 53 => ⟨S4x8192x512, .f32⟩
  | 54 => ⟨S1x4, .f32⟩
  | 55 => ⟨S4, .f32⟩
  | 56 => ⟨S1x1x4, .f32⟩
  | 57 => ⟨S4x8192x4, .f32⟩
  | 58 => ⟨S4x8192x4, .f32⟩
  | 59 => ⟨S4x4x8192, .f32⟩
  | 60 => ⟨S1x4, .f32⟩
  | 61 => ⟨S4, .f32⟩
  | 62 => ⟨S1x1x4, .f32⟩
  | 63 => ⟨S4x8192x4, .f32⟩
  | 64 => ⟨S4x8192x4, .f32⟩
  | 65 => ⟨S4x4x8192, .f32⟩
  | 66 => ⟨S4x8192x4x128, .f32⟩
  | 67 => ⟨S4x4x8192x128, .f32⟩
  | 68 => ⟨S4x8192x4x128, .f32⟩
  | 69 => ⟨S4x4x8192x128, .f32⟩
  | 70 => ⟨S_, .f32⟩
  | 71 => ⟨S4x4x8192x128, .f32⟩
  | 72 => ⟨S4x4x8192x128, .f32⟩
  | 73 => ⟨S4x8192x4x256, .f32⟩
  | 74 => ⟨S4x4x8192x256, .f32⟩
  | 75 => ⟨S4x4x128x64x128, .f32⟩
  | 76 => ⟨S4x4x128x64x128, .f32⟩
  | 77 => ⟨S4x4x128x64x256, .f32⟩
  | 78 => ⟨S4x4x128x64, .f32⟩
  | 79 => ⟨S4x4x8192, .f32⟩
  | 80 => ⟨S_, .f32⟩
  | 81 => ⟨S4x4x8192, .f32⟩
  | 82 => ⟨S4x4x8192, .f32⟩
  | 83 => ⟨S4x4x8192, .f32⟩
  | 84 => ⟨S4x4x8192, .f32⟩
  | 85 => ⟨S4x4x8192, .i1⟩
  | 86 => ⟨S4x4x8192, .f32⟩
  | 87 => ⟨S4x4x8192, .f32⟩
  | 88 => ⟨S4x4x8192, .f32⟩
  | 89 => ⟨S4x4x8192, .f32⟩
  | 90 => ⟨S4x4x8192, .f32⟩
  | 91 => ⟨S4x4x8192, .f32⟩
  | 92 => ⟨S4x4x8192, .f32⟩
  | 93 => ⟨S4x4x8192, .f32⟩
  | 94 => ⟨S4x4x8192, .f32⟩
  | 95 => ⟨S4x4x128x64, .f32⟩
  | 96 => ⟨S_, .f32⟩
  | 97 => ⟨S_, .f32⟩
  | 98 => ⟨S4x4x128x64, .f32⟩
  | 99 => ⟨S_, .i1⟩
  | 100 => ⟨S64x64, .i1⟩
  | 101 => ⟨S64x64, .i32⟩
  | 102 => ⟨S_, .i32⟩
  | 103 => ⟨S64x64, .i32⟩
  | 104 => ⟨S64x64, .i32⟩
  | 105 => ⟨S64x64, .i32⟩
  | 106 => ⟨S64x64, .i1⟩
  | 107 => ⟨S_, .i1⟩
  | 108 => ⟨S64x64, .i1⟩
  | 109 => ⟨S64x64, .i1⟩
  | 110 => ⟨S128x4x4x64x128, .f32⟩
  | 111 => ⟨S128x4x4x64x128, .f32⟩
  | 112 => ⟨S128x4x4x64x256, .f32⟩
  | 113 => ⟨S128x4x4x64, .f32⟩
  | 114 => ⟨S128x4x4x64, .f32⟩
  | 115 => ⟨S_, .f32⟩
  | 116 => ⟨S4x4x128x256, .f32⟩
  | 117 => ⟨S_, .f32⟩
  | 118 => ⟨S4x4x128, .f32⟩
  | 119 => ⟨S_, .f32⟩
  | 120 => ⟨S4x4, .f32⟩
  | 121 => ⟨S_, .f32⟩
  | 122 => ⟨S128x4x4x64x256, .f32⟩
  | 123 => ⟨S_, .i32⟩
  | 124 => ⟨S128x4x4x64x128, .f32⟩
  | 125 => ⟨S128x4x4x64x128, .f32⟩
  | 126 => ⟨S128x4x4x64x256, .f32⟩
  | 127 => ⟨S128x4x4x64, .f32⟩
  | _ => ⟨S32768x3200, .f32⟩

abbrev hbmTy0_1 (i : Nat) : BufTy := match i % 128 with
  | 0 => ⟨S128x4x4x64, .f32⟩
  | 1 => ⟨S64x64, .i1⟩
  | 2 => ⟨S_, .i32⟩
  | 3 => ⟨S4x4x128x256, .f32⟩
  | 4 => ⟨S4x4x128, .f32⟩
  | 5 => ⟨S4x4, .f32⟩
  | 6 => ⟨S128x4x4x64x256, .f32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S1x4x4x64x128, .f32⟩
  | 14 => ⟨S4x4x64x128, .f32⟩
  | 15 => ⟨S_, .i32⟩
  | 16 => ⟨S_, .i32⟩
  | 17 => ⟨S_, .i32⟩
  | 18 => ⟨S_, .i32⟩
  | 19 => ⟨S1x4x4x64x128, .f32⟩
  | 20 => ⟨S4x4x64x128, .f32⟩
  | 21 => ⟨S_, .i32⟩
  | 22 => ⟨S_, .i32⟩
  | 23 => ⟨S_, .i32⟩
  | 24 => ⟨S_, .i32⟩
  | 25 => ⟨S1x4x4x64x256, .f32⟩
  | 26 => ⟨S4x4x64x256, .f32⟩
  | 27 => ⟨S_, .i32⟩
  | 28 => ⟨S_, .i32⟩
  | 29 => ⟨S_, .i32⟩
  | 30 => ⟨S1x4x4x64, .f32⟩
  | 31 => ⟨S4x4x64, .f32⟩
  | 32 => ⟨S_, .i32⟩
  | 33 => ⟨S_, .i32⟩
  | 34 => ⟨S_, .i32⟩
  | 35 => ⟨S1x4x4x64, .f32⟩
  | 36 => ⟨S4x4x64, .f32⟩
  | 37 => ⟨S4x4x64x256, .f32⟩
  | 38 => ⟨S4x4x64, .f32⟩
  | 39 => ⟨S4x4x64x1, .f32⟩
  | 40 => ⟨S4x4x1x64, .f32⟩
  | 41 => ⟨S4x4x64x64, .f32⟩
  | 42 => ⟨S4x4x64x64, .f32⟩
  | 43 => ⟨S4x4x64x64, .f32⟩
  | 44 => ⟨S4x4x1x64, .f32⟩
  | 45 => ⟨S4x4x64x64, .f32⟩
  | 46 => ⟨S4x4x64x64, .f32⟩
  | 47 => ⟨S_, .f32⟩
  | 48 => ⟨S_, .f32⟩
  | 49 => ⟨S4x4x64x64, .i1⟩
  | 50 => ⟨S4x4x64x64, .f32⟩
  | 51 => ⟨S4x4x64x64, .f32⟩
  | 52 => ⟨S4x4x1, .f32⟩
  | 53 => ⟨S4x4x64, .f32⟩
  | 54 => ⟨S4x4x64, .f32⟩
  | 55 => ⟨S_, .f32⟩
  | 56 => ⟨S4x4x64, .f32⟩
  | 57 => ⟨S4x4x64, .f32⟩
  | 58 => ⟨S4x4x64x64, .f32⟩
  | 59 => ⟨S4x4x64x1, .f32⟩
  | 60 => ⟨S4x4x64x64, .f32⟩
  | 61 => ⟨S4x4x64x64, .f32⟩
  | 62 => ⟨S4x4x64x64, .f32⟩
  | 63 => ⟨S4x4x64x64, .f32⟩
  | 64 => ⟨S4x4x64, .f32⟩
  | 65 => ⟨S4x4x64, .f32⟩
  | 66 => ⟨S4x4x64x1, .f32⟩
  | 67 => ⟨S4x4x64x256, .f32⟩
  | 68 => ⟨S4x4x64x256, .f32⟩
  | 69 => ⟨S4x4x64x256, .f32⟩
  | 70 => ⟨S4x4x64x256, .f32⟩
  | 71 => ⟨S4x4x64, .f32⟩
  | 72 => ⟨S_, .f32⟩
  | 73 => ⟨S4x4x64, .f32⟩
  | 74 => ⟨S4x4x64, .f32⟩
  | 75 => ⟨S4x4x64, .f32⟩
  | 76 => ⟨S4x4x64, .f32⟩
  | 77 => ⟨S4x4x64, .f32⟩
  | 78 => ⟨S4x4x64, .f32⟩
  | 79 => ⟨S4x4x64x1, .f32⟩
  | 80 => ⟨S4x4x64x256, .f32⟩
  | 81 => ⟨S4x4x64x256, .f32⟩
  | 82 => ⟨S4x4x1, .f32⟩
  | 83 => ⟨S4x4, .f32⟩
  | 84 => ⟨S4x4x1, .f32⟩
  | 85 => ⟨S4x4x64, .f32⟩
  | 86 => ⟨S4x4x64, .f32⟩
  | 87 => ⟨S4x4x64, .f32⟩
  | 88 => ⟨S4x4, .f32⟩
  | 89 => ⟨S_, .f32⟩
  | 90 => ⟨S4x4, .f32⟩
  | 91 => ⟨S4x4, .f32⟩
  | 92 => ⟨S4x4x1, .f32⟩
  | 93 => ⟨S4x4x64, .f32⟩
  | 94 => ⟨S4x4x64, .f32⟩
  | 95 => ⟨S4x4x64, .f32⟩
  | 96 => ⟨S4x4, .f32⟩
  | 97 => ⟨S4x4, .f32⟩
  | 98 => ⟨S4x4, .f32⟩
  | 99 => ⟨S4x4x64x1, .f32⟩
  | 100 => ⟨S4x4x64x128, .f32⟩
  | 101 => ⟨S4x4x64x128, .f32⟩
  | 102 => ⟨S4x4x1x1, .f32⟩
  | 103 => ⟨S4x4x128x256, .f32⟩
  | 104 => ⟨S4x4x128x256, .f32⟩
  | 105 => ⟨S4x4x128x256, .f32⟩
  | 106 => ⟨S4x4x128x256, .f32⟩
  | 107 => ⟨S4x4x1, .f32⟩
  | 108 => ⟨S4x4x128, .f32⟩
  | 109 => ⟨S4x4x128, .f32⟩
  | 110 => ⟨S_, .f32⟩
  | 111 => ⟨S4x4x128, .f32⟩
  | 112 => ⟨S4x4x128, .f32⟩
  | 113 => ⟨S1x4x4x64x256, .f32⟩
  | 114 => ⟨S_, .i32⟩
  | 115 => ⟨S_, .i32⟩
  | 116 => ⟨S_, .i32⟩
  | 117 => ⟨S_, .i32⟩
  | 118 => ⟨S128x4x4x64x256, .f32⟩
  | 119 => ⟨S_, .i32⟩
  | 120 => ⟨S_, .i32⟩
  | 121 => ⟨S4x4x128x64x256, .f32⟩
  | 122 => ⟨S4x4x8192x256, .f32⟩
  | 123 => ⟨S4x8192x3200, .f32⟩
  | 124 => ⟨S4x8192x1024, .f32⟩
  | 125 => ⟨S4x4x8192x256, .f32⟩
  | 126 => ⟨S_, .f32⟩
  | 127 => ⟨S4x4x8192, .f32⟩
  | _ => ⟨S32768x3200, .f32⟩

abbrev hbmTy0_2 (i : Nat) : BufTy := match i % 128 with
  | 0 => ⟨S4x4x8192x1, .f32⟩
  | 1 => ⟨S_, .f32⟩
  | 2 => ⟨S4x4x8192x1, .f32⟩
  | 3 => ⟨S4x4x8192x1, .f32⟩
  | 4 => ⟨S_, .f32⟩
  | 5 => ⟨S4x4x8192x1, .f32⟩
  | 6 => ⟨S4x4x8192x1, .f32⟩
  | 7 => ⟨S4x4x8192x1, .f32⟩
  | 8 => ⟨S4x4x8192x256, .f32⟩
  | 9 => ⟨S4x4x8192x256, .f32⟩
  | 10 => ⟨S4x256, .f32⟩
  | 11 => ⟨S1x4x1x256, .f32⟩
  | 12 => ⟨S4x4x8192x256, .f32⟩
  | 13 => ⟨S4x4x8192x256, .f32⟩
  | 14 => ⟨S4x8192x4x256, .f32⟩
  | 15 => ⟨S4x8192x1024, .f32⟩
  | 16 => ⟨S4x8192x1024, .f32⟩
  | 17 => ⟨S4x8192x1024, .f32⟩
  | 18 => ⟨S_, .f32⟩
  | 19 => ⟨S4x8192x1024, .f32⟩
  | 20 => ⟨S4x8192x1024, .f32⟩
  | 21 => ⟨S_, .f32⟩
  | 22 => ⟨S4x8192x1024, .f32⟩
  | 23 => ⟨S4x8192x1024, .f32⟩
  | 24 => ⟨S4x8192x1024, .f32⟩
  | 25 => ⟨S32768x1024, .f32⟩
  | 26 => ⟨S32768x1024, .bf16⟩
  | _ => ⟨S32768x3200, .f32⟩

abbrev hbmTy (i : Nat) : BufTy := match i / 128 with
  | 0 => hbmTy0_0 i
  | 1 => hbmTy0_1 i
  | 2 => hbmTy0_2 i
  | _ => ⟨S32768x3200, .f32⟩

abbrev bufTy : (tb : Table) → Fin (tcTables nBuf tb) → BufTy
  | .hbm, ⟨i, _⟩ => hbmTy i
  | _, _ => ⟨S32768x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call2_cst : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_v6 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call3_call0_cst : Ref sig .tc := ⟨.hbm, 96, rfl⟩
abbrev main_call3_call0_v0 : Ref sig .tc := ⟨.hbm, 97, rfl⟩
abbrev main_v67 : Ref sig .tc := ⟨.hbm, 98, rfl⟩
abbrev main_c_0 : Ref sig .tc := ⟨.hbm, 99, rfl⟩
abbrev main_v68 : Ref sig .tc := ⟨.hbm, 100, rfl⟩
abbrev main_call4_v0 : Ref sig .tc := ⟨.hbm, 101, rfl⟩
abbrev main_call4_c : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_call4_c_0 : Ref sig .tc := ⟨.hbm, 107, rfl⟩
abbrev main_call4_v5 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_1 : Ref sig .tc := ⟨.hbm, 115, rfl⟩
abbrev main_v75 : Ref sig .tc := ⟨.hbm, 116, rfl⟩
abbrev main_cst_2 : Ref sig .tc := ⟨.hbm, 117, rfl⟩
abbrev main_v76 : Ref sig .tc := ⟨.hbm, 118, rfl⟩
abbrev main_cst_3 : Ref sig .tc := ⟨.hbm, 119, rfl⟩
abbrev main_v77 : Ref sig .tc := ⟨.hbm, 120, rfl⟩
abbrev main_cst_4 : Ref sig .tc := ⟨.hbm, 121, rfl⟩
abbrev main_v78 : Ref sig .tc := ⟨.hbm, 122, rfl⟩
abbrev main_c_5 : Ref sig .tc := ⟨.hbm, 123, rfl⟩
abbrev main_v79_0 : Ref sig .tc := ⟨.hbm, 124, rfl⟩
abbrev main_v79_1 : Ref sig .tc := ⟨.hbm, 125, rfl⟩
abbrev main_v79_2 : Ref sig .tc := ⟨.hbm, 126, rfl⟩
abbrev main_v79_3 : Ref sig .tc := ⟨.hbm, 127, rfl⟩
abbrev main_v79_4 : Ref sig .tc := ⟨.hbm, 128, rfl⟩
abbrev main_v79_5 : Ref sig .tc := ⟨.hbm, 129, rfl⟩
abbrev main_v79_6 : Ref sig .tc := ⟨.hbm, 130, rfl⟩
abbrev main_v79_7 : Ref sig .tc := ⟨.hbm, 131, rfl⟩
abbrev main_v79_8 : Ref sig .tc := ⟨.hbm, 132, rfl⟩
abbrev main_v79_9 : Ref sig .tc := ⟨.hbm, 133, rfl⟩
abbrev main_v79_10 : Ref sig .tc := ⟨.hbm, 134, rfl⟩
abbrev main_while0c_c_21 : Ref sig .tc := ⟨.hbm, 135, rfl⟩
abbrev main_while0c_v109 : Ref sig .tc := ⟨.hbm, 136, rfl⟩
abbrev main_while0b_call5_c : Ref sig .tc := ⟨.hbm, 137, rfl⟩
abbrev main_while0b_call5_c_0 : Ref sig .tc := ⟨.hbm, 138, rfl⟩
abbrev main_while0b_call5_c_1 : Ref sig .tc := ⟨.hbm, 139, rfl⟩
abbrev main_while0b_call5_c_2 : Ref sig .tc := ⟨.hbm, 140, rfl⟩
abbrev main_while0b_call5_v0 : Ref sig .tc := ⟨.hbm, 141, rfl⟩
abbrev main_while0b_v109 : Ref sig .tc := ⟨.hbm, 142, rfl⟩
abbrev main_while0b_call6_c : Ref sig .tc := ⟨.hbm, 143, rfl⟩
abbrev main_while0b_call6_c_0 : Ref sig .tc := ⟨.hbm, 144, rfl⟩
abbrev main_while0b_call6_c_1 : Ref sig .tc := ⟨.hbm, 145, rfl⟩
abbrev main_while0b_call6_c_2 : Ref sig .tc := ⟨.hbm, 146, rfl⟩
abbrev main_while0b_call6_v0 : Ref sig .tc := ⟨.hbm, 147, rfl⟩
abbrev main_while0b_v110 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_c_2 : Ref sig .tc := ⟨.hbm, 152, rfl⟩
abbrev main_while0b_call7_v0 : Ref sig .tc := ⟨.hbm, 153, rfl⟩
abbrev main_while0b_v111 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_call8_c_1 : Ref sig .tc := ⟨.hbm, 157, rfl⟩
abbrev main_while0b_call8_v0 : Ref sig .tc := ⟨.hbm, 158, rfl⟩
abbrev main_while0b_v112 : Ref sig .tc := ⟨.hbm, 159, rfl⟩
abbrev main_while0b_call9_c : Ref sig .tc := ⟨.hbm, 160, rfl⟩
abbrev main_while0b_call9_c_0 : Ref sig .tc := ⟨.hbm, 161, rfl⟩
abbrev main_while0b_call9_c_1 : Ref sig .tc := ⟨.hbm, 162, rfl⟩
abbrev main_while0b_call9_v0 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_cst_21 : Ref sig .tc := ⟨.hbm, 175, rfl⟩
abbrev main_while0b_call10_v0 : Ref sig .tc := ⟨.hbm, 176, rfl⟩
abbrev main_while0b_call10_v1 : Ref sig .tc := ⟨.hbm, 177, rfl⟩
abbrev main_while0b_call10_v2 : Ref sig .tc := ⟨.hbm, 178, rfl⟩
abbrev main_while0b_v124 : Ref sig .tc := ⟨.hbm, 179, rfl⟩
abbrev main_while0b_v125 : Ref sig .tc := ⟨.hbm, 180, rfl⟩
abbrev main_while0b_v126 : Ref sig .tc := ⟨.hbm, 181, rfl⟩
abbrev main_while0b_v127 : Ref sig .tc := ⟨.hbm, 182, rfl⟩
abbrev main_while0b_cst_22 : Ref sig .tc := ⟨.hbm, 183, rfl⟩
abbrev main_while0b_v128 : Ref sig .tc := ⟨.hbm, 184, rfl⟩
abbrev main_while0b_v129 : Ref sig .tc := ⟨.hbm, 185, rfl⟩
abbrev main_while0b_v130 : Ref sig .tc := ⟨.hbm, 186, rfl⟩
abbrev main_while0b_v131 : Ref sig .tc := ⟨.hbm, 187, rfl⟩
abbrev main_while0b_v132 : Ref sig .tc := ⟨.hbm, 188, rfl⟩
abbrev main_while0b_v133 : Ref sig .tc := ⟨.hbm, 189, rfl⟩
abbrev main_while0b_v134 : Ref sig .tc := ⟨.hbm, 190, rfl⟩
abbrev main_while0b_v135 : Ref sig .tc := ⟨.hbm, 191, rfl⟩
abbrev main_while0b_v136 : Ref sig .tc := ⟨.hbm, 192, rfl⟩
abbrev main_while0b_v137 : Ref sig .tc := ⟨.hbm, 193, rfl⟩
abbrev main_while0b_v138 : Ref sig .tc := ⟨.hbm, 194, rfl⟩
abbrev main_while0b_v139 : Ref sig .tc := ⟨.hbm, 195, rfl⟩
abbrev main_while0b_v140 : Ref sig .tc := ⟨.hbm, 196, rfl⟩
abbrev main_while0b_v141 : Ref sig .tc := ⟨.hbm, 197, rfl⟩
abbrev main_while0b_v142 : Ref sig .tc := ⟨.hbm, 198, rfl⟩
abbrev main_while0b_v143 : Ref sig .tc := ⟨.hbm, 199, rfl⟩
abbrev main_while0b_cst_23 : Ref sig .tc := ⟨.hbm, 200, rfl⟩
abbrev main_while0b_v144 : Ref sig .tc := ⟨.hbm, 201, rfl⟩
abbrev main_while0b_v145 : Ref sig .tc := ⟨.hbm, 202, rfl⟩
abbrev main_while0b_v146 : Ref sig .tc := ⟨.hbm, 203, rfl⟩
abbrev main_while0b_v147 : Ref sig .tc := ⟨.hbm, 204, rfl⟩
abbrev main_while0b_v148 : Ref sig .tc := ⟨.hbm, 205, rfl⟩
abbrev main_while0b_v149 : Ref sig .tc := ⟨.hbm, 206, rfl⟩
abbrev main_while0b_v150 : Ref sig .tc := ⟨.hbm, 207, rfl⟩
abbrev main_while0b_v151 : Ref sig .tc := ⟨.hbm, 208, rfl⟩
abbrev main_while0b_v152 : Ref sig .tc := ⟨.hbm, 209, rfl⟩
abbrev main_while0b_v153 : Ref sig .tc := ⟨.hbm, 210, rfl⟩
abbrev main_while0b_v154 : Ref sig .tc := ⟨.hbm, 211, rfl⟩
abbrev main_while0b_v155 : Ref sig .tc := ⟨.hbm, 212, rfl⟩
abbrev main_while0b_v156 : Ref sig .tc := ⟨.hbm, 213, rfl⟩
abbrev main_while0b_v157 : Ref sig .tc := ⟨.hbm, 214, rfl⟩
abbrev main_while0b_v158 : Ref sig .tc := ⟨.hbm, 215, rfl⟩
abbrev main_while0b_v159 : Ref sig .tc := ⟨.hbm, 216, rfl⟩
abbrev main_while0b_cst_24 : Ref sig .tc := ⟨.hbm, 217, rfl⟩
abbrev main_while0b_v160 : Ref sig .tc := ⟨.hbm, 218, rfl⟩
abbrev main_while0b_v161 : Ref sig .tc := ⟨.hbm, 219, rfl⟩
abbrev main_while0b_v162 : Ref sig .tc := ⟨.hbm, 220, rfl⟩
abbrev main_while0b_v163 : Ref sig .tc := ⟨.hbm, 221, rfl⟩
abbrev main_while0b_v164 : Ref sig .tc := ⟨.hbm, 222, rfl⟩
abbrev main_while0b_v165 : Ref sig .tc := ⟨.hbm, 223, rfl⟩
abbrev main_while0b_v166 : Ref sig .tc := ⟨.hbm, 224, rfl⟩
abbrev main_while0b_v167 : Ref sig .tc := ⟨.hbm, 225, rfl⟩
abbrev main_while0b_v168 : Ref sig .tc := ⟨.hbm, 226, rfl⟩
abbrev main_while0b_v169 : Ref sig .tc := ⟨.hbm, 227, rfl⟩
abbrev main_while0b_v170 : Ref sig .tc := ⟨.hbm, 228, rfl⟩
abbrev main_while0b_v171 : Ref sig .tc := ⟨.hbm, 229, rfl⟩
abbrev main_while0b_v172 : Ref sig .tc := ⟨.hbm, 230, rfl⟩
abbrev main_while0b_v173 : Ref sig .tc := ⟨.hbm, 231, rfl⟩
abbrev main_while0b_v174 : Ref sig .tc := ⟨.hbm, 232, rfl⟩
abbrev main_while0b_v175 : Ref sig .tc := ⟨.hbm, 233, rfl⟩
abbrev main_while0b_v176 : Ref sig .tc := ⟨.hbm, 234, rfl⟩
abbrev main_while0b_v177 : Ref sig .tc := ⟨.hbm, 235, rfl⟩
abbrev main_while0b_v178 : Ref sig .tc := ⟨.hbm, 236, rfl⟩
abbrev main_while0b_v179 : Ref sig .tc := ⟨.hbm, 237, rfl⟩
abbrev main_while0b_cst_25 : Ref sig .tc := ⟨.hbm, 238, rfl⟩
abbrev main_while0b_v180 : Ref sig .tc := ⟨.hbm, 239, rfl⟩
abbrev main_while0b_v181 : Ref sig .tc := ⟨.hbm, 240, rfl⟩
abbrev main_while0b_call11_v0 : Ref sig .tc := ⟨.hbm, 241, rfl⟩
abbrev main_while0b_call11_c : Ref sig .tc := ⟨.hbm, 242, rfl⟩
abbrev main_while0b_call11_c_0 : Ref sig .tc := ⟨.hbm, 243, rfl⟩
abbrev main_while0b_call11_c_1 : Ref sig .tc := ⟨.hbm, 244, rfl⟩
abbrev main_while0b_call11_c_2 : Ref sig .tc := ⟨.hbm, 245, rfl⟩
abbrev main_while0b_v182 : Ref sig .tc := ⟨.hbm, 246, rfl⟩
abbrev main_while0b_c_26 : Ref sig .tc := ⟨.hbm, 247, rfl⟩
abbrev main_while0b_v183 : Ref sig .tc := ⟨.hbm, 248, rfl⟩
abbrev main_v80 : Ref sig .tc := ⟨.hbm, 249, rfl⟩
abbrev main_v81 : Ref sig .tc := ⟨.hbm, 250, rfl⟩
abbrev main_v82 : Ref sig .tc := ⟨.hbm, 251, rfl⟩
abbrev main_v83 : Ref sig .tc := ⟨.hbm, 252, rfl⟩
abbrev main_v84 : Ref sig .tc := ⟨.hbm, 253, rfl⟩
abbrev main_cst_6 : Ref sig .tc := ⟨.hbm, 254, rfl⟩
abbrev main_v85 : Ref sig .tc := ⟨.hbm, 255, rfl⟩
abbrev main_v86 : Ref sig .tc := ⟨.hbm, 256, rfl⟩
abbrev main_cst_7 : Ref sig .tc := ⟨.hbm, 257, rfl⟩
abbrev main_v87 : Ref sig .tc := ⟨.hbm, 258, rfl⟩
abbrev main_v88 : Ref sig .tc := ⟨.hbm, 259, rfl⟩
abbrev main_cst_8 : Ref sig .tc := ⟨.hbm, 260, rfl⟩
abbrev main_v89 : Ref sig .tc := ⟨.hbm, 261, rfl⟩
abbrev main_v90 : Ref sig .tc := ⟨.hbm, 262, rfl⟩
abbrev main_v91 : Ref sig .tc := ⟨.hbm, 263, rfl⟩
abbrev main_v92 : Ref sig .tc := ⟨.hbm, 264, rfl⟩
abbrev main_v93 : Ref sig .tc := ⟨.hbm, 265, rfl⟩
abbrev main_v94 : Ref sig .tc := ⟨.hbm, 266, rfl⟩
abbrev main_v95 : Ref sig .tc := ⟨.hbm, 267, rfl⟩
abbrev main_v96 : Ref sig .tc := ⟨.hbm, 268, rfl⟩
abbrev main_v97 : Ref sig .tc := ⟨.hbm, 269, rfl⟩
abbrev main_v98 : Ref sig .tc := ⟨.hbm, 270, rfl⟩
abbrev main_v99 : Ref sig .tc := ⟨.hbm, 271, rfl⟩
abbrev main_v100 : Ref sig .tc := ⟨.hbm, 272, rfl⟩
abbrev main_v101 : Ref sig .tc := ⟨.hbm, 273, rfl⟩
abbrev main_cst_9 : Ref sig .tc := ⟨.hbm, 274, rfl⟩
abbrev main_v102 : Ref sig .tc := ⟨.hbm, 275, rfl⟩
abbrev main_v103 : Ref sig .tc := ⟨.hbm, 276, rfl⟩
abbrev main_cst_10 : Ref sig .tc := ⟨.hbm, 277, rfl⟩
abbrev main_v104 : Ref sig .tc := ⟨.hbm, 278, rfl⟩
abbrev main_v105 : Ref sig .tc := ⟨.hbm, 279, rfl⟩
abbrev main_v106 : Ref sig .tc := ⟨.hbm, 280, rfl⟩
abbrev main_v107 : Ref sig .tc := ⟨.hbm, 281, rfl⟩
abbrev main_v108 : Ref sig .tc := ⟨.hbm, 282, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x2048 : Shape := ⟨2, ![32768, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S8192x2048, .f32⟩
  | .hbm, ⟨3, _⟩ => ⟨S2048x8192, .bf16⟩
  | .hbm, ⟨4, _⟩ => ⟨S8192x2048, .bf16⟩
  | .hbm, ⟨5, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1024x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S32768x2048 : Shape := ⟨2, ![32768, 2048]⟩
abbrev S2048x8192 : Shape := ⟨2, ![2048, 8192]⟩
abbrev S8192x2048 : Shape := ⟨2, ![8192, 2048]⟩
abbrev S32768x8192 : Shape := ⟨2, ![32768, 8192]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x8192, .f32⟩
  | .hbm, ⟨2, _⟩ => ⟨S8192x2048, .f32⟩
  | .hbm, ⟨3, _⟩ => ⟨S32768x2048, .f32⟩
  | .hbm, ⟨4, _⟩ => ⟨S32768x8192, .f32⟩
  | .hbm, ⟨5, _⟩ => ⟨S_, .f32⟩
  | .hbm, ⟨6, _⟩ => ⟨S32768x8192, .f32⟩
  | .hbm, ⟨7, _⟩ => ⟨S32768x8192, .f32⟩
  | .hbm, ⟨8, _⟩ => ⟨S32768x8192, .f32⟩
  | .hbm, ⟨9, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel3.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S1x2048, .f32⟩
  | .hbm, ⟨8, _⟩ => ⟨S2048x2048, .bf16⟩
  | .hbm, ⟨9, _⟩ => ⟨S256x2048, .bf16⟩
  | .hbm, ⟨10, _⟩ => ⟨S1x2048, .f32⟩
  | .hbm, ⟨11, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S32768x2048 : Shape := ⟨2, ![32768, 2048]⟩
abbrev S32768x256 : Shape := ⟨2, ![32768, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S32768x256, .f32⟩
  | .hbm, ⟨3, _⟩ => ⟨S2048, .f32⟩
  | .hbm, ⟨4, _⟩ => ⟨S2048x2048, .f32⟩
  | .hbm, ⟨5, _⟩ => ⟨S256x2048, .f32⟩
  | .hbm, ⟨6, _⟩ => ⟨S2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S1x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel4.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S32768x2048, .f32⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S32768x2048 : Shape := ⟨2, ![32768, 2048]⟩
abbrev S32768x1024 : Shape := ⟨2, ![32768, 1024]⟩
abbrev S2048x10248 : Shape := ⟨2, ![2048, 10248]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 13
  | .vmem => 16
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S2048x10248, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S1024x2048, .bf16⟩
  | .hbm, ⟨11, _⟩ => ⟨S1024x2048, .bf16⟩
  | .hbm, ⟨12, _⟩ => ⟨S32768x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S32768x2048 : Shape := ⟨2, ![32768, 2048]⟩
abbrev S32768x1024 : Shape := ⟨2, ![32768, 1024]⟩
abbrev S2048x10248 : Shape := ⟨2, ![2048, 10248]⟩
abbrev S1024x2048 : Shape := ⟨2, ![1024, 2048]⟩
abbrev S2048x2048 : Shape := ⟨2, ![2048, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x1024, .bf16⟩
  | .hbm, ⟨2, _⟩ => ⟨S32768x1024, .bf16⟩
  | .hbm, ⟨3, _⟩ => ⟨S2048x10248, .f32⟩
  | .hbm, ⟨4, _⟩ => ⟨S1024x2048, .f32⟩
  | .hbm, ⟨5, _⟩ => ⟨S1024x2048, .f32⟩
  | .hbm, ⟨6, _⟩ => ⟨S32768x2048, .f32⟩
  | .hbm, ⟨7, _⟩ => ⟨S32768x1024, .f32⟩
  | .hbm, ⟨8, _⟩ => ⟨S32768x1024, .f32⟩
  | .hbm, ⟨9, _⟩ => ⟨S2048x2048, .f32⟩
  | .hbm, ⟨10, _⟩ => ⟨S32768x2048, .f32⟩
  | .hbm, ⟨11, _⟩ => ⟨S2048x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S_, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S2048x10248 : Shape := ⟨2, ![2048, 10248]⟩
abbrev S2048x8 : Shape := ⟨2, ![2048, 8]⟩
abbrev S_ : Shape := ⟨0, ![]⟩
abbrev S2048x128 : Shape := ⟨2, ![2048, 128]⟩
abbrev S2048x3072 : Shape := ⟨2, ![2048, 3072]⟩
abbrev S1x2048 : Shape := ⟨2, ![1, 2048]⟩
abbrev S32768x3200 : Shape := ⟨2, ![32768, 3200]⟩
abbrev S512x2048 : Shape := ⟨2, ![512, 2048]⟩
abbrev S512x3200 : Shape := ⟨2, ![512, 3200]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩

abbrev nBuf : Space → Nat
  | .hbm => 13
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x10248, .f32⟩
  | .hbm, ⟨3, _⟩ => ⟨S2048x8, .f32⟩
  | .hbm, ⟨4, _⟩ => ⟨S_, .i32⟩
  | .hbm, ⟨5, _⟩ => ⟨S_, .f32⟩
  | .hbm, ⟨6, _⟩ => ⟨S2048x128, .f32⟩
  | .hbm, ⟨7, _⟩ => ⟨S2048x128, .bf16⟩
  | .hbm, ⟨8, _⟩ => ⟨S2048x3072, .f32⟩
  | .hbm, ⟨9, _⟩ => ⟨S2048x3072, .bf16⟩
  | .hbm, ⟨10, _⟩ => ⟨S1x2048, .f32⟩
  | .hbm, ⟨11, _⟩ => ⟨S32768x3200, .f32⟩
  | .hbm, ⟨12, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3072, .bf16⟩
  | .local _ .vmem, ⟨4, _⟩ => ⟨S2048x128, .bf16⟩
  | .local _ .vmem, ⟨5, _⟩ => ⟨S512x3200, .f32⟩
  | .local _ .vmem, ⟨6, _⟩ => ⟨S512x3200, .f32⟩
  | .local _ .vmem, ⟨7, _⟩ => ⟨S512x2048, .bf16⟩
  | .local _ .vmem, ⟨8, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32768x2048 : Shape := ⟨2, ![32768, 2048]⟩
abbrev S2048 : Shape := ⟨1, ![2048]⟩
abbrev S2048x10248 : Shape := ⟨2, ![2048, 10248]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x3080 : Shape := ⟨2, ![2048, 3080]⟩
abbrev S32768x3080 : Shape := ⟨2, ![32768, 3080]⟩
abbrev S32768x3200 : Shape := ⟨2, ![32768, 3200]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x10248, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S2048x3080, .f32⟩
  | .hbm, ⟨20, _⟩ => ⟨S32768x3080, .f32⟩
  | .hbm, ⟨21, _⟩ => ⟨S_, .i32⟩
  | .hbm, ⟨22, _⟩ => ⟨S_, .f32⟩
  | .hbm, ⟨23, _⟩ => ⟨S32768x3200, .f32⟩
  | .hbm, ⟨24, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel7.lean ====
abbrev S32768x2048 : Shape := ⟨2, ![32768, 2048]⟩
abbrev S2048x10248 : Shape := ⟨2, ![2048, 10248]⟩
abbrev S4x8192 : Shape := ⟨2, ![4, 8192]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S2048x3072 : Shape := ⟨2, ![2048, 3072]⟩
abbrev S32768x1 : Shape := ⟨2, ![32768, 1]⟩
abbrev S32768x3072 : Shape := ⟨2, ![32768, 3072]⟩
abbrev S1024x2048 : Shape := ⟨2, ![1024, 2048]⟩
abbrev S1024x1 : Shape := ⟨2, ![1024, 1]⟩
abbrev S1024x3072 : Shape := ⟨2, ![1024, 3072]⟩
abbrev S1024x128 : Shape := ⟨2, ![1024, 128]⟩
abbrev S2048x1024 : Shape := ⟨2, ![2048, 1024]⟩
abbrev S1024x1024 : Shape := ⟨2, ![1024, 1024]⟩

abbrev nBuf : Space → Nat
  | .hbm => 23
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S4x8192, .i32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S96, .f32⟩
  | .hbm, ⟨17, _⟩ => ⟨S128, .f32⟩
  | .hbm, ⟨18, _⟩ => ⟨S1x128, .f32⟩
  | .hbm, ⟨19, _⟩ => ⟨S2048x3072, .f32⟩
  | .hbm, ⟨20, _⟩ => ⟨S2048x3072, .bf16⟩
  | .hbm, ⟨21, _⟩ => ⟨S32768x1, .i32⟩
  | .hbm, ⟨22, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x3072, .bf16⟩
  | .local _ .vmem, ⟨3, _⟩ => ⟨S1024x1, .i32⟩
  | .local _ .vmem, ⟨4, _⟩ => ⟨S1024x1, .i32⟩
  | .local _ .vmem, ⟨5, _⟩ => ⟨S1x128, .f32⟩
  | .local _ .vmem, ⟨6, _⟩ => ⟨S1024x3072, .bf16⟩
  | .local _ .vmem, ⟨7, _⟩ => ⟨S1024x3072, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S32768x2048 : Shape := ⟨2, ![32768, 2048]⟩
abbrev S2048x10248 : Shape := ⟨2, ![2048, 10248]⟩
abbrev S4x8192 : Shape := ⟨2, ![4, 8192]⟩
abbrev S2048x3072 : Shape := ⟨2, ![2048, 3072]⟩
abbrev S32768x3072 : Shape := ⟨2, ![32768, 3072]⟩
abbrev S4x8192x3072 : Shape := ⟨3, ![4, 8192, 3072]⟩
abbrev S4x8192x1024 : Shape := ⟨3, ![4, 8192, 1024]⟩
abbrev S4x8192x8x128 : Shape := ⟨4, ![4, 8192, 8, 128]⟩
abbrev S4x8x8192x128 : Shape := ⟨4, ![4, 8, 8192, 128]⟩
abbrev S16 : Shape := ⟨1, ![16]⟩
abbrev S_ : Shape := ⟨0, ![]⟩
abbrev S4x1x8192x1 : Shape := ⟨4, ![4, 1, 8192, 1]⟩
abbrev S1x1x1x16 : Shape := ⟨4, ![1, 1, 1, 16]⟩
abbrev S4x1x8192x16 : Shape := ⟨4, ![4, 1, 8192, 16]⟩
abbrev S4x8x8192x32 : Shape := ⟨4, ![4, 8, 8192, 32]⟩
abbrev S4x8x8192x16 : Shape := ⟨4, ![4, 8, 8192, 16]⟩
abbrev S4x8x8192x96 : Shape := ⟨4, ![4, 8, 8192, 96]⟩

abbrev nBuf : Space → Nat
  | .hbm => 91
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x10248, .f32⟩
  | .hbm, ⟨2, _⟩ => ⟨S4x8192, .i32⟩
  | .hbm, ⟨3, _⟩ => ⟨S32768x2048, .f32⟩
  | .hbm, ⟨4, _⟩ => ⟨S2048x3072, .f32⟩
  | .hbm, ⟨5, _⟩ => ⟨S32768x3072, .f32⟩
  | .hbm, ⟨6, _⟩ => ⟨S4x8192x3072, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x8x128, .f32⟩
  | .hbm, ⟨11, _⟩ => ⟨S4x8x8192x128, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4x8192, .f32⟩
  | .hbm, ⟨24, _⟩ => ⟨S4x1x8192x1, .f32⟩
  | .hbm, ⟨25, _⟩ => ⟨S1x1x1x16, .f32⟩
  | .hbm, ⟨26, _⟩ => ⟨S4x1x8192x16, .f32⟩
  | .hbm, ⟨27, _⟩ => ⟨S4x1x8192x16, .f32⟩
  | .hbm, ⟨28, _⟩ => ⟨S4x1x8192x16, .f32⟩
  | .hbm, ⟨29, _⟩ => ⟨S4x1x8192x16, .f32⟩
  | .hbm, ⟨30, _⟩ => ⟨S4x1x8192x16, .f32⟩
  | .hbm, ⟨31, _⟩ => ⟨S4x8x8192x32, .f32⟩
  | .hbm, ⟨32, _⟩ => ⟨S4x8x8192x16, .f32⟩
  | .hbm, ⟨33, _⟩ => ⟨S4x8x8192x16, .f32⟩
  | .hbm, ⟨34, _⟩ => ⟨S4x8x8192x16, .f32⟩
  | .hbm, ⟨35, _⟩ => ⟨S4x8x8192x16, .f32⟩
  | .hbm, ⟨36, _⟩ => ⟨S4x8x8192x16, .f32⟩
  | .hbm, ⟨37, _⟩ => ⟨S4x8x8192x16, .f32⟩
  | .hbm, ⟨38, _⟩ => ⟨S4x8x8192x16, .f32⟩
  | .hbm, ⟨39, _⟩ => ⟨S4x8x8192x16, .f32⟩
  | .hbm, ⟨40, _⟩ => ⟨S4x8x8192x16, .f32⟩
  | .hbm, ⟨41, _⟩ => ⟨S4x8x8192x16, .f32⟩
  | .hbm, ⟨42, _⟩ => ⟨S4x8x8192x16, .f32⟩
  | .hbm, ⟨43, _⟩ => ⟨S4x8x8192x16, .f32⟩
  | .hbm, ⟨44, _⟩ => ⟨S4x8x8192x32, .f32⟩
  | .hbm, ⟨45, _⟩ => ⟨S4x8x8192x96, .f32⟩
  | .hbm, ⟨46, _⟩ => ⟨S4x8x8192x128, .f32⟩
  | .hbm, ⟨47, _⟩ => ⟨S4x8192x8x128, .f32⟩
  | .hbm, ⟨48, _⟩ => ⟨S4x8x8192x128, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S16, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S4x8192, .f32⟩
  | .hbm, ⟨61, _⟩ => ⟨S4x1x8192x1, .f32⟩
  | .hbm, ⟨62, _⟩ => ⟨S1x1x1x16, .f32⟩
  | .hbm, ⟨63, _⟩ => ⟨S4x1x8192x16, .f32⟩
  | .hbm, ⟨64, _⟩ => ⟨S4x1x8192x16, .f32⟩
  | .hbm, ⟨65, _⟩ => ⟨S4x1x8192x16, .f32⟩
  | .hbm, ⟨66, _⟩ => ⟨S4x1x8192x16, .f32⟩
  | .hbm, ⟨67, _⟩ => ⟨S4x1x8192x16, .f32⟩
  | .hbm, ⟨68, _⟩ => ⟨S4x8x8192x32, .f32⟩
  | .hbm, ⟨69, _⟩ => ⟨S4x8x8192x16, .f32⟩
  | .hbm, ⟨70, _⟩ => ⟨S4x8x8192x16, .f32⟩
  | .hbm, ⟨71, _⟩ => ⟨S4x8x8192x16, .f32⟩
  | .hbm, ⟨72, _⟩ => ⟨S4x8x8192x16, .f32⟩
  | .hbm, ⟨73, _⟩ => ⟨S4x8x8192x16, .f32⟩
  | .hbm, ⟨74, _⟩ => ⟨S4x8x8192x16, .f32⟩
  | .hbm, ⟨75, _⟩ => ⟨S4x8x8192x16, .f32⟩
  | .hbm, ⟨76, _⟩ => ⟨S4x8x8192x16, .f32⟩
  | .hbm, ⟨77, _⟩ => ⟨S4x8x8192x16, .f32⟩
  | .hbm, ⟨78, _⟩ => ⟨S4x8x8192x16, .f32⟩
  | .hbm, ⟨79, _⟩ => ⟨S4x8x8192x16, .f32⟩
  | .hbm, ⟨80, _⟩ => ⟨S4x8x8192x16, .f32⟩
  | .hbm, ⟨81, _⟩ => ⟨S4x8x8192x32, .f32⟩
  | .hbm, ⟨82, _⟩ => ⟨S4x8x8192x96, .f32⟩
  | .hbm, ⟨83, _⟩ => ⟨S4x8x8192x128, .f32⟩
  | .hbm, ⟨84, _⟩ => ⟨S4x8192x8x128, .f32⟩
  | .hbm, ⟨85, _⟩ => ⟨S4x8192x1024, .f32⟩
  | .hbm, ⟨86, _⟩ => ⟨S4x8192x8x128, .f32⟩
  | .hbm, ⟨87, _⟩ => ⟨S4x8192x1024, .f32⟩
  | .hbm, ⟨88, _⟩ => ⟨S4x8192x3072, .f32⟩
  | .hbm, ⟨89, _⟩ => ⟨S32768x3072, .f32⟩
  | .hbm, ⟨90, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩

abbrev nD : Nat := 1
abbrev τ : Topo := Topo.v7x

variable {F : FTy → Type} [FloatOps F]
-- ==== Proof.MlstmReal.lean ====
/- The recurrence over the real numbers, and one chunk of it in the form that both programs compute: scores under the
   causal gate matrix, a row stabiliser, the carried cell, normaliser and stabiliser. A chunk leaves the cell that the
   plain recurrence has after the chunk's tokens, scaled by the stabiliser, and its outputs are those of the plain
   recurrence, whatever finite values the stabilisers have. -/
module

public import Idealize.ShloMosaic.Lib.Pointwise

@[expose] public section

noncomputable section

namespace Cert.Mlstm

open Idealize.ShloMosaic

/-- A scalar linear recurrence: decayed by `F`, fed with `I * u`. -/
def lin (F I u : ℕ → ℝ) : ℕ → ℝ
  | 0 => 0
  | t + 1 => F t * lin F I u t + I t * u t

/-- An exponential to some base: turns sums into products and is positive. -/
structure IsExp (E : EReal → EReal) (e : ℝ → ℝ) : Prop where
  coe : ∀ x : ℝ, E x = (e x : EReal)
  bot : E ⊥ = 0
  add : ∀ x y, e (x + y) = e x * e y
  pos : ∀ x, 0 < e x

theorem IsExp.zero {E : EReal → EReal} {e : ℝ → ℝ} (h : IsExp E e) : e 0 = 1 := by
  have h1 := h.add 0 0
  rw [add_zero] at h1
  have h2 := h.pos 0
  nlinarith [mul_self_nonneg (e 0 - 1)]

theorem isExp_exp : IsExp Ideal.exp Real.exp :=
  ⟨fun _ => rfl, rfl, Real.exp_add, Real.exp_pos⟩

theorem isExp_exp2 : IsExp Ideal.exp2 (fun x => Real.rpow 2 x) :=
  ⟨fun _ => rfl, rfl, fun x y => Real.rpow_add (by norm_num) x y, fun x => Real.rpow_pos_of_pos (by norm_num) x⟩

/-- The gates' running sum from token `p`. -/
def cum (lf : ℕ → ℝ) (p l : ℕ) : ℝ := ∑ j ∈ Finset.range l, lf (p + j)

theorem cum_succ (lf : ℕ → ℝ) (p l : ℕ) : cum lf p (l + 1) = cum lf p l + lf (p + l) := Finset.sum_range_succ _ _

/-- The recurrence `l` tokens after token `p`, from its value at `p`. -/
theorem lin_add {E : EReal → EReal} {e : ℝ → ℝ} (h : IsExp E e) (lf ig u : ℕ → ℝ) (p : ℕ) : ∀ l : ℕ,
    lin (fun t => e (lf t)) (fun t => e (ig t)) u (p + l)
      = e (cum lf p l) * lin (fun t => e (lf t)) (fun t => e (ig t)) u p
        + ∑ s ∈ Finset.range l, e (cum lf p l - cum lf p (s + 1) + ig (p + s)) * u (p + s)
  | 0 => by simp [cum, h.zero]
  | l + 1 => by
    rw [← Nat.add_assoc, lin, lin_add h lf ig u p l, Finset.sum_range_succ, mul_add, Finset.mul_sum, cum_succ, h.add (cum lf p l)]
    have hs : ∀ s ∈ Finset.range l, e (lf (p + l)) * (e (cum lf p l - cum lf p (s + 1) + ig (p + s)) * u (p + s))
        = e (cum lf p l + lf (p + l) - cum lf p (s + 1) + ig (p + s)) * u (p + s) := fun s _ => by
      rw [← mul_assoc, ← h.add]; congr 2; ring
    rw [Finset.sum_congr rfl hs, sub_self, zero_add]
    ring

/-- The same with the last token's row as a sum over the chunk under the causal mask. -/
theorem lin_row {E : EReal → EReal} {e : ℝ → ℝ} (h : IsExp E e) (lf ig u : ℕ → ℝ) (p : ℕ) {L : ℕ} (r : Fin L) :
    lin (fun t => e (lf t)) (fun t => e (ig t)) u (p + (r.val + 1))
      = e (cum lf p (r.val + 1)) * lin (fun t => e (lf t)) (fun t => e (ig t)) u p
        + ∑ s : Fin L, (if s ≤ r then e (cum lf p (r.val + 1) - cum lf p (s.val + 1) + ig (p + s.val)) else 0) * u (p + s.val) := by
  rw [lin_add h]
  congr 1
  have h1 := Fin.sum_univ_eq_sum_range (fun s => (if s ≤ r.val then e (cum lf p (r.val + 1) - cum lf p (s + 1) + ig (p + s)) else 0)
    * u (p + s)) L
  have h2 : (∑ s : Fin L, (if s ≤ r then e (cum lf p (r.val + 1) - cum lf p (s.val + 1) + ig (p + s.val)) else 0) * u (p + s.val))
      = ∑ s : Fin L, (if s.val ≤ r.val then e (cum lf p (r.val + 1) - cum lf p (s.val + 1) + ig (p + s.val)) else 0)
        * u (p + s.val) := rfl
  rw [h2, h1]
  rw [← Finset.sum_subset (Finset.range_mono (show r.val + 1 ≤ L from r.isLt)) ?_]
  · refine Finset.sum_congr rfl fun s hs => ?_
    rw [if_pos (by have := Finset.mem_range.mp hs; omega)]
  · intro s _ hs
    rw [if_neg (by have := mt Finset.mem_range.mpr hs; omega), zero_mul]

/-! ## One chunk, as the programs compute it -/

section Chunk

variable {L A D : ℕ} (E : EReal → EReal) (q k : Fin L → Fin A → EReal) (v : Fin L → Fin D → EReal)
  (ig bc : Fin L → EReal) (C : Fin A → Fin D → EReal) (n : Fin A → EReal) (m : EReal) (last : Fin L)

/-- The gate matrix under the causal mask. -/
def dmat (r s : Fin L) : EReal := if s ≤ r then bc r - bc s + ig s else ⊥

/-- A row's stabiliser. -/
def mrow (r : Fin L) : EReal := max (bc r + m) (Finset.univ.fold max ⊥ fun s => dmat ig bc r s)

/-- The gated score of row `r` against token `s`. -/
def score (r s : Fin L) : EReal := (∑ a, q r a * k s a) * E (dmat ig bc r s - mrow ig bc m r)

/-- What the carried state enters a row with. -/
def inter (r : Fin L) : EReal := E (bc r + m - mrow ig bc m r)

def num (r : Fin L) (d : Fin D) : EReal :=
  inter E ig bc m r * (∑ a, q r a * C a d) + ∑ s, score E q k ig bc m r s * v s d

def den (r : Fin L) : EReal := inter E ig bc m r * (∑ a, q r a * n a) + ∑ s, score E q k ig bc m r s

/-- The chunk's output. -/
def hval (r : Fin L) (d : Fin D) : EReal :=
  Ideal.div (num E q k v ig bc C m r d)
    (max (max (den E q k ig bc n m r) (-den E q k ig bc n m r)) (E (-mrow ig bc m r)))

/-- Each token's weight in the state after the chunk, its logarithm. -/
def acol (s : Fin L) : EReal := bc last - bc s + ig s

/-- The next stabiliser. -/
def mnew : EReal := max (bc last + m) (Finset.univ.fold max ⊥ fun s => acol ig bc last s)

def wcol (s : Fin L) : EReal := E (acol ig bc last s - mnew ig bc m last)

def decay : EReal := E (bc last + m - mnew ig bc m last)

def cnew (a : Fin A) (d : Fin D) : EReal :=
  decay E ig bc m last * C a d + ∑ s, (k s a * wcol E ig bc m last s) * v s d

def nnew (a : Fin A) : EReal := decay E ig bc m last * n a + ∑ s, k s a * wcol E ig bc m last s

end Chunk

/-! ## Its value over the reals -/

theorem fold_max_ne_top {ι : Type*} (s : Finset ι) (f : ι → EReal) (h : ∀ i, f i ≠ ⊤) : s.fold max ⊥ f < ⊤ :=
  (Finset.fold_max_lt _).mpr ⟨bot_lt_top, fun i _ => lt_top_iff_ne_top.mpr (h i)⟩

theorem coe_max (x y : ℝ) : max (x : EReal) (y : EReal) = ((max x y : ℝ) : EReal) :=
  (EReal.coe_strictMono.monotone.map_max).symm

theorem max_coe_real (x : ℝ) (y : EReal) (h : y < ⊤) : ∃ z : ℝ, max (x : EReal) y = z := by
  induction y with
  | bot => exact ⟨x, max_eq_left bot_le⟩
  | coe y => exact ⟨max x y, coe_max x y⟩
  | top => exact absurd h (lt_irrefl _)

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- What a chunk's arguments are: the real sequences, from token `p` on. -/
structure Tokens (L A D : ℕ) where
  q : ℕ → Fin A → ℝ
  k : ℕ → Fin A → ℝ
  v : ℕ → Fin D → ℝ
  ig : ℕ → ℝ
  lf : ℕ → ℝ

variable {L A D : ℕ} {E : EReal → EReal} {e : ℝ → ℝ}

/-- The cell after `t` tokens of the plain recurrence. -/
def Tokens.cell (e : ℝ → ℝ) (T : Tokens L A D) (t : ℕ) (a : Fin A) (d : Fin D) : ℝ :=
  lin (fun t => e (T.lf t)) (fun t => e (T.ig t)) (fun t => T.k t a * T.v t d) t

/-- The normaliser after `t` tokens. -/
def Tokens.nrm (e : ℝ → ℝ) (T : Tokens L A D) (t : ℕ) (a : Fin A) : ℝ :=
  lin (fun t => e (T.lf t)) (fun t => e (T.ig t)) (fun t => T.k t a) t

/-- Token `t`'s output of the plain recurrence. -/
def Tokens.out (e : ℝ → ℝ) (T : Tokens L A D) (t : ℕ) (d : Fin D) : ℝ :=
  (∑ a, T.q t a * T.cell e (t + 1) a d) / max |∑ a, T.q t a * T.nrm e (t + 1) a| 1

/-- The carried state at token `p`: real, and the plain recurrence's up to the stabiliser's factor. -/
def Carried (e : ℝ → ℝ) (T : Tokens L A D) (p : ℕ) (C : Fin A → Fin D → EReal) (n : Fin A → EReal) (m : EReal) : Prop :=
  ∃ (c : Fin A → Fin D → ℝ) (n' : Fin A → ℝ) (m' : ℝ), (∀ a d, C a d = (c a d : EReal)) ∧ (∀ a, n a = (n' a : EReal))
    ∧ m = (m' : EReal) ∧ (∀ a d, c a d * e m' = T.cell e p a d) ∧ ∀ a, n' a * e m' = T.nrm e p a

theorem carried_zero (T : Tokens L A D) (h : IsExp E e) : Carried e T 0 (fun _ _ => 0) (fun _ => 0) 0 :=
  ⟨fun _ _ => 0, fun _ => 0, 0, fun _ _ => rfl, fun _ => rfl, rfl, fun _ _ => by simp [Tokens.cell, lin],
    fun _ => by simp [Tokens.nrm, lin]⟩

/-- The chunk's arguments from token `p`. -/
structure Reads (T : Tokens L A D) (p : ℕ) (q k : Fin L → Fin A → EReal) (v : Fin L → Fin D → EReal)
    (ig bc : Fin L → EReal) : Prop where
  q : ∀ r a, q r a = (T.q (p + r.val) a : EReal)
  k : ∀ r a, k r a = (T.k (p + r.val) a : EReal)
  v : ∀ r d, v r d = (T.v (p + r.val) d : EReal)
  ig : ∀ r, ig r = (T.ig (p + r.val) : EReal)
  bc : ∀ r, bc r = (cum T.lf p (r.val + 1) : EReal)

/-- The state's part and the chunk's part of a contraction with the state. -/
theorem contract (q c : Fin A → ℝ) (k : Fin L → Fin A → ℝ) (W w : Fin L → ℝ) (P x : ℝ) :
    (∑ a, q a * (P * (c a * x) + ∑ s, W s * (k s a * w s)))
      = P * x * (∑ a, q a * c a) + ∑ s, (∑ a, q a * k s a) * W s * w s := by
  simp only [mul_add, Finset.sum_add_distrib, Finset.mul_sum, Finset.sum_mul]
  congr 1
  · exact Finset.sum_congr rfl fun a _ => by ring
  · rw [Finset.sum_comm]
    exact Finset.sum_congr rfl fun s _ => Finset.sum_congr rfl fun a _ => by ring

section Values

variable (T : Tokens L A D) (p : ℕ) (q k : Fin L → Fin A → EReal) (v : Fin L → Fin D → EReal)
  (ig bc : Fin L → EReal) (C : Fin A → Fin D → EReal) (n : Fin A → EReal) (m : EReal) (last : Fin L)

/-- The decay from token `s` to row `r` times the input gate, under the causal mask. -/
def gate (e : ℝ → ℝ) (r s : Fin L) : ℝ :=
  if s ≤ r then e (cum T.lf p (r.val + 1) - cum T.lf p (s.val + 1) + T.ig (p + s.val)) else 0

theorem exp_dmat (h : IsExp E e) (hR : Reads T p q k v ig bc) (r s : Fin L) (μ : ℝ) :
    E (dmat ig bc r s - (μ : EReal)) = ((gate T p e r s * e (-μ) : ℝ) : EReal) := by
  unfold dmat gate
  split
  · rw [hR.bc, hR.bc, hR.ig, ← EReal.coe_sub, ← EReal.coe_add, ← EReal.coe_sub, h.coe, ← h.add]
    rfl
  · rw [zero_mul]
    exact h.bot

theorem dmat_ne_top (hR : Reads T p q k v ig bc) (r s : Fin L) : dmat ig bc r s ≠ ⊤ := by
  unfold dmat
  split
  · rw [hR.bc, hR.bc, hR.ig, ← EReal.coe_sub, ← EReal.coe_add]; exact EReal.coe_ne_top _
  · exact bot_ne_top

theorem acol_eq (hR : Reads T p q k v ig bc) (s : Fin L) : acol ig bc last s
    = ((cum T.lf p (last.val + 1) - cum T.lf p (s.val + 1) + T.ig (p + s.val) : ℝ) : EReal) := by
  unfold acol
  rw [hR.bc, hR.bc, hR.ig, ← EReal.coe_sub, ← EReal.coe_add]

theorem cell_row (h : IsExp E e) (r : Fin L) (a : Fin A) (d : Fin D) : T.cell e (p + r.val + 1) a d
    = e (cum T.lf p (r.val + 1)) * T.cell e p a d + ∑ s : Fin L, gate T p e r s * (T.k (p + s.val) a * T.v (p + s.val) d) := by
  unfold Tokens.cell gate
  rw [Nat.add_assoc, lin_row h]

theorem nrm_row (h : IsExp E e) (r : Fin L) (a : Fin A) : T.nrm e (p + r.val + 1) a
    = e (cum T.lf p (r.val + 1)) * T.nrm e p a + ∑ s : Fin L, gate T p e r s * T.k (p + s.val) a := by
  unfold Tokens.nrm gate
  rw [Nat.add_assoc, lin_row h]

/-- A row's output is the plain recurrence's. -/
theorem hval_eq (h : IsExp E e) (hR : Reads T p q k v ig bc) (hC : Carried e T p C n m) (r : Fin L) (d : Fin D) :
    hval E q k v ig bc C n m r d = (T.out e (p + r.val) d : EReal) := by
  obtain ⟨c, n', m', hc, hn, hm, hcell, hnrm⟩ := hC
  obtain ⟨μ, hμ⟩ : ∃ μ : ℝ, mrow ig bc m r = μ := by
    unfold mrow
    rw [hR.bc, hm, ← EReal.coe_add]
    exact max_coe_real _ _ (fold_max_ne_top _ _ fun s => dmat_ne_top T p q k v ig bc hR r s)
  have hs : ∀ s, score E q k ig bc m r s = (((∑ a, T.q (p + r.val) a * T.k (p + s.val) a)
      * (gate T p e r s * e (-μ)) : ℝ) : EReal) := fun s => by
    unfold score
    rw [hμ, exp_dmat T p q k v ig bc h hR, EReal.coe_mul (∑ a, _), ← sum_coe]
    simp only [hR.q, hR.k, EReal.coe_mul]
  have hi : inter E ig bc m r = ((e (cum T.lf p (r.val + 1)) * e m' * e (-μ) : ℝ) : EReal) := by
    unfold inter
    rw [hμ, hR.bc, hm, ← EReal.coe_add, ← EReal.coe_sub, h.coe, ← h.add, ← h.add]
    rfl
  have hnum : num E q k v ig bc C m r d = (((∑ a, T.q (p + r.val) a * T.cell e (p + r.val + 1) a d) * e (-μ) : ℝ) : EReal) := by
    unfold num
    simp only [hi, hs, hR.q, hR.v, hc, ← EReal.coe_mul, sum_coe, ← EReal.coe_add]
    congr 1
    simp only [cell_row T p h, ← hcell]
    rw [contract, add_mul, Finset.sum_mul]
    congr 1
    · ring
    · exact Finset.sum_congr rfl fun s _ => by ring
  have hden : den E q k ig bc n m r = (((∑ a, T.q (p + r.val) a * T.nrm e (p + r.val + 1) a) * e (-μ) : ℝ) : EReal) := by
    unfold den
    simp only [hi, hs, hR.q, hn, ← EReal.coe_mul, sum_coe, ← EReal.coe_add]
    congr 1
    have h1 := contract (fun a => T.q (p + r.val) a) n' (fun s a => T.k (p + s.val) a) (fun s : Fin L => gate T p e r s)
      (fun _ => 1) (e (cum T.lf p (r.val + 1))) (e m')
    simp only [mul_one] at h1
    simp only [nrm_row T p h, ← hnrm]
    rw [h1, add_mul, Finset.sum_mul]
    congr 1
    · ring
    · exact Finset.sum_congr rfl fun s _ => by ring
  have hpos := h.pos (-μ)
  have hmax : ∀ y : ℝ, max (max (y * e (-μ)) (-(y * e (-μ)))) (e (-μ)) = max |y| 1 * e (-μ) := fun y => by
    rw [max_mul_of_nonneg _ _ hpos.le, one_mul, ← abs_of_pos hpos, ← abs_mul, abs_of_pos hpos]
    rfl
  unfold hval
  rw [hnum, hden, hμ, ← EReal.coe_neg, ← EReal.coe_neg, h.coe, coe_max, coe_max, hmax]
  have hne : 0 < max |∑ a, T.q (p + r.val) a * T.nrm e (p + r.val + 1) a| 1 := lt_max_of_lt_right one_pos
  rw [Ideal.div_coe (mul_pos hne hpos).ne', ← EReal.coe_mul]
  congr 1
  unfold Tokens.out
  field_simp

/-- The chunk carries the state to its end. -/
theorem carried_step (h : IsExp E e) (hR : Reads T p q k v ig bc) (hC : Carried e T p C n m) (hlast : last.val + 1 = L) :
    Carried e T (p + L) (cnew E k v ig bc C m last) (nnew E k ig bc n m last) (mnew ig bc m last) := by
  obtain ⟨c, n', m', hc, hn, hm, hcell, hnrm⟩ := hC
  obtain ⟨μ, hμ⟩ : ∃ μ : ℝ, mnew ig bc m last = μ := by
    unfold mnew
    rw [hR.bc, hm, ← EReal.coe_add]
    exact max_coe_real _ _ (fold_max_ne_top _ _ fun s => by rw [acol_eq T p q k v ig bc last hR]; exact EReal.coe_ne_top _)
  have hg : ∀ s : Fin L, e (cum T.lf p (last.val + 1) - cum T.lf p (s.val + 1) + T.ig (p + s.val)) = gate T p e last s := fun s => by
    unfold gate
    rw [if_pos (by rw [Fin.le_def]; omega)]
  have hw : ∀ s, wcol E ig bc m last s = ((gate T p e last s * e (-μ) : ℝ) : EReal) := fun s => by
    unfold wcol
    rw [hμ, acol_eq T p q k v ig bc last hR, ← EReal.coe_sub, h.coe, ← hg, ← h.add]
    rfl
  have hd : decay E ig bc m last = ((e (cum T.lf p (last.val + 1)) * e m' * e (-μ) : ℝ) : EReal) := by
    unfold decay
    rw [hμ, hR.bc, hm, ← EReal.coe_add, ← EReal.coe_sub, h.coe, ← h.add, ← h.add]
    rfl
  have he : e (-μ) * e μ = 1 := by rw [← h.add, neg_add_cancel, h.zero]
  have hp : p + L = p + last.val + 1 := by omega
  refine ⟨fun a d => e (cum T.lf p (last.val + 1)) * e m' * e (-μ) * c a d
      + ∑ s : Fin L, T.k (p + s.val) a * (gate T p e last s * e (-μ)) * T.v (p + s.val) d,
    fun a => e (cum T.lf p (last.val + 1)) * e m' * e (-μ) * n' a
      + ∑ s : Fin L, T.k (p + s.val) a * (gate T p e last s * e (-μ)), μ, fun a d => ?_, fun a => ?_, hμ, fun a d => ?_, fun a => ?_⟩
  · unfold cnew
    simp only [hd, hw, hR.k, hR.v, hc, ← EReal.coe_mul, sum_coe, ← EReal.coe_add]
  · unfold nnew
    simp only [hd, hw, hR.k, hn, ← EReal.coe_mul, sum_coe, ← EReal.coe_add]
  · rw [hp, cell_row T p h, ← hcell, add_mul, Finset.sum_mul]
    congr 1
    · linear_combination e (cum T.lf p (last.val + 1)) * e m' * c a d * he
    · exact Finset.sum_congr rfl fun s _ => by
        linear_combination T.k (p + s.val) a * gate T p e last s * T.v (p + s.val) d * he
  · rw [hp, nrm_row T p h, ← hnrm, add_mul, Finset.sum_mul]
    congr 1
    · linear_combination e (cum T.lf p (last.val + 1)) * e m' * n' a * he
    · exact Finset.sum_congr rfl fun s _ => by
        linear_combination T.k (p + s.val) a * gate T p e last s * he

end Values

end Cert.Mlstm
-- ==== Proof.MlstmBlock.lean ====
/- One grid point of the mLSTM kernel: 256 tokens of one sequence, four heads. Here what the point leaves in the output
   block and in the four carried buffers, element by element. -/
module

public import proofs.«01_k».proof.Proof.Gen.KernelIdeal.Value
public import proofs.«01_k».proof.Proof.MlstmReal
public import Idealize.ShloMosaic.Lib.Pipeline.Value
public import Idealize.ShloMosaic.Lib.Pipeline.ValueKit.Tiles
public import Idealize.ShloMosaic.Lib.Pointwise
public import Idealize.ShloMosaic.Lib.Tactic
public import Idealize.ShloMosaic.Lib.WritesUnit
public import Idealize.ShloMosaic.Lib.WordCmp

@[expose] public section

set_option maxRecDepth 16384

noncomputable section

namespace Cert.Mlstm

open Cert.KernelIdeal Cert.KernelIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

theorem idx_ix2 (x : S256x256.Idx) (r d : Fin 256) (h0 : (x 0).val = r.val) (h1 : (x 1).val = d.val) : x = ix2 r d := by
  rw [eq_ix2 x]
  exact congrArg₂ ix2 (Fin.ext h0) (Fin.ext h1)

theorem idx_ix3 {p q r : ℕ} (x : (⟨3, ![p, q, r]⟩ : Shape).Idx) (a : Fin p) (b : Fin q) (d : Fin r)
    (h0 : (x 0).val = a.val) (h1 : (x 1).val = b.val) (h2 : (x 2).val = d.val) : x = ix3 a b d := by
  rw [eq_ix3 x]
  have e0 : x 0 = a := Fin.ext h0
  have e1 : x 1 = b := Fin.ext h1
  have e2 : x 2 = d := Fin.ext h2
  rw [e0, e1, e2]

/-- A head's columns: of the queries, the keys and the values; and its gates' lanes. -/
def qcol (h : Fin 4) (a : Fin 128) : Fin 1024 := ⟨h.val * 128 + a.val, by omega⟩
def kcol (h : Fin 4) (a : Fin 128) : Fin 1024 := ⟨512 + h.val * 128 + a.val, by omega⟩
def vcol (h : Fin 4) (d : Fin 256) : Fin 1024 := ⟨h.val * 256 + d.val, by omega⟩
def ilane (h : Fin 4) : Fin 128 := ⟨h.val, by omega⟩
def flane (h : Fin 4) : Fin 128 := ⟨4 + h.val, by omega⟩

theorem zero_sub' (x : EReal) : 0 - x = -x := by rw [sub_eq_add_neg, zero_add]

theorem flane_0 : flane 0 = 4 := rfl
theorem flane_1 : flane 1 = 5 := rfl
theorem flane_2 : flane 2 = 6 := rfl
theorem flane_3 : flane 3 = 7 := rfl
theorem ilane_0 : ilane 0 = 0 := rfl
theorem ilane_1 : ilane 1 = 1 := rfl
theorem ilane_2 : ilane 2 = 2 := rfl
theorem ilane_3 : ilane 3 = 3 := rfl

/-- The keys' scale, one over the square root of the head's width. -/
def kscale : EReal := Ideal.ofBits .f32 0x3DB504F3#32

/-- `x` times its logistic. -/
def silu (x : EReal) : EReal := x * Ideal.div 1 (1 + Ideal.exp (-x))

/-- A head's output after its norm, gain and gate. -/
def gated (h : Fin 256 → EReal) (gain o : EReal) (d : Fin 256) : EReal :=
  h d * Ideal.rsqrt (Ideal.div (∑ k, h k * h k) (Ideal.ofBits .f32 0x43800000#32) + Ideal.ofBits .f32 0x358637BD#32) * gain
    * Ideal.div 1 (1 + Ideal.exp (-o))

theorem select_sge (r s : Fin 256) (a b : EReal) :
    Scalar.select (IntOp.cmpi CmpIPredicate.sge (BitVec.ofNat 32 r.val) (BitVec.ofNat 32 s.val)) a b = if s ≤ r then a else b := by
  have h : IntOp.cmpi CmpIPredicate.sge (BitVec.ofNat 32 r.val) (BitVec.ofNat 32 s.val) = if s ≤ r then 1#1 else 0#1 := by
    rw [WordCmp.cmpi_sge_eq, BitVec.toInt_eq_toNat_of_lt (by rw [BitVec.toNat_ofNat]; omega), BitVec.toInt_eq_toNat_of_lt (by rw [BitVec.toNat_ofNat]; omega), BitVec.toNat_ofNat, BitVec.toNat_ofNat, Nat.mod_eq_of_lt (by omega), Nat.mod_eq_of_lt (by omega)]
    by_cases e : s ≤ r
    · rw [if_pos e, decide_eq_true (by exact_mod_cast e)]; rfl
    · rw [if_neg e, decide_eq_false (by exact_mod_cast e)]; rfl
  rw [h]
  split <;> rfl

theorem neg_inf : Ideal.ofBits .f32 0xFF800000#32 = ⊥ := by
  simp [Ideal.ofBits, Ideal.ieee]

/-- The token `j` before row `r`: in the block, or among the eight tokens kept from the block before. -/
def tap (x0 : Vec Ideal S256x1024 .f32) (s0 : Vec Ideal S16x1024 .f32) (j : ℕ) (r : Fin 256) (c : Fin 1024) : EReal :=
  if j ≤ r.val then x0 (ix2 ⟨r.val - j, by omega⟩ c) else s0 (ix2 ⟨(8 + r.val - j) % 16, Nat.mod_lt _ (by norm_num)⟩ c)

/-- The causal convolution over the last four tokens, then the activation. -/
def mixed (x0 : Vec Ideal S256x1024 .f32) (x4 : Vec Ideal S4x1024 .f32) (x5 : Vec Ideal S1x1024 .f32)
    (s0 : Vec Ideal S16x1024 .f32) (r : Fin 256) (c : Fin 1024) : EReal :=
  silu (x5 (ix2 0 c) + x4 (ix2 3 c) * tap x0 s0 0 r c + x4 (ix2 2 c) * tap x0 s0 1 r c + x4 (ix2 1 c) * tap x0 s0 2 r c
    + x4 (ix2 0 c) * tap x0 s0 3 r c)

def mixedV (x0 : Vec Ideal S256x1024 .f32) (x4 : Vec Ideal S4x1024 .f32) (x5 : Vec Ideal S1x1024 .f32)
    (s0 : Vec Ideal S16x1024 .f32) : FVec Ideal S256x1024 .f32 := fun i => mixed x0 x4 x5 s0 (i 0) (i 1)

/-- Row `i` of the sixteen buffered ones: the second eight are the block's first. -/
def buffered (x0 : Vec Ideal S256x1024 .f32) (s0 : Vec Ideal S16x1024 .f32) (i : Fin 16) (c : Fin 1024) : EReal :=
  if 8 ≤ i.val then x0 (ix2 ⟨i.val - 8, by omega⟩ c) else s0 (ix2 i c)

theorem tap_small (x0 : Vec Ideal S256x1024 .f32) (s0 : Vec Ideal S16x1024 .f32) (j : ℕ) (r : Fin 256) (c : Fin 1024)
    (hr : r.val < 8) (hj : j < 8) : tap x0 s0 j r c = buffered x0 s0 ⟨8 - j + r.val, by omega⟩ c := by
  unfold tap buffered
  dsimp only
  by_cases h : j ≤ r.val
  · rw [if_pos h, if_pos (by omega)]
    exact congrArg (fun t => x0 (ix2 t c)) (Fin.ext (by dsimp only; omega))
  · rw [if_neg h, if_neg (by omega)]
    exact congrArg (fun t => s0 (ix2 t c)) (Fin.ext (by dsimp only; omega))

theorem buf_B (b0 : Memref sig .tc .vmem S16x1024 .f32) (k0 : b0.IsWhole) (x0 : Vec Ideal S256x1024 .f32)
    (s0 : Vec Ideal S16x1024 .f32) (i : Fin 16) (c : Fin 1024) :
    View.read (Elt Ideal) b0.view (b0.view.writes (Elt Ideal) (k0.unread s0)
      [⟨Rect.unit ![8, 0] ![8, 1024] inb_S16x1024_S8x1024_8_0,
        k0_pay6 (View.ld x0 (Rect.unit ![0, 0] ![8, 1024] inb_S256x1024_S8x1024_0_0))⟩]) (ix2 i c) = buffered x0 s0 i c := by
  unfold buffered
  by_cases h : 8 ≤ i.val
  · rw [if_pos h]
    refine (View.read_writes_cons_rows_of_mem b0.view (k0.unread s0) inb_S16x1024_S8x1024_8_0 _ [] (ix2 i c)
      (ix2 ⟨i.val - 8, by omega⟩ c) rfl (by show i.val = 8 + (i.val - 8); omega) rfl).trans ?_
    pointwise [k0_pay6]
  · rw [if_neg h]
    refine (View.read_writes_cons_rows_of_not_mem b0.view (k0.unread s0) inb_S16x1024_S8x1024_8_0 _ [] (ix2 i c) rfl rfl
      (by left; show i.val < 8; omega)).trans ?_
    exact congrFun (k0.read_unread s0) _

theorem buf_B' (b0 : Memref sig .tc .vmem S16x1024 .f32) (x0 : Vec Ideal S256x1024 .f32) (i : Fin 8) (c : Fin 1024) :
    b0.view.readCov (Val := Elt Ideal)
      [⟨Rect.unit ![8, 0] ![8, 1024] inb_S16x1024_S8x1024_8_0,
        k0_pay6 (View.ld x0 (Rect.unit ![0, 0] ![8, 1024] inb_S256x1024_S8x1024_0_0))⟩]
      (Rect.unit (s := S16x1024) ![8, 0] ![8, 1024] inb_S16x1024_S8x1024_8_0).toLoadRect (ix2 i c)
      = x0 (ix2 ⟨i.val, by omega⟩ c) := by
  refine (View.read_writes_cons_rows_of_mem b0.view b0.view.junk inb_S16x1024_S8x1024_8_0 _ [] _
      (ix2 i c) rfl (by show 8 + 1 * i.val = 8 + i.val; omega) (by show 0 + 1 * c.val = c.val; omega)).trans ?_
  pointwise [k0_pay6]

section Body

variable (c : Dev nD) (i : grid0.Coords) (a0 : Memref sig .tc .vmem S256x1024 .f32) (h0 : a0.IsWhole)
  (a1 : Memref sig .tc .vmem S256x1024 .f32) (h1 : a1.IsWhole) (a2 : Memref sig .tc .vmem S256x1024 .f32) (h2 : a2.IsWhole)
  (a3 : Memref sig .tc .vmem S256x128 .f32) (h3 : a3.IsWhole) (a4 : Memref sig .tc .vmem S4x1024 .f32) (h4 : a4.IsWhole)
  (a5 : Memref sig .tc .vmem S1x1024 .f32) (h5 : a5.IsWhole) (a6 : Memref sig .tc .vmem S1x128 .f32) (h6 : a6.IsWhole)
  (a7 : Memref sig .tc .vmem S1x1024 .f32) (h7 : a7.IsWhole) (a8 : Memref sig .tc .vmem S256x1024 .bf16) (h8 : a8.IsWhole)
  (b0 : Memref sig .tc .vmem S16x1024 .f32) (k0 : b0.IsWhole) (b1 : Memref sig .tc .vmem S4x128x256 .f32) (k1 : b1.IsWhole)
  (b2 : Memref sig .tc .vmem S4x1x128 .f32) (k2 : b2.IsWhole) (b3 : Memref sig .tc .vmem S4x1x128 .f32) (k3 : b3.IsWhole)
  (x0 x1 x2 : Vec Ideal S256x1024 .f32) (x3 : Vec Ideal S256x128 .f32) (x4 : Vec Ideal S4x1024 .f32) (x5 : Vec Ideal S1x1024 .f32)
  (x6 : Vec Ideal S1x128 .f32) (x7 : Vec Ideal S1x1024 .f32) (s0 : Vec Ideal S16x1024 .f32) (s1 : Vec Ideal S4x128x256 .f32)
  (s2 s3 : Vec Ideal S4x1x128 .f32)

theorem rB_g : kernelRun0_B.sl.r_2 c a3 h3 a6 h6 x3 x6 = k0_pay11 x3 x6 := by
  unfold kernelRun0_B.sl.r_2
  simp only [View.readAt_eq_ld, h3.read_unread, h6.read_unread, View.ld_unit_zero (S := S256x128) hz, View.ld_unit_zero (S := S1x128) hz]

theorem rB_b : kernelRun0_B.sl.r_3 c a3 h3 a6 h6 x3 x6 = k0_pay13 x3 x6 := by
  unfold kernelRun0_B.sl.r_3
  simp only [View.readAt_eq_ld, h3.read_unread, h6.read_unread, View.ld_unit_zero (S := S256x128) hz, View.ld_unit_zero (S := S1x128) hz]

theorem rB_y : kernelRun0_B.sl.r_1 c a0 h0 a4 h4 a5 h5 b0 k0 x0 x4 x5 s0 = mixedV x0 x4 x5 s0 := by
  sl_unfold_run_names
  simp only [View.readAt_eq_ld, h0.read_unread, h4.read_unread, h5.read_unread, View.ld_unit_zero (S := S1x1024) hz]
  funext i
  obtain ⟨r, c, rfl⟩ : ∃ r c, i = ix2 r c := ⟨i 0, i 1, eq_ix2 i⟩
  change _ = mixed x0 x4 x5 s0 r c
  unfold mixed silu
  pointwise [k0_pay9, k0_pay7]
  rw [zero_sub']
  simp only [buf_B b0 k0 x0 s0, buf_B' b0]
  by_cases h : r.val < 8
  · simp only [dif_pos h]
    have t0 : tap x0 s0 0 r c = x0 (ix2 r c) := by
      unfold tap
      rw [if_pos (Nat.zero_le _)]
      rfl
    rw [t0, tap_small x0 s0 1 r c h (by norm_num), tap_small x0 s0 2 r c h (by norm_num), tap_small x0 s0 3 r c h (by norm_num)]
  · have hj : ∀ j, j < 4 → tap x0 s0 j r c = x0 (ix2 ⟨8 - j + (r.val - 8), by omega⟩ c) := fun j hj => by
      unfold tap
      rw [if_pos (by omega)]
      exact congrArg (fun t => x0 (ix2 t c)) (Fin.ext (by dsimp only; omega))
    simp only [dif_neg h, hj 0 (by omega), hj 1 (by omega), hj 2 (by omega), hj 3 (by omega)]

/-- A head's output row, before the norm. -/
def headRow (h : Fin 4) (r : Fin 256) (d : Fin 256) : EReal :=
  hval Ideal.exp2 (fun r a => mixed x0 x4 x5 s0 r (qcol h a)) (fun s a => mixed x0 x4 x5 s0 s (kcol h a) * kscale)
    (fun s d => x1 (ix2 s (vcol h d))) (fun s => k0_pay11 x3 x6 (ix2 s (ilane h))) (fun s => k0_pay13 x3 x6 (ix2 s (flane h)))
    (fun a d => s1 (ix3 h a d)) (fun a => s2 (ix3 h 0 a)) (s3 (ix3 h 0 0)) r d

set_option maxHeartbeats 1000000 in
theorem out_B (hc0 : ¬cond0_0 i) (h : Fin 4) (r d : Fin 256) :
    out0_B_8 c i a0 h0 a1 h1 a2 h2 a3 h3 a4 h4 a5 h5 a6 h6 a7 h7 a8 h8 b0 k0 b1 k1 b2 k2 b3 k3 hc0 x0 x1 x2 x3 x4 x5 x6 x7
        s0 s1 s2 s3 (ix2 r (vcol h d))
      = gated (headRow x0 x1 x3 x4 x5 x6 s0 s1 s2 s3 h r) (x7 (ix2 0 (vcol h d))) (x2 (ix2 r (vcol h d))) d := by
  unfold out0_B_8
  rw [View.read_writes_junk_eq_canon]
  unfold kernelRun0_B
  dsimp only
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  match h with
  | 0 | 1 | 2 | 3 =>
    canon_tiles x hx
    all_goals change Fin.val _ * 256 + d.val = _ at hx1
    all_goals first
      | (exfalso; omega)
      | skip
    all_goals
      obtain rfl : x = ix2 r d := idx_ix2 x r d hx0.symm (by omega)
      sl_unfold_run_names
      generalize hy : k0_pay9 (F := Ideal) _ _ _ _ _ _ _ _ _ _ = y
      obtain rfl : y = mixedV x0 x4 x5 s0 := hy.symm.trans (rB_y c a0 h0 a4 h4 a5 h5 b0 k0 x0 x4 x5 s0)
      simp only [View.readAt_eq_ld, h1.read_unread, h2.read_unread, h3.read_unread, h6.read_unread, h7.read_unread,
        k1.read_unread, k2.read_unread, k3.read_unread, View.ld_unit_zero (S := S256x128) hz, View.ld_unit_zero (S := S1x128) hz]
      unfold headRow gated hval num den score inter mrow dmat
      pointwise [k0_pay12, k0_pay14, k0_pay15, k0_pay16, k0_pay17, k0_pay18, k0_pay19, k0_pay20, k0_pay21, k0_pay22, k0_pay23,
          k0_pay24, k0_pay25, k0_pay26, k0_pay27, k0_pay28, k0_pay29, k0_pay30, k0_pay31, k0_pay32, k0_pay33,
          k0_pay34, k0_pay35, k0_pay36, k0_pay37, k0_pay38, k0_pay39, k0_pay40, k0_pay41, k0_pay42, k0_pay43,
          k0_pay44, k0_pay45, k0_pay46, k0_pay47, k0_pay48, k0_pay49, k0_pay50, k0_pay51, k0_pay52, k0_pay53,
          k0_pay54, k0_pay55, k0_pay56, k0_pay57, k0_pay58, k0_pay59, k0_pay60, k0_pay61, k0_pay62, k0_pay63,
          k0_pay64, k0_pay65, k0_pay66, k0_pay67, k0_pay68, k0_pay69, k0_pay70, k0_pay71]
      simp only [select_sge, neg_inf, zero_sub', qcol, kcol, vcol, e0, e1, e2, e3, flane_0, flane_1, flane_2, flane_3,
      ilane_0, ilane_1, ilane_2, ilane_3, Nat.zero_mul, Nat.one_mul, Nat.zero_add,
        Nat.reduceMul, Nat.reduceAdd]
      rfl

def newC (h : Fin 4) (a : Fin 128) (d : Fin 256) : EReal :=
  cnew Ideal.exp2 (fun s a => mixed x0 x4 x5 s0 s (kcol h a) * kscale)
    (fun s d => x1 (ix2 s (vcol h d))) (fun s => k0_pay11 x3 x6 (ix2 s (ilane h))) (fun s => k0_pay13 x3 x6 (ix2 s (flane h)))
    (fun a d => s1 (ix3 h a d)) (s3 (ix3 h 0 0)) 255 a d

def newN (h : Fin 4) (a : Fin 128) : EReal :=
  nnew Ideal.exp2 (fun s a => mixed x0 x4 x5 s0 s (kcol h a) * kscale)
    (fun s => k0_pay11 x3 x6 (ix2 s (ilane h))) (fun s => k0_pay13 x3 x6 (ix2 s (flane h)))
    (fun a => s2 (ix3 h 0 a)) (s3 (ix3 h 0 0)) 255 a

def newM (h : Fin 4) : EReal :=
  mnew (fun s => k0_pay11 x3 x6 (ix2 s (ilane h))) (fun s => k0_pay13 x3 x6 (ix2 s (flane h))) (s3 (ix3 h 0 0)) 255

theorem keep_B (hc0 : ¬cond0_0 i) (j : Fin 16) (hj : j.val < 8) (l : Fin 1024) :
    sout0_B_0 c i a0 h0 a1 h1 a2 h2 a3 h3 a4 h4 a5 h5 a6 h6 a7 h7 a8 h8 b0 k0 b1 k1 b2 k2 b3 k3 hc0 x0 x1 x2 x3 x4 x5 x6 x7
        s0 s1 s2 s3 (ix2 j l) = x0 (ix2 ⟨248 + j.val, by omega⟩ l) := by
  unfold sout0_B_0
  unfold kernelRun0_B
  dsimp only
  refine (View.read_writes_cons_rows_of_mem VS0_0 _ inb_S16x1024_S8x1024_0_0 _ _ (ix2 j l)
    (ix2 ⟨j.val, hj⟩ l) rfl (by show j.val = 0 + j.val; omega) rfl).trans ?_
  simp only [View.readAt_eq_ld, h0.read_unread]
  pointwise [k0_pay8]

set_option maxHeartbeats 1000000 in
theorem newC_B (hc0 : ¬cond0_0 i) (h : Fin 4) (a : Fin 128) (d : Fin 256) :
    sout0_B_1 c i a0 h0 a1 h1 a2 h2 a3 h3 a4 h4 a5 h5 a6 h6 a7 h7 a8 h8 b0 k0 b1 k1 b2 k2 b3 k3 hc0 x0 x1 x2 x3 x4 x5 x6 x7
        s0 s1 s2 s3 (ix3 h a d) = newC x0 x1 x3 x4 x5 x6 s0 s1 s3 h a d := by
  unfold sout0_B_1
  rw [View.read_writes_junk_eq_canon]
  unfold kernelRun0_B
  dsimp only
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  canon_tiles x hx
  all_goals
    change h.val = _ at hx0
    have hxb := (x 0).isLt
    change (x 0).val < 1 at hxb
  all_goals first
    | (have hh : h.val = 0 := by omega
       obtain rfl : h = 0 := Fin.ext hh)
    | (have hh : h.val = 1 := by omega
       obtain rfl : h = 1 := Fin.ext hh)
    | (have hh : h.val = 2 := by omega
       obtain rfl : h = 2 := Fin.ext hh)
    | (have hh : h.val = 3 := by omega
       obtain rfl : h = 3 := Fin.ext hh)
  all_goals
    obtain rfl : x = ix3 0 a d := idx_ix3 x 0 a d (by show (x 0).val = 0; omega) hx1.symm hx2.symm
    sl_unfold_run_names
    generalize hy : k0_pay9 (F := Ideal) _ _ _ _ _ _ _ _ _ _ = y
    obtain rfl : y = mixedV x0 x4 x5 s0 := hy.symm.trans (rB_y c a0 h0 a4 h4 a5 h5 b0 k0 x0 x4 x5 s0)
    simp only [View.readAt_eq_ld, h1.read_unread, h2.read_unread, h3.read_unread, h6.read_unread, h7.read_unread,
      k1.read_unread, k2.read_unread, k3.read_unread, View.ld_unit_zero (S := S256x128) hz, View.ld_unit_zero (S := S1x128) hz]
    unfold newC cnew decay wcol mnew acol
    pointwise [k0_pay12, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43,
        k0_pay44, k0_pay45, k0_pay66, k0_pay67, k0_pay68, k0_pay69, k0_pay70, k0_pay71, k0_pay72, k0_pay73, k0_pay74, k0_pay75, k0_pay76, k0_pay77, k0_pay78, k0_pay79,
        k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108,
        k0_pay109]
    simp only [neg_inf, zero_sub', qcol, kcol, vcol, e0, e1, e2, e3, flane_0, flane_1, flane_2, flane_3,
      ilane_0, ilane_1, ilane_2, ilane_3, Nat.zero_mul, Nat.one_mul, Nat.zero_add,
      Nat.reduceMul, Nat.reduceAdd]
    rfl

set_option maxHeartbeats 1000000 in
theorem newN_B (hc0 : ¬cond0_0 i) (h : Fin 4) (a : Fin 128) :
    sout0_B_2 c i a0 h0 a1 h1 a2 h2 a3 h3 a4 h4 a5 h5 a6 h6 a7 h7 a8 h8 b0 k0 b1 k1 b2 k2 b3 k3 hc0 x0 x1 x2 x3 x4 x5 x6 x7
        s0 s1 s2 s3 (ix3 h 0 a) = newN x0 x3 x4 x5 x6 s0 s2 s3 h a := by
  unfold sout0_B_2
  rw [View.read_writes_junk_eq_canon]
  unfold kernelRun0_B
  dsimp only
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  canon_tiles x hx
  all_goals
    change h.val = _ at hx0
    have hxb := (x 0).isLt
    change (x 0).val < 1 at hxb
  all_goals first
    | (have hh : h.val = 0 := by omega
       obtain rfl : h = 0 := Fin.ext hh)
    | (have hh : h.val = 1 := by omega
       obtain rfl : h = 1 := Fin.ext hh)
    | (have hh : h.val = 2 := by omega
       obtain rfl : h = 2 := Fin.ext hh)
    | (have hh : h.val = 3 := by omega
       obtain rfl : h = 3 := Fin.ext hh)
  all_goals
    obtain rfl : x = ix3 0 0 a := idx_ix3 x 0 0 a (by show (x 0).val = 0; omega) hx1.symm hx2.symm
    sl_unfold_run_names
    generalize hy : k0_pay9 (F := Ideal) _ _ _ _ _ _ _ _ _ _ = y
    obtain rfl : y = mixedV x0 x4 x5 s0 := hy.symm.trans (rB_y c a0 h0 a4 h4 a5 h5 b0 k0 x0 x4 x5 s0)
    simp only [View.readAt_eq_ld, h1.read_unread, h2.read_unread, h3.read_unread, h6.read_unread, h7.read_unread,
      k1.read_unread, k2.read_unread, k3.read_unread, View.ld_unit_zero (S := S256x128) hz, View.ld_unit_zero (S := S1x128) hz]
    unfold newN nnew decay wcol mnew acol
    pointwise [k0_pay12, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43,
        k0_pay44, k0_pay45, k0_pay66, k0_pay67, k0_pay68, k0_pay69, k0_pay70, k0_pay71, k0_pay72, k0_pay73, k0_pay74, k0_pay75, k0_pay76, k0_pay77, k0_pay78, k0_pay79,
        k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108,
        k0_pay109]
    simp only [neg_inf, zero_sub', qcol, kcol, vcol, e0, e1, e2, e3, flane_0, flane_1, flane_2, flane_3,
      ilane_0, ilane_1, ilane_2, ilane_3, Nat.zero_mul, Nat.one_mul, Nat.zero_add,
      Nat.reduceMul, Nat.reduceAdd]
    rfl

set_option maxHeartbeats 1000000 in
theorem newM_B (hc0 : ¬cond0_0 i) (h : Fin 4) (l : Fin 128) :
    sout0_B_3 c i a0 h0 a1 h1 a2 h2 a3 h3 a4 h4 a5 h5 a6 h6 a7 h7 a8 h8 b0 k0 b1 k1 b2 k2 b3 k3 hc0 x0 x1 x2 x3 x4 x5 x6 x7
        s0 s1 s2 s3 (ix3 h 0 l) = newM x3 x6 s3 h := by
  unfold sout0_B_3
  rw [View.read_writes_junk_eq_canon]
  unfold kernelRun0_B
  dsimp only
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  canon_tiles x hx
  all_goals
    change h.val = _ at hx0
    have hxb := (x 0).isLt
    change (x 0).val < 1 at hxb
  all_goals first
    | (have hh : h.val = 0 := by omega
       obtain rfl : h = 0 := Fin.ext hh)
    | (have hh : h.val = 1 := by omega
       obtain rfl : h = 1 := Fin.ext hh)
    | (have hh : h.val = 2 := by omega
       obtain rfl : h = 2 := Fin.ext hh)
    | (have hh : h.val = 3 := by omega
       obtain rfl : h = 3 := Fin.ext hh)
  all_goals
    obtain rfl : x = ix3 0 0 l := idx_ix3 x 0 0 l (by show (x 0).val = 0; omega) hx1.symm hx2.symm
    sl_unfold_run_names
    simp only [View.readAt_eq_ld, h1.read_unread, h2.read_unread, h3.read_unread, h6.read_unread, h7.read_unread,
      k1.read_unread, k2.read_unread, k3.read_unread, View.ld_unit_zero (S := S256x128) hz, View.ld_unit_zero (S := S1x128) hz]
    unfold newM mnew acol
    pointwise [k0_pay1, k0_pay12, k0_pay14, k0_pay15, k0_pay16, k0_pay17, k0_pay18, k0_pay19, k0_pay20, k0_pay21, k0_pay22, k0_pay23,
        k0_pay24, k0_pay25, k0_pay26, k0_pay27, k0_pay28, k0_pay29, k0_pay30, k0_pay31, k0_pay32, k0_pay33,
        k0_pay34, k0_pay35, k0_pay36, k0_pay37, k0_pay38, k0_pay39, k0_pay40, k0_pay41, k0_pay42, k0_pay43,
        k0_pay44, k0_pay45, k0_pay66, k0_pay67, k0_pay68, k0_pay69, k0_pay70, k0_pay71, k0_pay72, k0_pay73, k0_pay74, k0_pay75, k0_pay76, k0_pay77, k0_pay78, k0_pay79,
        k0_pay80, k0_pay81, k0_pay82, k0_pay83, k0_pay84, k0_pay85, k0_pay86, k0_pay87, k0_pay88, k0_pay89,
        k0_pay90, k0_pay91, k0_pay92, k0_pay93, k0_pay94, k0_pay95, k0_pay96, k0_pay97, k0_pay98, k0_pay99,
        k0_pay100, k0_pay101, k0_pay102, k0_pay103, k0_pay104, k0_pay105, k0_pay106, k0_pay107, k0_pay108,
        k0_pay109]
    simp only [neg_inf, zero_sub', qcol, kcol, vcol, e0, e1, e2, e3, flane_0, flane_1, flane_2, flane_3,
      ilane_0, ilane_1, ilane_2, ilane_3, Nat.zero_mul, Nat.one_mul, Nat.zero_add,
      Nat.reduceMul, Nat.reduceAdd]
  all_goals rfl

end Body

end Cert.Mlstm
-- ==== Proof.MlstmTokens.lean ====
/- The sequences that both programs read out of their arguments, in the layer's words: a sequence's queries, keys, values
   and gates at each token and head; under finite arguments they are real. -/
module

public import proofs.«01_k».proof.Proof.MlstmBlock

@[expose] public section

set_option maxRecDepth 16384

noncomputable section

namespace Cert.Mlstm

open Idealize.ShloMosaic

/-- A real extended real. -/
def IsR (x : EReal) : Prop := ∃ r : ℝ, x = r

theorem IsR.eq {x : EReal} (h : IsR x) : x = (x.toReal : EReal) := by
  obtain ⟨r, rfl⟩ := h
  rfl

theorem IsR.zero : IsR 0 := ⟨0, rfl⟩

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.silu {x : EReal} (hx : IsR x) : IsR (silu x) := by
  obtain ⟨a, rfl⟩ := hx
  have h : (1 : ℝ) + Real.exp (-a) ≠ 0 := by have := Real.exp_pos (-a); positivity
  refine ⟨a * (1 / (1 + Real.exp (-a))), ?_⟩
  unfold Cert.Mlstm.silu
  have e : Ideal.div 1 (1 + Ideal.exp (-(a : EReal))) = ((1 / (1 + Real.exp (-a)) : ℝ) : EReal) := by
    rw [← EReal.coe_neg, Ideal.exp_coe, ← EReal.coe_one, ← EReal.coe_add, Ideal.div_coe h, ← EReal.coe_mul, one_mul]
  rw [e, ← EReal.coe_mul]

theorem isR_kscale : IsR kscale := by
  unfold kscale
  simp [Ideal.ofBits, Ideal.ieee]
  exact ⟨_, rfl⟩

/-- A finite value passes the comparison of its magnitude with infinity, and nothing else does. -/
theorem isR_of_olt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- The logarithm of the logistic function. -/
def lsig (f : ℝ) : ℝ := min f 0 - Real.log (1 + Real.exp (-|f|))

theorem coe_min (a b : ℝ) : ((min a b : ℝ) : EReal) = min (a : EReal) (b : EReal) := EReal.coe_strictMono.monotone.map_min

theorem coe_abs (f : ℝ) : max (f : EReal) (-(f : EReal)) = ((|f| : ℝ) : EReal) := by
  rw [← EReal.coe_neg, coe_max]
  rfl

theorem log1p_exp (f : ℝ) : Ideal.log1p (Ideal.exp ((f : ℝ) : EReal)) = ((Real.log (1 + Real.exp f) : ℝ) : EReal) := by
  have h : ¬ (1 + Real.exp f ≤ 0) := by have := Real.exp_pos f; linarith
  rw [Ideal.exp_coe]
  show Ideal.log (1 + ((Real.exp f : ℝ) : EReal)) = _
  rw [← EReal.coe_one, ← EReal.coe_add, Ideal.log_coe, if_neg h]

/-- The kernel's spelling. -/
theorem lsig_kernel (f : ℝ) : min (f : EReal) 0 - Ideal.log1p (Ideal.exp (-(max (f : EReal) (-(f : EReal))))) = (lsig f : EReal) := by
  rw [coe_abs, ← EReal.coe_neg, log1p_exp, ← EReal.coe_zero, ← coe_min, ← EReal.coe_sub]
  rfl

/-- The reference's spelling: minus the softplus of the negation. -/
theorem lsig_reference (f : ℝ) : -(max (-(f : EReal)) 0 + Ideal.log1p (Ideal.exp (-(max (-(f : EReal)) (- -(f : EReal)))))) = (lsig f : EReal) := by
  rw [← EReal.coe_neg, coe_abs, ← EReal.coe_neg, log1p_exp, ← EReal.coe_zero, coe_max, ← EReal.coe_add, ← EReal.coe_neg, abs_neg]
  congr 1
  unfold lsig
  rcases le_total f 0 with h | h
  · rw [max_eq_left (by linarith), min_eq_left h]; ring
  · rw [max_eq_right (by linarith), min_eq_right h]; ring

section Inputs

variable (z : (⟨2, ![32768, 3200]⟩ : Shape).Idx → EReal) (w : (⟨2, ![4, 1024]⟩ : Shape).Idx → EReal)
  (cb : (⟨1, ![1024]⟩ : Shape).Idx → EReal) (g : (⟨2, ![2, 4]⟩ : Shape).Idx → EReal)

/-- Token `t` of sequence `b`. -/
def row (b t : ℕ) : Fin 32768 := ⟨(b * 8192 + t) % 32768, Nat.mod_lt _ (by norm_num)⟩

/-- The query and key columns `j` tokens before token `t`, zero before the sequence begins. -/
def past (b t j : ℕ) (c : Fin 1024) : EReal := if j ≤ t then z (ix2 (row b (t - j)) ⟨c.val, by omega⟩) else 0

/-- The causal convolution over four tokens, then the activation. -/
def mix (b t : ℕ) (c : Fin 1024) : EReal :=
  silu (cb (ix1 c) + w (ix2 3 c) * past z b t 0 c + w (ix2 2 c) * past z b t 1 c + w (ix2 1 c) * past z b t 2 c
    + w (ix2 0 c) * past z b t 3 c)

def igate (b : ℕ) (h : Fin 4) (t : ℕ) : EReal := z (ix2 (row b t) ⟨3072 + h.val, by omega⟩) + g (ix2 0 h)
def fgate (b : ℕ) (h : Fin 4) (t : ℕ) : EReal := z (ix2 (row b t) ⟨3076 + h.val, by omega⟩) + g (ix2 1 h)

/-- A head's real sequences, the gates in units of `1 / κ`. -/
def toks (κ : ℝ) (L : ℕ) (b : ℕ) (h : Fin 4) : Tokens L 128 256 where
  q t a := (mix z w cb b t (qcol h a)).toReal
  k t a := (mix z w cb b t (kcol h a) * kscale).toReal
  v t d := (z (ix2 (row b t) ⟨1024 + (vcol h d).val, by omega⟩)).toReal
  ig t := (igate z g b h t).toReal * κ
  lf t := lsig (fgate z g b h t).toReal * κ

/-- The plain recurrence to base two on gates in units of `log 2`, and to base `e`. -/
theorem out_base (L L' : ℕ) (b : ℕ) (h : Fin 4) (t : ℕ) (d : Fin 256) :
    (toks z w cb g (Real.log 2)⁻¹ L b h).out (fun x => Real.rpow 2 x) t d = (toks z w cb g 1 L' b h).out Real.exp t d := by
  have e : ∀ x : ℝ, Real.rpow 2 (x * (Real.log 2)⁻¹) = Real.exp (x * 1) := fun x => by
    show (2 : ℝ) ^ (x * (Real.log 2)⁻¹) = _
    rw [Real.rpow_def_of_pos (by norm_num)]
    congr 1
    have : Real.log 2 ≠ 0 := Real.log_ne_zero_of_pos_of_ne_one (by norm_num) (by norm_num)
    field_simp
  unfold Tokens.out Tokens.cell Tokens.nrm toks
  simp only [e]

/-- The layer's output: each head's recurrence, its norm, gain and gate. -/
def value (gn : (⟨1, ![1024]⟩ : Shape).Idx → EReal) : (⟨2, ![32768, 1024]⟩ : Shape).Idx → EReal := fun i =>
  have h1 : (i 1).val < 1024 := (i 1).isLt
  gated (fun d => ((toks z w cb g 1 64 ((i 0).val / 8192) ⟨(i 1).val / 256, by omega⟩).out Real.exp ((i 0).val % 8192) d : EReal))
    (gn (ix1 (i 1))) (z (ix2 (i 0) ⟨2048 + (i 1).val, by omega⟩)) ⟨(i 1).val % 256, Nat.mod_lt _ (by norm_num)⟩

theorem col_split (l : Fin 1024) : ∃ (h : Fin 4) (d : Fin 256), l = vcol h d :=
  ⟨⟨l.val / 256, by omega⟩, ⟨l.val % 256, Nat.mod_lt _ (by norm_num)⟩,
    Fin.ext (by show l.val = l.val / 256 * 256 + l.val % 256; omega)⟩

theorem value_apply (gn : (⟨1, ![1024]⟩ : Shape).Idx → EReal) (b t : ℕ) (hb : b < 4) (ht : t < 8192) (h : Fin 4) (d : Fin 256) :
    value z w cb g gn (ix2 (row b t) (vcol h d))
      = gated (fun d => ((toks z w cb g 1 64 b h).out Real.exp t d : EReal)) (gn (ix1 (vcol h d)))
        (z (ix2 (row b t) ⟨2048 + (vcol h d).val, by omega⟩)) d := by
  have hr : (row b t).val = b * 8192 + t := by show (b * 8192 + t) % 32768 = _; omega
  have hv : (vcol h d).val = h.val * 256 + d.val := rfl
  have e1 : (row b t).val / 8192 = b := by omega
  have e2 : (row b t).val % 8192 = t := by omega
  have e3 : (⟨(vcol h d).val / 256, by omega⟩ : Fin 4) = h := Fin.ext (by dsimp only; omega)
  have e4 : (⟨(vcol h d).val % 256, Nat.mod_lt _ (by norm_num)⟩ : Fin 256) = d := Fin.ext (by dsimp only; omega)
  show gated (fun e => ((toks z w cb g 1 64 ((row b t).val / 8192) ⟨(vcol h d).val / 256, _⟩).out Real.exp ((row b t).val % 8192) e : EReal))
    _ _ ⟨(vcol h d).val % 256, _⟩ = _
  rw [e1, e2, e3, e4]
  rfl

variable {z w cb g}

theorem IsR.past (hz : ∀ i, IsR (z i)) (b t j : ℕ) (c : Fin 1024) : IsR (past z b t j c) := by
  unfold Cert.Mlstm.past
  split
  · exact hz _
  · exact IsR.zero

theorem IsR.mix (hz : ∀ i, IsR (z i)) (hw : ∀ i, IsR (w i)) (hcb : ∀ i, IsR (cb i)) (b t : ℕ) (c : Fin 1024) :
    IsR (mix z w cb b t c) := by
  unfold Cert.Mlstm.mix
  exact ((((((hcb _).add ((hw _).mul (IsR.past hz _ _ _ _))).add ((hw _).mul (IsR.past hz _ _ _ _))).add
    ((hw _).mul (IsR.past hz _ _ _ _)))).add ((hw _).mul (IsR.past hz _ _ _ _))).silu

end Inputs

end Cert.Mlstm
-- ==== Proof.MlstmReads.lean ====
/- What one grid point of the mLSTM kernel reads, in the layer's words: the blocks of its arguments, and from them the
   queries, keys, values and gates of 256 consecutive tokens. -/
module

public import proofs.«01_k».proof.Proof.MlstmTokens

@[expose] public section

set_option maxRecDepth 16384

noncomputable section

namespace Cert.Mlstm

open Cert.KernelIdeal Cert.KernelIdeal.Gen Idealize.ShloMosaic Idealize.ShloMosaic.TcCoe Idealize.SL.Sem
open Idealize.ShloMosaic.Pipeline (Dat)

/-- The named constant is the reciprocal of `log 2`. -/
theorem log2e_val : (Named.named (F := Ideal) κ "log2e" 0x3FB8AA3B#32 : Ideal .f32) = (((Real.log 2)⁻¹ : ℝ) : EReal) :=
  IdealRules.named_const.ideal_named_scalar _ _ _ _ rfl

theorem pay10_apply (x3 : Vec Ideal S256x128 .f32) (x6 : Vec Ideal S1x128 .f32) (r : Fin 256) (l : Fin 128) :
    k0_pay10 x3 x6 (ix2 r l) = x3 (ix2 r l) + x6 (ix2 0 l) := by
  pointwise [k0_pay10]

theorem pay11_apply (x3 : Vec Ideal S256x128 .f32) (x6 : Vec Ideal S1x128 .f32) (r : Fin 256) (l : Fin 128) :
    k0_pay11 x3 x6 (ix2 r l) = (x3 (ix2 r l) + x6 (ix2 0 l)) * (((Real.log 2)⁻¹ : ℝ) : EReal) := by
  rw [← pay10_apply, ← log2e_val]
  rfl

/-- The logarithm of the logistic of a gate, in units of `log 2`. -/
def lgate (x : EReal) : EReal :=
  (min x 0 - Ideal.log1p (Ideal.exp (-(max x (-x))))) * (((Real.log 2)⁻¹ : ℝ) : EReal)

/-- The running sum over the block's rows, as a product with the lower triangle of ones. -/
theorem pay13_apply (x3 : Vec Ideal S256x128 .f32) (x6 : Vec Ideal S1x128 .f32) (r : Fin 256) (l : Fin 128) :
    k0_pay13 x3 x6 (ix2 r l) = ∑ s : Fin 256, (if s ≤ r then 1 else 0) * lgate (x3 (ix2 s l) + x6 (ix2 0 l)) := by
  have e : ∀ s : Fin 256, FloatOps.sitofp (F := Ideal) .f32 ((IntOp.cmpi CmpIPredicate.sge (BitVec.ofNat 32 r.val) (BitVec.ofNat 32 s.val)).setWidth 32)
      = if s ≤ r then (1 : EReal) else 0 := fun s => by
    have h := select_sge r s (1 : EReal) 0
    rw [← h]
    generalize IntOp.cmpi CmpIPredicate.sge (BitVec.ofNat 32 r.val) (BitVec.ofNat 32 s.val) = q
    obtain rfl | rfl : q = 0#1 ∨ q = 1#1 := by revert q; decide
    · show ((((BitVec.setWidth 32 0#1).toInt : ℤ) : ℝ) : EReal) = 0
      simp
    · show ((((BitVec.setWidth 32 1#1).toInt : ℤ) : ℝ) : EReal) = 1
      simp
  unfold lgate
  simp only [← pay10_apply, ← log2e_val, ← e]
  pointwise [k0_pay13, k0_pay12]
  simp only [pay10_apply, zero_sub', Ideal.absf_def]

/-- The running sum as a masked sum over the block's rows. -/
theorem cum_tri (f : ℕ → ℝ) (p : ℕ) {L : ℕ} (r : Fin L) :
    (∑ s : Fin L, if s.val ≤ r.val then f (p + s.val) else 0) = cum f p (r.val + 1) := by
  rw [Fin.sum_univ_eq_sum_range (fun s => if s ≤ r.val then f (p + s) else 0) L,
    ← Finset.sum_subset (Finset.range_mono (show r.val + 1 ≤ L from r.isLt))
      (fun s _ hs => if_neg (by rw [Finset.mem_range] at hs; omega))]
  exact Finset.sum_congr rfl fun s hs => if_pos (by rw [Finset.mem_range] at hs; omega)

section Point

variable {z : (⟨2, ![32768, 3200]⟩ : Shape).Idx → EReal} {w : (⟨2, ![4, 1024]⟩ : Shape).Idx → EReal}
  {cb : (⟨1, ![1024]⟩ : Shape).Idx → EReal} {g : (⟨2, ![2, 4]⟩ : Shape).Idx → EReal}
  {b p : ℕ} {x0 x1 x2 : Vec Ideal S256x1024 .f32} {x3 : Vec Ideal S256x128 .f32} {x4 : Vec Ideal S4x1024 .f32}
  {x5 : Vec Ideal S1x1024 .f32} {x6 : Vec Ideal S1x128 .f32} {s0 : Vec Ideal S16x1024 .f32}

variable (z w cb g b p x0 x1 x3 x4 x5 x6 s0) in
/-- The blocks at token `p` of sequence `b`. -/
structure Blocks : Prop where
  x0 : ∀ r c, x0 (ix2 r c) = z (ix2 (row b (p + r.val)) ⟨c.val, by omega⟩)
  x1 : ∀ r c, x1 (ix2 r c) = z (ix2 (row b (p + r.val)) ⟨1024 + c.val, by omega⟩)
  x3 : ∀ r l, x3 (ix2 r l) = z (ix2 (row b (p + r.val)) ⟨3072 + l.val, by omega⟩)
  x4 : ∀ j c, x4 (ix2 j c) = w (ix2 j c)
  x5 : ∀ c, x5 (ix2 0 c) = cb (ix1 c)
  x6i : ∀ h, x6 (ix2 0 (ilane h)) = g (ix2 0 h)
  x6f : ∀ h, x6 (ix2 0 (flane h)) = g (ix2 1 h)
  s0 : ∀ (i : Fin 16) (c : Fin 1024), i.val < 8 →
    s0 (ix2 i c) = if 8 ≤ p + i.val then z (ix2 (row b (p + i.val - 8)) ⟨c.val, by omega⟩) else 0

theorem Blocks.tap (H : Blocks z w cb g b p x0 x1 x3 x4 x5 x6 s0) (j : ℕ) (hj : j ≤ 3) (r : Fin 256) (c : Fin 1024) :
    tap x0 s0 j r c = past z b (p + r.val) j c := by
  unfold Cert.Mlstm.tap past
  by_cases h : j ≤ r.val
  · rw [if_pos h, if_pos (by omega), H.x0]
    exact congrArg (fun t => z (ix2 (row b t) _)) (by dsimp only; omega)
  · have e : (8 + r.val - j) % 16 = 8 + r.val - j := Nat.mod_eq_of_lt (by omega)
    rw [if_neg h, H.s0 _ _ (by dsimp only; omega)]
    simp only [e]
    by_cases h' : j ≤ p + r.val
    · rw [if_pos h', if_pos (by omega)]
      exact congrArg (fun t => z (ix2 (row b t) _)) (by omega)
    · rw [if_neg h', if_neg (by omega)]

theorem Blocks.mixed (H : Blocks z w cb g b p x0 x1 x3 x4 x5 x6 s0) (r : Fin 256) (c : Fin 1024) :
    mixed x0 x4 x5 s0 r c = mix z w cb b (p + r.val) c := by
  unfold Cert.Mlstm.mixed mix
  rw [H.tap 0 (by omega), H.tap 1 (by omega), H.tap 2 (by omega), H.tap 3 (by omega), H.x5, H.x4, H.x4, H.x4, H.x4]

theorem lgate_eq {x : EReal} (hx : IsR x) : lgate x = ((lsig x.toReal * (Real.log 2)⁻¹ : ℝ) : EReal) := by
  obtain ⟨f, rfl⟩ := hx
  unfold lgate
  rw [lsig_kernel, ← EReal.coe_mul]
  rfl

/-- The block's queries, keys, values and gates are the sequence's. -/
theorem Blocks.reads (H : Blocks z w cb g b p x0 x1 x3 x4 x5 x6 s0) (hz : ∀ i, IsR (z i)) (hw : ∀ i, IsR (w i))
    (hcb : ∀ i, IsR (cb i)) (hg : ∀ i, IsR (g i)) (h : Fin 4) :
    Reads (toks z w cb g (Real.log 2)⁻¹ 256 b h) p (fun r a => Cert.Mlstm.mixed x0 x4 x5 s0 r (qcol h a))
      (fun s a => Cert.Mlstm.mixed x0 x4 x5 s0 s (kcol h a) * kscale) (fun s d => x1 (ix2 s (vcol h d)))
      (fun s => k0_pay11 x3 x6 (ix2 s (ilane h))) (fun s => k0_pay13 x3 x6 (ix2 s (flane h))) where
  q r a := by
    rw [H.mixed]
    exact (IsR.mix hz hw hcb _ _ _).eq
  k r a := by
    rw [H.mixed]
    exact ((IsR.mix hz hw hcb _ _ _).mul isR_kscale).eq
  v r d := by
    rw [H.x1]
    exact (hz _).eq
  ig r := by
    rw [pay11_apply, H.x3, H.x6i]
    have hi : IsR (igate z g b h (p + r.val)) := (hz _).add (hg _)
    show igate z g b h (p + r.val) * _ = (((igate z g b h (p + r.val)).toReal * (Real.log 2)⁻¹ : ℝ) : EReal)
    rw [EReal.coe_mul, ← hi.eq]
  bc r := by
    have e : ∀ s : Fin 256, (if s ≤ r then (1 : EReal) else 0) * lgate (x3 (ix2 s (flane h)) + x6 (ix2 0 (flane h)))
        = ((if s.val ≤ r.val then (toks z w cb g (Real.log 2)⁻¹ 256 b h).lf (p + s.val) else 0 : ℝ) : EReal) := fun s => by
      rw [H.x3, H.x6f]
      have hf : IsR (fgate z g b h (p + s.val)) := (hz _).add (hg _)
      have hc : z (ix2 (row b (p + s.val)) ⟨3072 + (flane h).val, by omega⟩) + g (ix2 1 h) = fgate z g b h (p + s.val) := by
        unfold fgate
        exact congrArg (fun t => z (ix2 _ t) + _) (Fin.ext (by show 3072 + (4 + h.val) = 3076 + h.val; omega))
      rw [hc, lgate_eq hf]
      by_cases hs : s.val ≤ r.val
      · rw [if_pos hs, if_pos (Fin.le_def.mpr hs), one_mul]
        rfl
      · rw [if_neg hs, if_neg (fun q => hs (Fin.le_def.mp q)), zero_mul]
        rfl
    rw [pay13_apply, Finset.sum_congr rfl fun s _ => e s, sum_coe, cum_tri]

end Point

end Cert.Mlstm
-- ==== Proof.MlstmFirst.lean ====
/- The first grid point of a sequence: what the point leaves is what a later point would, had the carried buffers held
   zeros. -/
module

public import proofs.«01_k».proof.Proof.MlstmBlock

@[expose] public section

set_option maxRecDepth 16384

noncomputable section

namespace Cert.Mlstm

open Cert.KernelIdeal Cert.KernelIdeal.Gen Idealize.ShloMosaic Idealize.ShloMosaic.TcCoe Idealize.SL.Sem
open Idealize.ShloMosaic.Pipeline (Dat)

/-- A window of eight of the sixteen buffered rows, over an all-zero past. -/
def bufW (x0 : Vec Ideal S256x1024 .f32) (o : ℕ) : Vec Ideal S8x1024 .f32 := fun j =>
  buffered x0 (fun _ => 0) ⟨(o + (j 0).val) % 16, Nat.mod_lt _ (by norm_num)⟩ (j 1)

theorem bufW_B (b0 : Memref sig .tc .vmem S16x1024 .f32) (k0 : b0.IsWhole) (x0 : Vec Ideal S256x1024 .f32) (o : ℕ)
    (inb : ∀ a, (![o, 0] : Fin 2 → ℕ) a + (![8, 1024] : Fin 2 → ℕ) a ≤ S16x1024.size a) :
    View.ld (View.read (Elt Ideal) b0.view (b0.view.writes (Elt Ideal) (k0.unread fun _ => (0 : EReal))
      [⟨Rect.unit ![8, 0] ![8, 1024] inb_S16x1024_S8x1024_8_0,
        k0_pay6 (View.ld x0 (Rect.unit ![0, 0] ![8, 1024] inb_S256x1024_S8x1024_0_0))⟩]))
      (Rect.unit (s := S16x1024) ![o, 0] ![8, 1024] inb) = bufW x0 o := by
  funext j
  have hj : (j 0).val < 8 := (j 0).isLt
  have ho : o + 8 ≤ 16 := inb 0
  have e : (o + (j 0).val) % 16 = o + (j 0).val := Nat.mod_eq_of_lt (by omega)
  refine (View.ld_unit_apply_of _ _ _ _ j (ix2 ⟨o + (j 0).val, by omega⟩ (j 1)) (Fin.forall_fin_two.mpr ⟨rfl, (Nat.zero_add _).symm⟩)).trans
    ((buf_B b0 k0 x0 _ ⟨o + (j 0).val, by omega⟩ (j 1)).trans ?_)
  unfold bufW
  exact congrArg (fun t => buffered x0 (fun _ => 0) t (j 1)) (Fin.ext e.symm)

theorem bufW_B' (b0 : Memref sig .tc .vmem S16x1024 .f32) (x0 : Vec Ideal S256x1024 .f32) :
    b0.view.readCov (Val := Elt Ideal)
      [⟨Rect.unit ![8, 0] ![8, 1024] inb_S16x1024_S8x1024_8_0,
        k0_pay6 (View.ld x0 (Rect.unit ![0, 0] ![8, 1024] inb_S256x1024_S8x1024_0_0))⟩]
      (Rect.unit (s := S16x1024) ![8, 0] ![8, 1024] inb_S16x1024_S8x1024_8_0).toLoadRect = bufW x0 8 := by
  funext j
  have hj : (j 0).val < 8 := (j 0).isLt
  have e : (8 + (j 0).val) % 16 = 8 + (j 0).val := Nat.mod_eq_of_lt (by omega)
  rw [show j = ix2 (j 0) (j 1) from eq_ix2 j]
  refine (buf_B' b0 x0 (j 0) (j 1)).trans ?_
  unfold bufW buffered
  change _ = if 8 ≤ (8 + (j 0).val) % 16 then _ else _
  rw [if_pos (by omega)]
  exact congrArg (fun t => x0 (ix2 t (j 1))) (Fin.ext (by show (j 0).val = (8 + (j 0).val) % 16 - 8; omega))

theorem bufW_A (b0 : Memref sig .tc .vmem S16x1024 .f32) (x0 : Vec Ideal S256x1024 .f32) (o : ℕ)
    (inb : ∀ a, (![o, 0] : Fin 2 → ℕ) a + (![8, 1024] : Fin 2 → ℕ) a ≤ S16x1024.size a) :
    b0.view.readCov (Val := Elt Ideal)
      [⟨Rect.unit ![8, 0] ![8, 1024] inb_S16x1024_S8x1024_8_0,
        k0_pay6 (View.ld x0 (Rect.unit ![0, 0] ![8, 1024] inb_S256x1024_S8x1024_0_0))⟩,
       ⟨Rect.unit ![0, 0] ![8, 1024] inb_S16x1024_S8x1024_0_0, k0_pay2 (F := Ideal)⟩]
      (Rect.unit (s := S16x1024) ![o, 0] ![8, 1024] inb).toLoadRect = bufW x0 o := by
  funext j
  have hj : (j 0).val < 8 := (j 0).isLt
  have ho : o + 8 ≤ 16 := inb 0
  have e : (o + (j 0).val) % 16 = o + (j 0).val := Nat.mod_eq_of_lt (by omega)
  have hy : (Rect.unit (s := S16x1024) ![o, 0] ![8, 1024] inb).toLoadRect.idx j = ix2 ⟨o + (j 0).val, by omega⟩ (j 1) :=
    funext fun a => Fin.ext (by
      match a with
      | ⟨0, _⟩ => show o + 1 * (j 0).val = o + (j 0).val; omega
      | ⟨1, _⟩ => show 0 + 1 * (j 1).val = (j 1).val; omega)
  change View.read (Elt Ideal) b0.view (b0.view.writes (Elt Ideal) b0.view.junk _) (LoadRect.idx _ j) = _
  rw [hy]
  unfold bufW buffered
  simp only [e]
  by_cases h : 8 ≤ o + (j 0).val
  · rw [if_pos h]
    refine (View.read_writes_cons_rows_of_mem b0.view b0.view.junk inb_S16x1024_S8x1024_8_0 _ _ _
      (ix2 ⟨o + (j 0).val - 8, by omega⟩ (j 1)) rfl (by show o + (j 0).val = 8 + (o + (j 0).val - 8); omega) rfl).trans ?_
    pointwise [k0_pay6]
  · rw [if_neg h]
    refine (View.read_writes_cons_rows_of_not_mem b0.view b0.view.junk inb_S16x1024_S8x1024_8_0 _ _ _ rfl rfl
      (by left; show o + (j 0).val < 8; omega)).trans ?_
    refine (View.read_writes_cons_rows_of_mem b0.view b0.view.junk inb_S16x1024_S8x1024_0_0 _ _ _
      (ix2 ⟨o + (j 0).val, by omega⟩ (j 1)) rfl (by show o + (j 0).val = 0 + (o + (j 0).val); omega) rfl).trans ?_
    pointwise [k0_pay2]

/-- A load of one head's plane passes over a store to another head's. -/
theorem skip {p q : ℕ} (v : View sig .tc .vmem (⟨3, ![4, p, q]⟩ : Shape) .f32) (o o' : ℕ)
    (inb : ∀ a, (![o, 0, 0] : Fin 3 → ℕ) a + (![1, p, q] : Fin 3 → ℕ) a ≤ (⟨3, ![4, p, q]⟩ : Shape).size a)
    (inb' : ∀ a, (![o', 0, 0] : Fin 3 → ℕ) a + (![1, p, q] : Fin 3 → ℕ) a ≤ (⟨3, ![4, p, q]⟩ : Shape).size a)
    (w : (Rect.unit (s := (⟨3, ![4, p, q]⟩ : Shape)) ![o', 0, 0] ![1, p, q] inb').shape.Idx → EReal)
    (L : List (View.Piece (Elt Ideal) (⟨3, ![4, p, q]⟩ : Shape) .f32)) (ho : o ≠ o') :
    v.readCov (Val := Elt Ideal) (⟨Rect.unit ![o', 0, 0] ![1, p, q] inb', w⟩ :: L)
      (Rect.unit (s := (⟨3, ![4, p, q]⟩ : Shape)) ![o, 0, 0] ![1, p, q] inb).toLoadRect
    = v.readCov (Val := Elt Ideal) L
      (Rect.unit (s := (⟨3, ![4, p, q]⟩ : Shape)) ![o, 0, 0] ![1, p, q] inb).toLoadRect := by
  funext j
  have hj : (j 0).val < 1 := (j 0).isLt
  exact View.read_writes_cons_unit_of_not_mem v v.junk inb' w L
    ((Rect.unit (s := (⟨3, ![4, p, q]⟩ : Shape)) ![o, 0, 0] ![1, p, q] inb).toLoadRect.idx j) rfl (0 : Fin 3)
    (by show o + 1 * (j 0).val < o' ∨ o' + 1 ≤ o + 1 * (j 0).val; omega)

theorem canon_cons_congr {s : Shape} {e : EltTy} (p : View.Piece (Elt Ideal) s e) (L L' : List (View.Piece (Elt Ideal) s e)) (y : s.Idx)
    (h : y ∉ p.1.set → View.canon L y = View.canon L' y) : View.canon (p :: L) y = View.canon (p :: L') y := by
  by_cases hy : y ∈ p.1.set
  · obtain ⟨x, rfl⟩ : ∃ x, p.1.emb x = y := by
      rw [← Rect.map_emb_univ, Finset.mem_map] at hy
      obtain ⟨x, -, hx⟩ := hy
      exact ⟨x, hx⟩
    exact (View.canon_cons_emb p.1 p.2 L x).trans (View.canon_cons_emb p.1 p.2 L' x).symm
  · rw [View.canon_cons_of_not_mem _ _ hy, View.canon_cons_of_not_mem _ _ hy]
    exact h hy

/-- After stores to all four heads' planes, what was stored before doesn't matter. -/
theorem cover4 {p q : ℕ}
    (inb : ∀ o : Fin 4, ∀ a, (![o.val, 0, 0] : Fin 3 → ℕ) a + (![1, p, q] : Fin 3 → ℕ) a ≤ (⟨3, ![4, p, q]⟩ : Shape).size a)
    (P : ∀ o : Fin 4, (Rect.unit (s := (⟨3, ![4, p, q]⟩ : Shape)) ![o.val, 0, 0] ![1, p, q] (inb o)).shape.Idx → EReal)
    (L : List (View.Piece (Elt Ideal) (⟨3, ![4, p, q]⟩ : Shape) .f32)) :
    View.canon (⟨Rect.unit ![3, 0, 0] ![1, p, q] (inb 3), P 3⟩ :: ⟨Rect.unit ![2, 0, 0] ![1, p, q] (inb 2), P 2⟩
        :: ⟨Rect.unit ![1, 0, 0] ![1, p, q] (inb 1), P 1⟩ :: ⟨Rect.unit ![0, 0, 0] ![1, p, q] (inb 0), P 0⟩ :: L)
      = View.canon (Val := Elt Ideal) (s := (⟨3, ![4, p, q]⟩ : Shape)) (e := .f32) [⟨Rect.unit ![3, 0, 0] ![1, p, q] (inb 3), P 3⟩, ⟨Rect.unit ![2, 0, 0] ![1, p, q] (inb 2), P 2⟩,
        ⟨Rect.unit ![1, 0, 0] ![1, p, q] (inb 1), P 1⟩, ⟨Rect.unit ![0, 0, 0] ![1, p, q] (inb 0), P 0⟩] := by
  funext y
  refine canon_cons_congr _ _ _ y fun n3 => canon_cons_congr _ _ _ y fun n2 => canon_cons_congr _ _ _ y fun n1 =>
    canon_cons_congr _ _ _ y fun n0 => ?_
  exfalso
  have hm : ∀ o : Fin 4, (y 0).val = o.val → y ∈ (Rect.unit (s := (⟨3, ![4, p, q]⟩ : Shape)) ![o.val, 0, 0] ![1, p, q] (inb o)).set := by
    intro o ho
    rw [Rect.mem_set_unit]
    intro a
    match a with
    | ⟨0, _⟩ => show o.val ≤ (y 0).val ∧ (y 0).val < o.val + 1; omega
    | ⟨1, _⟩ => exact ⟨Nat.zero_le _, by show (y 1).val < 0 + p; rw [Nat.zero_add]; exact (y 1).isLt⟩
    | ⟨2, _⟩ => exact ⟨Nat.zero_le _, by show (y 2).val < 0 + q; rw [Nat.zero_add]; exact (y 2).isLt⟩
  have h4 : (y 0).val < 4 := (y 0).isLt
  have c0 : (y 0).val ≠ 0 := fun h => n0 (hm 0 h)
  have c1 : (y 0).val ≠ 1 := fun h => n1 (hm 1 h)
  have c2 : (y 0).val ≠ 2 := fun h => n2 (hm 2 h)
  have c3 : (y 0).val ≠ 3 := fun h => n3 (hm 3 h)
  omega

/-- A load of a plane of an all-zero store. -/
theorem zero3 {p q : ℕ} (v : View sig .tc .vmem (⟨3, ![4, p, q]⟩ : Shape) .f32) (o : ℕ)
    (inb : ∀ a, (![o, 0, 0] : Fin 3 → ℕ) a + (![1, p, q] : Fin 3 → ℕ) a ≤ (⟨3, ![4, p, q]⟩ : Shape).size a)
    (inb' : ∀ a, (![0, 0, 0] : Fin 3 → ℕ) a + (![4, p, q] : Fin 3 → ℕ) a ≤ (⟨3, ![4, p, q]⟩ : Shape).size a)
    (w : (Rect.unit (s := (⟨3, ![4, p, q]⟩ : Shape)) ![0, 0, 0] ![4, p, q] inb').shape.Idx → EReal)
    (hw : ∀ y, w y = 0) :
    v.readCov (Val := Elt Ideal) [⟨Rect.unit ![0, 0, 0] ![4, p, q] inb', w⟩]
      (Rect.unit (s := (⟨3, ![4, p, q]⟩ : Shape)) ![o, 0, 0] ![1, p, q] inb).toLoadRect = fun _ => 0 := by
  funext j
  have h := View.read_writes_cons_unit_of_mem (Val := Elt Ideal) v v.junk inb' w []
    ((Rect.unit (s := (⟨3, ![4, p, q]⟩ : Shape)) ![o, 0, 0] ![1, p, q] inb).toLoadRect.idx j)
    ((Rect.unit (s := (⟨3, ![4, p, q]⟩ : Shape)) ![o, 0, 0] ![1, p, q] inb).toLoadRect.idx j) rfl (fun a => by
      match a with
      | ⟨0, _⟩ => exact (Nat.zero_add _).symm
      | ⟨1, _⟩ => exact (Nat.zero_add _).symm
      | ⟨2, _⟩ => exact (Nat.zero_add _).symm)
  exact h.trans (hw _)

theorem pay3_zero (y : S4x128x256.Idx) : k0_pay3 (F := Ideal) y = 0 := by
  rw [eq_ix3 y]
  pointwise [k0_pay3]

theorem pay4_zero (y : S4x1x128.Idx) : k0_pay4 (F := Ideal) y = 0 := by
  rw [eq_ix3 y]
  pointwise [k0_pay4]

theorem pay5_zero (y : S4x1x128.Idx) : k0_pay5 (F := Ideal) y = 0 := by
  rw [eq_ix3 y]
  pointwise [k0_pay5]

theorem pay9_congr (u0 u1 u2 u3 u4 w0 w1 w2 w3 w4 : Vec Ideal S1x1024 .f32) (z0 z1 z2 z3 : Vec Ideal S248x1024 .f32) (p0 p1 p2 p3 : Vec Ideal S8x1024 .f32)
    {q0 q1 q2 q3 : Vec Ideal S8x1024 .f32} (e0 : p0 = q0) (e1 : p1 = q1) (e2 : p2 = q2) (e3 : p3 = q3) :
    k0_pay9 (k0_pay7 u0 u1 p0 u2 p1 u3 p2 u4 p3) w0 w1 z0 w2 z1 w3 z2 w4 z3
      = k0_pay9 (k0_pay7 u0 u1 q0 u2 q1 u3 q2 u4 q3) w0 w1 z0 w2 z1 w3 z2 w4 z3 := by
  rw [e0, e1, e2, e3]

section Body

variable (c : Dev nD) (i i' : grid0.Coords) (a0 : Memref sig .tc .vmem S256x1024 .f32) (h0 : a0.IsWhole)
  (a1 : Memref sig .tc .vmem S256x1024 .f32) (h1 : a1.IsWhole) (a2 : Memref sig .tc .vmem S256x1024 .f32) (h2 : a2.IsWhole)
  (a3 : Memref sig .tc .vmem S256x128 .f32) (h3 : a3.IsWhole) (a4 : Memref sig .tc .vmem S4x1024 .f32) (h4 : a4.IsWhole)
  (a5 : Memref sig .tc .vmem S1x1024 .f32) (h5 : a5.IsWhole) (a6 : Memref sig .tc .vmem S1x128 .f32) (h6 : a6.IsWhole)
  (a7 : Memref sig .tc .vmem S1x1024 .f32) (h7 : a7.IsWhole) (a8 : Memref sig .tc .vmem S256x1024 .bf16) (h8 : a8.IsWhole)
  (b0 : Memref sig .tc .vmem S16x1024 .f32) (k0 : b0.IsWhole) (b1 : Memref sig .tc .vmem S4x128x256 .f32) (k1 : b1.IsWhole)
  (b2 : Memref sig .tc .vmem S4x1x128 .f32) (k2 : b2.IsWhole) (b3 : Memref sig .tc .vmem S4x1x128 .f32) (k3 : b3.IsWhole)
  (x0 x1 x2 : Vec Ideal S256x1024 .f32) (x3 : Vec Ideal S256x128 .f32) (x4 : Vec Ideal S4x1024 .f32) (x5 : Vec Ideal S1x1024 .f32)
  (x6 : Vec Ideal S1x128 .f32) (x7 : Vec Ideal S1x1024 .f32)

include k0 in
theorem rA_y : kernelRun0_A.sl.r_1 c a0 h0 a4 h4 a5 h5 b0 x0 x4 x5 = mixedV x0 x4 x5 (fun _ => 0) := by
  refine Eq.trans ?_ (rB_y c a0 h0 a4 h4 a5 h5 b0 k0 x0 x4 x5 (fun _ => 0))
  sl_unfold_run_names
  simp only [View.readAt_eq_ld, h0.read_unread, h4.read_unread, h5.read_unread]
  refine pay9_congr _ _ _ _ _ _ _ _ _ _ _ _ _ _ _ _ _ _ ?_ ?_ ?_ ?_
  · exact (bufW_A b0 x0 8 _).trans (bufW_B' b0 x0).symm
  · exact (bufW_A b0 x0 7 _).trans (bufW_B b0 k0 x0 7 _).symm
  · exact (bufW_A b0 x0 6 _).trans (bufW_B b0 k0 x0 6 _).symm
  · exact (bufW_A b0 x0 5 _).trans (bufW_B b0 k0 x0 5 _).symm

theorem out_A (hc0 : cond0_0 i) (hc1 : ¬cond0_0 i') :
    out0_A_8 c i a0 h0 a1 h1 a2 h2 a3 h3 a4 h4 a5 h5 a6 h6 a7 h7 a8 h8 b0 k0 b1 k1 b2 k2 b3 k3 hc0 x0 x1 x2 x3 x4 x5 x6 x7
      = out0_B_8 c i' a0 h0 a1 h1 a2 h2 a3 h3 a4 h4 a5 h5 a6 h6 a7 h7 a8 h8 b0 k0 b1 k1 b2 k2 b3 k3 hc1 x0 x1 x2 x3 x4 x5 x6 x7
        (fun _ => 0) (fun _ => 0) (fun _ => 0) (fun _ => 0) := by
  unfold out0_A_8 out0_B_8
  rw [View.read_writes_junk_eq_canon, View.read_writes_junk_eq_canon]
  unfold kernelRun0_A kernelRun0_B
  dsimp only
  sl_unfold_run_names
  generalize hA : k0_pay9 (F := Ideal) _ _ _ _ _ _ _ _ _ _ = y
  obtain rfl : y = mixedV x0 x4 x5 (fun _ => 0) := hA.symm.trans (rA_y c a0 h0 a4 h4 a5 h5 b0 k0 x0 x4 x5)
  generalize hB : k0_pay9 (F := Ideal) _ _ _ _ _ _ _ _ _ _ = y
  obtain rfl : y = mixedV x0 x4 x5 (fun _ => 0) := hB.symm.trans (rB_y c a0 h0 a4 h4 a5 h5 b0 k0 x0 x4 x5 (fun _ => 0))
  simp only [View.readAt_eq_ld, h1.read_unread, h2.read_unread, h3.read_unread, h6.read_unread, h7.read_unread,
    k1.read_unread, k2.read_unread, k3.read_unread, View.ld_unit_zero (S := S256x128) hz, View.ld_unit_zero (S := S1x128) hz]
  simp (disch := decide) only [skip, zero3 _ _ _ _ _ pay3_zero, zero3 _ _ _ _ _ pay4_zero, zero3 _ _ _ _ _ pay5_zero]

theorem newC_A (hc0 : cond0_0 i) (hc1 : ¬cond0_0 i') :
    sout0_A_1 c i a0 h0 a1 h1 a2 h2 a3 h3 a4 h4 a5 h5 a6 h6 a7 h7 a8 h8 b0 k0 b1 k1 b2 k2 b3 k3 hc0 x0 x1 x2 x3 x4 x5 x6 x7
      = sout0_B_1 c i' a0 h0 a1 h1 a2 h2 a3 h3 a4 h4 a5 h5 a6 h6 a7 h7 a8 h8 b0 k0 b1 k1 b2 k2 b3 k3 hc1 x0 x1 x2 x3 x4 x5 x6 x7
        (fun _ => 0) (fun _ => 0) (fun _ => 0) (fun _ => 0) := by
  unfold sout0_A_1 sout0_B_1
  rw [View.read_writes_junk_eq_canon, View.read_writes_junk_eq_canon]
  unfold kernelRun0_A kernelRun0_B
  dsimp only
  sl_unfold_run_names
  generalize hA : k0_pay9 (F := Ideal) _ _ _ _ _ _ _ _ _ _ = y
  obtain rfl : y = mixedV x0 x4 x5 (fun _ => 0) := hA.symm.trans (rA_y c a0 h0 a4 h4 a5 h5 b0 k0 x0 x4 x5)
  generalize hB : k0_pay9 (F := Ideal) _ _ _ _ _ _ _ _ _ _ = y
  obtain rfl : y = mixedV x0 x4 x5 (fun _ => 0) := hB.symm.trans (rB_y c a0 h0 a4 h4 a5 h5 b0 k0 x0 x4 x5 (fun _ => 0))
  simp only [View.readAt_eq_ld, h1.read_unread, h2.read_unread, h3.read_unread, h6.read_unread, h7.read_unread,
    k1.read_unread, k2.read_unread, k3.read_unread, View.ld_unit_zero (S := S256x128) hz, View.ld_unit_zero (S := S1x128) hz]
  simp (disch := decide) only [skip, zero3 _ _ _ _ _ pay3_zero, zero3 _ _ _ _ _ pay4_zero, zero3 _ _ _ _ _ pay5_zero]
  exact cover4 (fun o a => by revert a; revert o; decide) (fun o => match o with | 0 => _ | 1 => _ | 2 => _ | 3 => _) _

theorem newN_A (hc0 : cond0_0 i) (hc1 : ¬cond0_0 i') :
    sout0_A_2 c i a0 h0 a1 h1 a2 h2 a3 h3 a4 h4 a5 h5 a6 h6 a7 h7 a8 h8 b0 k0 b1 k1 b2 k2 b3 k3 hc0 x0 x1 x2 x3 x4 x5 x6 x7
      = sout0_B_2 c i' a0 h0 a1 h1 a2 h2 a3 h3 a4 h4 a5 h5 a6 h6 a7 h7 a8 h8 b0 k0 b1 k1 b2 k2 b3 k3 hc1 x0 x1 x2 x3 x4 x5 x6 x7
        (fun _ => 0) (fun _ => 0) (fun _ => 0) (fun _ => 0) := by
  unfold sout0_A_2 sout0_B_2
  rw [View.read_writes_junk_eq_canon, View.read_writes_junk_eq_canon]
  unfold kernelRun0_A kernelRun0_B
  dsimp only
  sl_unfold_run_names
  generalize hA : k0_pay9 (F := Ideal) _ _ _ _ _ _ _ _ _ _ = y
  obtain rfl : y = mixedV x0 x4 x5 (fun _ => 0) := hA.symm.trans (rA_y c a0 h0 a4 h4 a5 h5 b0 k0 x0 x4 x5)
  generalize hB : k0_pay9 (F := Ideal) _ _ _ _ _ _ _ _ _ _ = y
  obtain rfl : y = mixedV x0 x4 x5 (fun _ => 0) := hB.symm.trans (rB_y c a0 h0 a4 h4 a5 h5 b0 k0 x0 x4 x5 (fun _ => 0))
  simp only [View.readAt_eq_ld, h1.read_unread, h2.read_unread, h3.read_unread, h6.read_unread, h7.read_unread,
    k1.read_unread, k2.read_unread, k3.read_unread, View.ld_unit_zero (S := S256x128) hz, View.ld_unit_zero (S := S1x128) hz]
  simp (disch := decide) only [skip, zero3 _ _ _ _ _ pay3_zero, zero3 _ _ _ _ _ pay4_zero, zero3 _ _ _ _ _ pay5_zero]
  exact cover4 (fun o a => by revert a; revert o; decide) (fun o => match o with | 0 => _ | 1 => _ | 2 => _ | 3 => _) _

set_option maxHeartbeats 1000000 in
theorem newM_A (hc0 : cond0_0 i) (hc1 : ¬cond0_0 i') :
    sout0_A_3 c i a0 h0 a1 h1 a2 h2 a3 h3 a4 h4 a5 h5 a6 h6 a7 h7 a8 h8 b0 k0 b1 k1 b2 k2 b3 k3 hc0 x0 x1 x2 x3 x4 x5 x6 x7
      = sout0_B_3 c i' a0 h0 a1 h1 a2 h2 a3 h3 a4 h4 a5 h5 a6 h6 a7 h7 a8 h8 b0 k0 b1 k1 b2 k2 b3 k3 hc1 x0 x1 x2 x3 x4 x5 x6 x7
        (fun _ => 0) (fun _ => 0) (fun _ => 0) (fun _ => 0) := by
  unfold sout0_A_3 sout0_B_3
  rw [View.read_writes_junk_eq_canon, View.read_writes_junk_eq_canon]
  unfold kernelRun0_A kernelRun0_B
  dsimp only
  sl_unfold_run_names
  simp only [View.readAt_eq_ld, h1.read_unread, h2.read_unread, h3.read_unread, h6.read_unread, h7.read_unread,
    k1.read_unread, k2.read_unread, k3.read_unread, View.ld_unit_zero (S := S256x128) hz, View.ld_unit_zero (S := S1x128) hz]
  simp (disch := decide) only [skip, zero3 _ _ _ _ _ pay3_zero, zero3 _ _ _ _ _ pay4_zero, zero3 _ _ _ _ _ pay5_zero]
  exact cover4 (fun o a => by revert a; revert o; decide) (fun o => match o with | 0 => _ | 1 => _ | 2 => _ | 3 => _) _

/-- The eight tokens kept for the next point. -/
theorem keep_A (hc0 : cond0_0 i) (j : Fin 16) (hj : j.val < 8) (l : Fin 1024) :
    sout0_A_0 c i a0 h0 a1 h1 a2 h2 a3 h3 a4 h4 a5 h5 a6 h6 a7 h7 a8 h8 b0 k0 b1 k1 b2 k2 b3 k3 hc0 x0 x1 x2 x3 x4 x5 x6 x7
        (ix2 j l) = x0 (ix2 ⟨248 + j.val, by omega⟩ l) := by
  unfold sout0_A_0
  unfold kernelRun0_A
  dsimp only
  refine (View.read_writes_cons_rows_of_mem VS0_0 _ inb_S16x1024_S8x1024_0_0 _ _ (ix2 j l)
    (ix2 ⟨j.val, hj⟩ l) rfl (by show j.val = 0 + j.val; omega) rfl).trans ?_
  simp only [View.readAt_eq_ld, h0.read_unread]
  pointwise [k0_pay8]

end Body

end Cert.Mlstm
-- ==== Proof.MlstmGrid.lean ====
/- The mLSTM kernel over its grid: 32 consecutive points walk one sequence, carrying the state from block to block; what
   the carried buffers and the output block hold after each point, and the result array. -/
module

public import proofs.«01_k».proof.Proof.MlstmReads
public import proofs.«01_k».proof.Proof.MlstmFirst
public import Idealize.ShloMosaic.Lib.StableHlo

@[expose] public section

set_option maxRecDepth 16384

noncomputable section

namespace Cert.Mlstm

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The arguments. -/
abbrev Z (c : Dev nD) : FVec Ideal S32768x3200 .f32 := m ((c : Thread nD τ).loc main_arg0)
abbrev W (c : Dev nD) : FVec Ideal S4x1024 .f32 := m ((c : Thread nD τ).loc main_arg1)
abbrev CB (c : Dev nD) : FVec Ideal S1024 .f32 := m ((c : Thread nD τ).loc main_arg2)
abbrev G (c : Dev nD) : FVec Ideal S2x4 .f32 := m ((c : Thread nD τ).loc main_arg3)
abbrev N (c : Dev nD) : FVec Ideal S1024 .f32 := m ((c : Thread nD τ).loc main_arg4)

theorem V_v1 (c : Dev nD) : V m c main_v1 = pad S1x128 ![0, 0] ![0, 120] ![0, 0] (shapeCast _ (G m c) shapeCasts_S2x4_S1x8)
    (sitofp .f32 (constantI S_ 32 0#32) : FVec Ideal S_ .f32) pads_S1x8_S1x128_000_01200 h_S_ := by
  unfold V
  simp only [hostOps0, hostOps0_1, hostOps0_2, List.flatten_cons, List.flatten_nil, List.append_nil, List.cons_append, List.nil_append]
  after_results
  rfl

theorem V_v2 (c : Dev nD) : V m c main_v2 = shapeCast _ (CB m c) shapeCasts_S1024_S1x1024 := by
  unfold V
  simp only [hostOps0, hostOps0_1, hostOps0_2, List.flatten_cons, List.flatten_nil, List.append_nil, List.cons_append, List.nil_append]
  after_results
  rfl

theorem V_v3 (c : Dev nD) : V m c main_v3 = shapeCast _ (N m c) shapeCasts_S1024_S1x1024 := by
  unfold V
  simp only [hostOps0, hostOps0_1, hostOps0_2, List.flatten_cons, List.flatten_nil, List.append_nil, List.cons_append, List.nil_append]
  after_results
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 1 :=
  (by decide +kernel : ∀ t : Fin grid0.N, win0_1.index t 0 = t.val ∧ win0_1.index t 1 = 1)
theorem idx2 : ∀ t : Fin cfg0.N, win0_2.index t 0 = t.val ∧ win0_2.index t 1 = 2 :=
  (by decide +kernel : ∀ t : Fin grid0.N, win0_2.index t 0 = t.val ∧ win0_2.index t 1 = 2)
theorem idx3 : ∀ t : Fin cfg0.N, win0_3.index t 0 = t.val ∧ win0_3.index t 1 = 24 :=
  (by decide +kernel : ∀ t : Fin grid0.N, win0_3.index t 0 = t.val ∧ win0_3.index t 1 = 24)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)

theorem lt_N (t : Fin cfg0.N) : t.val < 128 := lt_of_lt_of_eq t.isLt (show cfg0.N = 128 from N_0)

/-- Block row `r` of a point is this token of its sequence. -/
theorem row_val (t : Fin cfg0.N) (r : Fin 256) : (row (t.val / 32) (t.val % 32 * 256 + r.val)).val = t.val * 256 + r.val := by
  have := lt_N t
  show (t.val / 32 * 8192 + (t.val % 32 * 256 + r.val)) % 32768 = _
  omega

theorem blk0 (c : Dev nD) (t : Fin cfg0.N) (r : Fin 256) (e : Fin 1024) :
    (X0_0 m c t : Vec Ideal S256x1024 .f32) (ix2 r e)
      = Z m c (ix2 (row (t.val / 32) (t.val % 32 * 256 + r.val)) ⟨e.val, by omega⟩) := by
  unfold X0_0 Pipeline.Window.fill
  rw [dif_pos (moved0_0 t _)]
  unfold iblk
  rw [View.read_apply]
  show V m c main_arg0 _ = _
  rw [V_main_arg0]
  refine congrArg (Z m c) (funext fun a => Fin.ext ?_)
  match a with
  | ⟨0, _⟩ => refine Eq.trans ?_ (row_val t r).symm; show win0_0.index t 0 * 256 + 1 * r.val = _; rw [(idx0 t).1]; omega
  | ⟨1, _⟩ => show win0_0.index t 1 * 1024 + 1 * e.val = e.val; rw [(idx0 t).2]; omega

theorem blk1 (c : Dev nD) (t : Fin cfg0.N) (r : Fin 256) (e : Fin 1024) :
    (X0_1 m c t : Vec Ideal S256x1024 .f32) (ix2 r e)
      = Z m c (ix2 (row (t.val / 32) (t.val % 32 * 256 + r.val)) ⟨1024 + e.val, by omega⟩) := by
  unfold X0_1 Pipeline.Window.fill
  rw [dif_pos (moved0_1 t _)]
  unfold iblk
  rw [View.read_apply]
  show V m c main_arg0 _ = _
  rw [V_main_arg0]
  refine congrArg (Z m c) (funext fun a => Fin.ext ?_)
  match a with
  | ⟨0, _⟩ => refine Eq.trans ?_ (row_val t r).symm; show win0_1.index t 0 * 256 + 1 * r.val = _; rw [(idx1 t).1]; omega
  | ⟨1, _⟩ => show win0_1.index t 1 * 1024 + 1 * e.val = 1024 + e.val; rw [(idx1 t).2]; omega

theorem blk2 (c : Dev nD) (t : Fin cfg0.N) (r : Fin 256) (e : Fin 1024) :
    (X0_2 m c t : Vec Ideal S256x1024 .f32) (ix2 r e)
      = Z m c (ix2 (row (t.val / 32) (t.val % 32 * 256 + r.val)) ⟨2048 + e.val, by omega⟩) := by
  unfold X0_2 Pipeline.Window.fill
  rw [dif_pos (moved0_2 t _)]
  unfold iblk
  rw [View.read_apply]
  show V m c main_arg0 _ = _
  rw [V_main_arg0]
  refine congrArg (Z m c) (funext fun a => Fin.ext ?_)
  match a with
  | ⟨0, _⟩ => refine Eq.trans ?_ (row_val t r).symm; show win0_2.index t 0 * 256 + 1 * r.val = _; rw [(idx2 t).1]; omega
  | ⟨1, _⟩ => show win0_2.index t 1 * 1024 + 1 * e.val = 2048 + e.val; rw [(idx2 t).2]; omega

theorem blk3 (c : Dev nD) (t : Fin cfg0.N) (r : Fin 256) (e : Fin 128) :
    (iblk m c 3 t : Vec Ideal S256x128 .f32) (ix2 r e)
      = Z m c (ix2 (row (t.val / 32) (t.val % 32 * 256 + r.val)) ⟨3072 + e.val, by omega⟩) := by
  unfold iblk
  rw [View.read_apply]
  show V m c main_arg0 _ = _
  rw [V_main_arg0]
  refine congrArg (Z m c) (funext fun a => Fin.ext ?_)
  match a with
  | ⟨0, _⟩ => refine Eq.trans ?_ (row_val t r).symm; show win0_3.index t 0 * 256 + 1 * r.val = _; rw [(idx3 t).1]; omega
  | ⟨1, _⟩ => show win0_3.index t 1 * 128 + 1 * e.val = 3072 + e.val; rw [(idx3 t).2]; omega

theorem blk4 (c : Dev nD) (t : Fin cfg0.N) (j : Fin 4) (e : Fin 1024) :
    (iblk m c 4 t : Vec Ideal S4x1024 .f32) (ix2 j e) = W m c (ix2 j e) := by
  unfold iblk
  rw [View.read_apply]
  show V m c main_arg1 _ = _
  rw [V_main_arg1]
  refine congrArg (W m c) (funext fun a => Fin.ext ?_)
  match a with
  | ⟨0, _⟩ => show win0_4.index t 0 * 4 + 1 * j.val = j.val; rw [(idx4 t).1]; omega
  | ⟨1, _⟩ => show win0_4.index t 1 * 1024 + 1 * e.val = e.val; rw [(idx4 t).2]; omega

theorem emb5 (t : Fin cfg0.N) (e : Fin 1024) : ((cfg0.win 5).blk t).view.emb (ix2 0 e) = (ix2 (0 : Fin 1) e : S1x1024.Idx) :=
  funext fun a => Fin.ext (match a with
    | ⟨0, _⟩ => by show win0_5.index t 0 * 1 + 1 * 0 = 0; rw [(idx5 t).1]
    | ⟨1, _⟩ => by show win0_5.index t 1 * 1024 + 1 * e.val = e.val; rw [(idx5 t).2]; omega)

theorem emb7 (t : Fin cfg0.N) (e : Fin 1024) : ((cfg0.win 7).blk t).view.emb (ix2 0 e) = (ix2 (0 : Fin 1) e : S1x1024.Idx) :=
  funext fun a => Fin.ext (match a with
    | ⟨0, _⟩ => by show win0_7.index t 0 * 1 + 1 * 0 = 0; rw [(idx7 t).1]
    | ⟨1, _⟩ => by show win0_7.index t 1 * 1024 + 1 * e.val = e.val; rw [(idx7 t).2]; omega)

theorem emb6 (t : Fin cfg0.N) (e : Fin 128) : ((cfg0.win 6).blk t).view.emb (ix2 0 e) = (ix2 (0 : Fin 1) e : S1x128.Idx) :=
  funext fun a => Fin.ext (match a with
    | ⟨0, _⟩ => by show win0_6.index t 0 * 1 + 1 * 0 = 0; rw [(idx6 t).1]
    | ⟨1, _⟩ => by show win0_6.index t 1 * 128 + 1 * e.val = e.val; rw [(idx6 t).2]; omega)

theorem row1 (x : FVec Ideal S1024 .f32) (e : Fin 1024) :
    (shapeCast S1x1024 x shapeCasts_S1024_S1x1024 : FVec Ideal S1x1024 .f32) (ix2 0 e) = x (ix1 e) := by
  pointwise []

theorem blk5 (c : Dev nD) (t : Fin cfg0.N) (e : Fin 1024) :
    (iblk m c 5 t : Vec Ideal S1x1024 .f32) (ix2 0 e) = CB m c (ix1 e) := by
  unfold iblk
  rw [View.read_apply]
  show V m c main_v2 _ = _
  rw [V_v2]
  exact (congrArg _ (emb5 t e)).trans (row1 _ e)

theorem blk7 (c : Dev nD) (t : Fin cfg0.N) (e : Fin 1024) :
    (iblk m c 7 t : Vec Ideal S1x1024 .f32) (ix2 0 e) = N m c (ix1 e) := by
  unfold iblk
  rw [View.read_apply]
  show V m c main_v3 _ = _
  rw [V_v3]
  exact (congrArg _ (emb7 t e)).trans (row1 _ e)

/-- The gates' offsets, laid out along the first eight lanes. -/
theorem gate_row (x : FVec Ideal S2x4 .f32) (v : FVec Ideal S_ .f32) (j : Fin 2) (h : Fin 4) :
    pad S1x128 ![0, 0] ![0, 120] ![0, 0] (shapeCast S1x8 x shapeCasts_S2x4_S1x8 : FVec Ideal S1x8 .f32) v pads_S1x8_S1x128_000_01200 h_S_
      (ix2 0 ⟨4 * j.val + h.val, by omega⟩) = x (ix2 j h) := by
  pointwise []
  exact dif_pos (by omega)

theorem blk6 (c : Dev nD) (t : Fin cfg0.N) (j : Fin 2) (h : Fin 4) :
    (iblk m c 6 t : Vec Ideal S1x128 .f32) (ix2 0 ⟨4 * j.val + h.val, by omega⟩) = G m c (ix2 j h) := by
  unfold iblk
  rw [View.read_apply]
  show V m c main_v1 _ = _
  rw [V_v1]
  exact (congrArg _ (emb6 t _)).trans (gate_row _ _ j h)

/-- The arguments that the recurrence reads are real. -/
structure Real (c : Dev nD) : Prop where
  z : ∀ i, IsR (Z m c i)
  w : ∀ i, IsR (W m c i)
  cb : ∀ i, IsR (CB m c i)
  g : ∀ i, IsR (G m c i)

/-- The sequences in the kernel's units. -/
abbrev seqs (c : Dev nD) (b : ℕ) (h : Fin 4) : Tokens 256 128 256 := toks (Z m c) (W m c) (CB m c) (G m c) (Real.log 2)⁻¹ 256 b h

/-- The point's blocks, over any eight kept tokens that precede it. -/
theorem blocks (c : Dev nD) (t : Fin cfg0.N) (s0 : Vec Ideal S16x1024 .f32)
    (hs : ∀ (i : Fin 16) (e : Fin 1024), i.val < 8 → s0 (ix2 i e) = if 8 ≤ t.val % 32 * 256 + i.val
      then Z m c (ix2 (row (t.val / 32) (t.val % 32 * 256 + i.val - 8)) ⟨e.val, by omega⟩) else 0) :
    Blocks (Z m c) (W m c) (CB m c) (G m c) (t.val / 32) (t.val % 32 * 256) (X0_0 m c t) (X0_1 m c t) (iblk m c 3 t)
      (iblk m c 4 t) (iblk m c 5 t) (iblk m c 6 t) s0 where
  x0 := blk0 m c t
  x1 := blk1 m c t
  x3 := blk3 m c t
  x4 := blk4 m c t
  x5 := blk5 m c t
  x6i h := (congrArg (iblk m c 6 t : Vec Ideal S1x128 .f32) (congrArg (ix2 0) (Fin.ext (by show h.val = 4 * 0 + h.val; omega)))).trans (blk6 m c t 0 h)
  x6f h := (congrArg (iblk m c 6 t : Vec Ideal S1x128 .f32) (congrArg (ix2 0) (Fin.ext (by show 4 + h.val = 4 * 1 + h.val; omega)))).trans (blk6 m c t 1 h)
  s0 := hs

/-- What a point's output block holds. -/
def OutAt (c : Dev nD) (t : Fin cfg0.N) (y : Vec Ideal S256x1024 .bf16) : Prop :=
  ∀ (h : Fin 4) (r d : Fin 256), y (ix2 r (vcol h d))
    = gated (fun d => ((seqs m c (t.val / 32) h).out (fun x => Real.rpow 2 x) (t.val % 32 * 256 + r.val) d : EReal)) (N m c (ix1 (vcol h d)))
        (Z m c (ix2 (row (t.val / 32) (t.val % 32 * 256 + r.val)) ⟨2048 + (vcol h d).val, by omega⟩)) d

/-- What the carried buffers hold after a point: the block's last eight tokens, and each head's state. -/
structure StateAt (c : Dev nD) (t : Fin cfg0.N) (s0 : Vec Ideal S16x1024 .f32) (s1 : Vec Ideal S4x128x256 .f32)
    (s2 s3 : Vec Ideal S4x1x128 .f32) : Prop where
  kept : ∀ (i : Fin 16) (e : Fin 1024), i.val < 8 →
    s0 (ix2 i e) = Z m c (ix2 (row (t.val / 32) (t.val % 32 * 256 + 248 + i.val)) ⟨e.val, by omega⟩)
  state : ∀ h : Fin 4, Carried (fun x => Real.rpow 2 x) (seqs m c (t.val / 32) h) (t.val % 32 * 256 + 256)
    (fun a d => s1 (ix3 h a d)) (fun a => s2 (ix3 h 0 a)) (s3 (ix3 h 0 0))

section Point

variable {m} {c : Dev nD} (hR : Real m c) (t : Fin cfg0.N) {s0 : Vec Ideal S16x1024 .f32} {s1 : Vec Ideal S4x128x256 .f32}
  {s2 s3 : Vec Ideal S4x1x128 .f32}
  (hs : ∀ (i : Fin 16) (e : Fin 1024), i.val < 8 → s0 (ix2 i e) = if 8 ≤ t.val % 32 * 256 + i.val
    then Z m c (ix2 (row (t.val / 32) (t.val % 32 * 256 + i.val - 8)) ⟨e.val, by omega⟩) else 0)
  (hC : ∀ h : Fin 4, Carried (fun x => Real.rpow 2 x) (seqs m c (t.val / 32) h) (t.val % 32 * 256)
    (fun a d => s1 (ix3 h a d)) (fun a => s2 (ix3 h 0 a)) (s3 (ix3 h 0 0)))

include hR hs hC

theorem out_point (y : Vec Ideal S256x1024 .bf16) (hy : ∀ (h : Fin 4) (r d : Fin 256), y (ix2 r (vcol h d))
    = gated (headRow (X0_0 m c t) (X0_1 m c t) (iblk m c 3 t) (iblk m c 4 t) (iblk m c 5 t) (iblk m c 6 t) s0 s1 s2 s3 h r)
      ((iblk m c 7 t : Vec Ideal S1x1024 .f32) (ix2 0 (vcol h d))) ((X0_2 m c t : Vec Ideal S256x1024 .f32) (ix2 r (vcol h d))) d) :
    OutAt m c t y := by
  intro h r d
  rw [hy, blk7, blk2]
  refine congrArg (fun f => gated f _ _ d) (funext fun d => ?_)
  unfold headRow
  exact hval_eq _ _ _ _ _ _ _ _ _ _ isExp_exp2 ((blocks m c t s0 hs).reads hR.z hR.w hR.cb hR.g h) (hC h) r d

theorem state_point (h : Fin 4) : Carried (fun x => Real.rpow 2 x) (seqs m c (t.val / 32) h) (t.val % 32 * 256 + 256)
    (newC (X0_0 m c t) (X0_1 m c t) (iblk m c 3 t) (iblk m c 4 t) (iblk m c 5 t) (iblk m c 6 t) s0 s1 s3 h)
    (newN (X0_0 m c t) (iblk m c 3 t) (iblk m c 4 t) (iblk m c 5 t) (iblk m c 6 t) s0 s2 s3 h)
    (newM (iblk m c 3 t) (iblk m c 6 t) s3 h) :=
  carried_step _ _ _ _ _ _ _ _ _ _ _ isExp_exp2 ((blocks m c t s0 hs).reads hR.z hR.w hR.cb hR.g h) (hC h) rfl

end Point

/-- At a sequence's first point. -/
theorem first_point {c : Dev nD} (hR : Real m c) (t : Fin cfg0.N) (h0 : t.val % 32 = 0) : OutAt m c t (outsAt0 m c t.val t.isLt).1
    ∧ StateAt m c t (outsAt0 m c t.val t.isLt).2.1 (outsAt0 m c t.val t.isLt).2.2.1 (outsAt0 m c t.val t.isLt).2.2.2.1
      (outsAt0 m c t.val t.isLt).2.2.2.2 := by
  have hc1 : ¬cond0_0 (grid0.coords (⟨1, lt_of_lt_of_eq (by norm_num) N_0.symm⟩ : Fin cfg0.N)) := fun q => by
    have := (hcond0_0 _).mp q
    exact absurd this (by decide)
  have hs : ∀ (i : Fin 16) (e : Fin 1024), i.val < 8 → (fun _ => (0 : EReal)) (ix2 i e : S16x1024.Idx) = if 8 ≤ t.val % 32 * 256 + i.val
      then Z m c (ix2 (row (t.val / 32) (t.val % 32 * 256 + i.val - 8)) ⟨e.val, by omega⟩) else 0 := fun i e hi => by
    rw [if_neg (by omega)]
  have hC : ∀ h : Fin 4, Carried (fun x => Real.rpow 2 x) (seqs m c (t.val / 32) h) (t.val % 32 * 256)
      (fun a d => (fun _ => (0 : EReal)) (ix3 h a d : S4x128x256.Idx)) (fun a => (fun _ => (0 : EReal)) (ix3 h 0 a : S4x1x128.Idx))
      ((fun _ => (0 : EReal)) (ix3 h 0 0 : S4x1x128.Idx)) := fun h => by
    rw [h0, Nat.zero_mul]
    exact carried_zero _ isExp_exp2
  rw [outsAt0_A m c t h0]
  dsimp only
  refine ⟨out_point (s0 := fun _ => 0) (s1 := fun _ => 0) (s2 := fun _ => 0) (s3 := fun _ => 0) hR t hs hC _ fun h r d => ?_, ⟨fun i e hi => ?_, fun h => ?_⟩⟩
  · rw [out_A (hc1 := hc1)]
    exact out_B (hc0 := hc1) ..
  · rw [keep_A _ _ _ _ _ _ _ _ _ _ _ _ _ _ _ _ _ _ _ _ _ _ _ _ _ _ _ _ _ _ _ _ _ _ _ _ _ i hi, blk0]
    rw [Nat.add_assoc]
  · have hst := state_point (s0 := fun _ => 0) (s1 := fun _ => 0) (s2 := fun _ => 0) (s3 := fun _ => 0) hR t hs hC h
    rw [newC_A (hc1 := hc1), newN_A (hc1 := hc1), newM_A (hc1 := hc1)]
    simp only [newC_B, newN_B, newM_B]
    exact hst

/-- At a later point, over what the point before left. -/
theorem later_point {c : Dev nD} (hR : Real m c) (t : Fin cfg0.N) (h0 : ¬t.val % 32 = 0)
    (ih : StateAt m c ⟨t.val - 1, Nat.lt_of_le_of_lt (Nat.sub_le _ _) t.isLt⟩
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2.1
      (outsAt0 m c (t.val - 1) (Nat.lt_of_le_of_lt (Nat.sub_le _ _) t.isLt)).2.2.2.2) :
    OutAt m c t (outsAt0 m c t.val t.isLt).1
    ∧ StateAt m c t (outsAt0 m c t.val t.isLt).2.1 (outsAt0 m c t.val t.isLt).2.2.1 (outsAt0 m c t.val t.isLt).2.2.2.1
      (outsAt0 m c t.val t.isLt).2.2.2.2 := by
  rw [outsAt0_B m c t h0]
  generalize outsAt0 m c (t.val - 1) (Nat.lt_of_le_of_lt (Nat.sub_le _ _) t.isLt) = acc at ih ⊢
  obtain ⟨y, s0, s1, s2, s3⟩ := acc
  dsimp only at ih ⊢
  have e1 : (t.val - 1) / 32 = t.val / 32 := by omega
  have e2 : (t.val - 1) % 32 * 256 + 256 = t.val % 32 * 256 := by omega
  have hs : ∀ (i : Fin 16) (e : Fin 1024), i.val < 8 → s0 (ix2 i e) = if 8 ≤ t.val % 32 * 256 + i.val
      then Z m c (ix2 (row (t.val / 32) (t.val % 32 * 256 + i.val - 8)) ⟨e.val, by omega⟩) else 0 := fun i e hi => by
    rw [if_pos (by omega), ih.kept i e hi]
    dsimp only
    rw [e1, show (t.val - 1) % 32 * 256 + 248 + i.val = t.val % 32 * 256 + i.val - 8 by omega]
  have hC : ∀ h : Fin 4, Carried (fun x => Real.rpow 2 x) (seqs m c (t.val / 32) h) (t.val % 32 * 256)
      (fun a d => s1 (ix3 h a d)) (fun a => s2 (ix3 h 0 a)) (s3 (ix3 h 0 0)) := fun h => by
    have := ih.state h
    dsimp only at this
    rwa [e1, e2] at this
  refine ⟨out_point (s0 := s0) (s1 := s1) (s2 := s2) (s3 := s3) hR t hs hC _ fun h r d => ?_, ⟨fun i e hi => ?_, fun h => ?_⟩⟩
  · exact out_B ..
  · rw [keep_B (hj := hi), blk0]
    rw [Nat.add_assoc]
  · have hst := state_point (s0 := s0) (s1 := s1) (s2 := s2) (s3 := s3) hR t hs hC h
    simp only [newC_B, newN_B, newM_B]
    exact hst

/-- After every point. -/
theorem at_point {c : Dev nD} (hR : Real m c) : ∀ (n : ℕ) (hn : n < cfg0.N), OutAt m c ⟨n, hn⟩ (outsAt0 m c n hn).1
    ∧ StateAt m c ⟨n, hn⟩ (outsAt0 m c n hn).2.1 (outsAt0 m c n hn).2.2.1 (outsAt0 m c n hn).2.2.2.1 (outsAt0 m c n hn).2.2.2.2 := by
  intro n
  induction n with
  | zero => exact fun hn => first_point m hR ⟨0, hn⟩ rfl
  | succ n ih =>
    intro hn
    by_cases h0 : (n + 1) % 32 = 0
    · exact first_point m hR ⟨n + 1, hn⟩ h0
    · exact later_point m hR ⟨n + 1, hn⟩ h0 (ih (Nat.lt_of_succ_lt hn)).2

/-- The result array. -/
def result (c : Dev nD) : FVec Ideal S32768x1024 .bf16 := value (Z m c) (W m c) (CB m c) (G m c) (N m c)

theorem flushed_eq {c : Dev nD} (hR : Real m c) (t : Fin cfg0.N) (hf : (cfg0.win 8).flush t = true) :
    (dats m 0 c).flushed 8 t = ((cfg0.win 8).blk t).view.read (Elt Ideal) (result m c) := by
  rw [Value.flushed8]
  funext y
  rw [View.read_apply]
  show (outsAt0 m c t.val t.isLt).1 y = _
  obtain ⟨r, l, rfl⟩ : ∃ (r : Fin 256) (l : Fin 1024), y = ix2 r l := ⟨y 0, y 1, eq_ix2 y⟩
  obtain ⟨h, d, rfl⟩ := col_split l
  have hemb : ((cfg0.win 8).blk t).view.emb (ix2 r (vcol h d))
      = (ix2 (row (t.val / 32) (t.val % 32 * 256 + r.val)) (vcol h d) : S32768x1024.Idx) := by
    funext a
    apply Fin.ext
    match a with
    | ⟨0, _⟩ => refine Eq.trans ?_ (row_val t r).symm; show win0_8.index t 0 * 256 + 1 * r.val = _; rw [(idx8 t).1]; omega
    | ⟨1, _⟩ => show win0_8.index t 1 * 1024 + 1 * (vcol h d).val = (vcol h d).val; rw [(idx8 t).2]; omega
  rw [hemb]
  have ht := lt_N t
  have hp := (at_point m hR t.val t.isLt).1 h r d
  simp only [seqs, out_base _ _ _ _ 256 64] at hp
  exact hp.trans (value_apply _ _ _ _ _ _ _ (by omega) (by omega) h d).symm

/-- The point that writes an element. -/
abbrev pt (i : S32768x1024.Idx) : Fin cfg0.N :=
  ⟨(i 0 : Nat) / 256, by
    have h0 : (i 0 : Nat) < 32768 := (i 0).isLt
    rw [show cfg0.N = 128 from N_0]; omega⟩

theorem flush8 : ∀ t : Fin cfg0.N, (cfg0.win 8).flush t = true :=
  (by decide +kernel : ∀ t : Fin grid0.N, win0_8.flush t = true)

theorem final {c : Dev nD} (hR : Real m c) : (dats m 0 c).arrAt 8 cfg0.N = result m c :=
  (dats m 0 c).arrAt_eq_of_cover 8 (result m c) (flushed_eq m hR) fun i =>
    ⟨pt i, flush8 _, by
    have h0 : (i 0 : Nat) < 32768 := (i 0).isLt
    have h1 : (i 1 : Nat) < 1024 := (i 1).isLt
    show i ∈ ((View.whole main_v4).slice (win0_8.rect (pt i))).set
    rw [View.set_slice_whole, Rect.mem_set_unit]
    intro a
    match a with
    | ⟨0, _⟩ =>
      show win0_8.index (pt i) 0 * 256 ≤ (i 0 : Nat) ∧ (i 0 : Nat) < win0_8.index (pt i) 0 * 256 + 256
      rw [(idx8 _).1]; rw [show (pt i).val = (i 0 : Nat) / 256 from rfl]; omega
    | ⟨1, _⟩ =>
      show win0_8.index (pt i) 1 * 1024 ≤ (i 1 : Nat) ∧ (i 1 : Nat) < win0_8.index (pt i) 1 * 1024 + 1024
      rw [(idx8 _).2]; omega⟩

end Cert.Mlstm
-- ==== Proof.MlstmRefConv.lean ====
/- The reference's convolution and activation at an element. -/
module

public import proofs.«01_k».proof.Proof.MlstmTokens
public import proofs.«01_k».proof.Proof.Gen.ReferenceIdeal.Step

@[expose] public section

set_option maxRecDepth 16384

noncomputable section

namespace Cert.Mlstm

open Idealize.ShloMosaic Idealize.ShloMosaic.TcCoe
open Cert.ReferenceIdeal Cert.ReferenceIdeal.Gen Cert.ReferenceIdeal.Step

variable (z : (⟨S32768x3200, .f32⟩ : BufTy).Contents (Elt Ideal)) (w : (⟨S4x1024, .f32⟩ : BufTy).Contents (Elt Ideal))
  (cb : (⟨S1024, .f32⟩ : BufTy).Contents (Elt Ideal)) (g : (⟨S2x4, .f32⟩ : BufTy).Contents (Elt Ideal))

theorem add5 (y y0 y1 y2 y3 : EReal) : y3 + y2 + y1 + y0 + y = y + y0 + y1 + y2 + y3 := by
  ac_rfl

/-- The convolution, spelled in the reference's order. -/
theorem A35_apply (b : Fin 4) (t : Fin 8192) (c : Fin 1024) : A_main_v35 z w cb g (ix3 b t c)
    = cb (ix1 c) + w (ix2 3 c) * past z b.val t.val 0 c + w (ix2 2 c) * past z b.val t.val 1 c
      + w (ix2 1 c) * past z b.val t.val 2 c + w (ix2 0 c) * past z b.val t.val 3 c := by
  pointwise [A_main_v35, A_main_v34, A_main_v33, A_main_v32, A_main_v31, A_main_v30, A_main_v29, A_main_v28, A_main_v27,
    A_main_v26, A_main_v25, A_main_v24, A_main_v23, A_main_v22, A_main_v21, A_main_v20, A_main_v19, A_main_v18, A_main_v17,
    A_main_v16, A_main_v15, A_main_v14, A_main_v13, A_main_v12, A_main_v11, A_main_v10, A_main_v9, A_main_v8, A_main_v7,
    A_main_v6, A_main_v5, A_main_v1, A_main_v0, K_main_call0_v0, K_main_c]
  have e : FloatOps.sitofp (F := Ideal) FTy.f32 0#32 = 0 := by
    show ((((0#32 : BitVec 32).toInt : ℤ) : ℝ) : EReal) = 0
    simp
  have hb := b.isLt
  have ht := t.isLt
  rw [e]
  have tap : ∀ n m : ℕ, n + m = 3 → (if h : 3 ≤ n + t.val ∧ n + t.val - 3 < 8192 then
      z (ix2 ⟨b.val * 8192 + (n + t.val - 3), by omega⟩ ⟨c.val, by omega⟩) else 0) = past z b.val t.val m c := by
    intro n m hnm
    unfold past
    by_cases h : m ≤ t.val
    · rw [dif_pos (by omega), if_pos h]
      exact congrArg (fun x => z (ix2 x _)) (Fin.ext (by show _ = (b.val * 8192 + (t.val - m)) % 32768; dsimp only; omega))
    · rw [dif_neg (by omega), if_neg h]
  have t0 := tap 0 3 rfl
  simp only [Nat.zero_add] at t0
  have t3 : z (ix2 ⟨b.val * 8192 + t.val, by omega⟩ ⟨c.val, by omega⟩) = past z b.val t.val 0 c := by
    unfold past
    rw [if_pos (Nat.zero_le _)]
    exact congrArg (fun x => z (ix2 x _)) (Fin.ext (by show _ = (b.val * 8192 + (t.val - 0)) % 32768; dsimp only; omega))
  rw [t0, tap 1 2 rfl, tap 2 1 rfl, t3]
  rw [mul_comm (past z _ _ 0 c), mul_comm (past z _ _ 1 c), mul_comm (past z _ _ 2 c), mul_comm (past z _ _ 3 c)]
  generalize (w (ix2 0 c) * past z b.val t.val 3 c : EReal) = y3, (w (ix2 1 c) * past z b.val t.val 2 c : EReal) = y2,
    (w (ix2 2 c) * past z b.val t.val 1 c : EReal) = y1, (w (ix2 3 c) * past z b.val t.val 0 c : EReal) = y0, (cb (ix1 c) : EReal) = y
  exact add5 y y0 y1 y2 y3

theorem A36_apply (b : Fin 4) (t : Fin 8192) (c : Fin 1024) : A_main_v36 z w cb g (ix3 b t c) = mix z w cb b.val t.val c := by
  unfold mix silu
  rw [← A35_apply z w cb g]
  pointwise [A_main_v36, A_main_call1_v5, K_main_call1_v4, K_main_call1_cst_0, A_main_call1_v3, K_main_call1_v2, K_main_call1_cst, A_main_call1_v1, A_main_call1_v0]

end Cert.Mlstm

end
-- ==== Proof.MlstmRefStacks.lean ====
/- What the reference's loop is handed: the stacks of queries, keys, values and gates, chunk by chunk, at an element. -/
module

public import proofs.«01_k».proof.Proof.MlstmRefConv
public import proofs.«01_k».proof.Proof.Gen.ReferenceIdeal.Step

@[expose] public section

set_option maxRecDepth 16384

noncomputable section

namespace Cert.Mlstm

open Idealize.ShloMosaic Idealize.ShloMosaic.TcCoe
open Cert.ReferenceIdeal Cert.ReferenceIdeal.Gen Cert.ReferenceIdeal.Step

variable (z : (⟨S32768x3200, .f32⟩ : BufTy).Contents (Elt Ideal)) (w : (⟨S4x1024, .f32⟩ : BufTy).Contents (Elt Ideal))
  (cb : (⟨S1024, .f32⟩ : BufTy).Contents (Elt Ideal)) (g : (⟨S2x4, .f32⟩ : BufTy).Contents (Elt Ideal))

theorem A70_apply (j : Fin 128) (b h : Fin 4) (r : Fin 64) (a : Fin 128) : A_main_v70 z w cb g (ix5 j b h r a)
    = mix z w cb b.val (j.val * 64 + r.val) (qcol h a) := by
  pointwise [A_main_v70, A_main_v59, A_main_v52, A_main_v51, A_main_v37]
  simp only [A36_apply]
  rfl

theorem mul_at (S : Shape) (x y : FVec Ideal S .f32) (i : S.Idx) (u v : EReal) (hu : x i = u) (hv : y i = v) : mulf x y i = u * v := by
  subst hu hv
  rfl

theorem A54_apply (b h : Fin 4) (t : Fin 8192) (a : Fin 128) : A_main_v54 z w cb g (ix4 b h t a) = mix z w cb b.val t.val (kcol h a) := by
  rw [← A36_apply z w cb g]
  pointwise [A_main_v54, A_main_v53, A_main_v38]
  exact congrArg (fun c => A_main_v36 z w cb g (ix3 b t c)) (Fin.ext (by show 512 + (h.val * 128 + a.val) = 512 + h.val * 128 + a.val; omega))

theorem K55_apply (b h : Fin 4) (t : Fin 8192) (a : Fin 128) : K_main_v55 (F := Ideal) (ix4 b h t a) = kscale := by
  unfold kscale
  pointwise [K_main_v55, K_main_cst]

theorem A56_apply (b h : Fin 4) (t : Fin 8192) (a : Fin 128) : A_main_v56 z w cb g (ix4 b h t a)
    = mix z w cb b.val t.val (kcol h a) * kscale := by
  unfold A_main_v56
  exact mul_at _ _ _ _ _ _ (A54_apply z w cb g b h t a) (K55_apply b h t a)

theorem A71_apply (j : Fin 128) (b h : Fin 4) (r : Fin 64) (a : Fin 128) : A_main_v71 z w cb g (ix5 j b h r a)
    = mix z w cb b.val (j.val * 64 + r.val) (kcol h a) * kscale := by
  have hj := j.isLt
  have hr := r.isLt
  rw [← A56_apply z w cb g b h ⟨j.val * 64 + r.val, by omega⟩ a]
  pointwise [A_main_v71, A_main_v60]

/-- A token's row. -/
theorem row_eq (b : Fin 4) (t : ℕ) (ht : t < 8192) (hp : b.val * 8192 + t < 32768) : (⟨b.val * 8192 + t, hp⟩ : Fin 32768) = row b.val t :=
  Fin.ext (Nat.mod_eq_of_lt hp).symm

theorem A72_apply (j : Fin 128) (b h : Fin 4) (r : Fin 64) (d : Fin 256) : A_main_v72 z w cb g (ix5 j b h r d)
    = z (ix2 (row b.val (j.val * 64 + r.val)) ⟨1024 + (vcol h d).val, by omega⟩) := by
  pointwise [A_main_v72, A_main_v61, A_main_v58, A_main_v57, A_main_v2, A_main_v0]
  rw [row_eq b _ (by omega)]
  rfl

theorem A73_apply (j : Fin 128) (b h : Fin 4) (r : Fin 64) : A_main_v73 z w cb g (ix4 j b h r)
    = igate z g b.val h (j.val * 64 + r.val) := by
  unfold igate
  pointwise [A_main_v73, A_main_v62, A_main_v44, A_main_v43, A_main_v42, A_main_v41, A_main_v40, A_main_v39, A_main_v3, A_main_v0]
  rw [row_eq b _ (by omega)]

theorem A66_apply (b h : Fin 4) (j : Fin 128) (r : Fin 64) : A_main_v66 z w cb g (ix4 b h j r)
    = -(max (-(fgate z g b.val h (j.val * 64 + r.val))) 0
      + Ideal.log1p (Ideal.exp (-(max (-(fgate z g b.val h (j.val * 64 + r.val))) (- -(fgate z g b.val h (j.val * 64 + r.val))))))) := by
  unfold fgate
  pointwise [A_main_v66, A_main_v65, A_main_v64, A_main_call2_v11, A_main_call2_v10, A_main_call2_v9, A_main_call2_v8, A_main_call2_v7, A_main_call2_v6,
    A_main_call2_v4, A_main_call2_v3, A_main_call2_v1, A_main_v63, A_main_v50, A_main_v49, A_main_v48, A_main_v47, A_main_v46, A_main_v45, A_main_v4, A_main_v0,
    K_main_call2_v0, K_main_call2_v2, K_main_call2_v5, K_main_call2_cst]
  rw [row_eq b _ (by omega), if_neg (fun h => h rfl), Ideal.absf_def]

end Cert.Mlstm

end
-- ==== Proof.MlstmRefCum.lean ====
/- The reference's running sums of the forget gates' logarithms within a chunk, and what a chunk of the stacks reads. -/
module

public import proofs.«01_k».proof.Proof.MlstmRefStacks

@[expose] public section

set_option maxRecDepth 16384

noncomputable section

namespace Cert.Mlstm

open Idealize.ShloMosaic Idealize.ShloMosaic.TcCoe
open Cert.ReferenceIdeal Cert.ReferenceIdeal.Gen Cert.ReferenceIdeal.Step

/-- The window of a running sum. -/
abbrev Win : Shape := ⟨4, ![1, 1, 1, 64]⟩

theorem numel_Win : Win.numel = 64 := by decide

theorem win_symm (n : Fin Win.numel) : Win.rowMajor.symm n = ix4 (0 : Fin 1) (0 : Fin 1) (0 : Fin 1) (n.cast numel_Win) :=
  (Win.rowMajor.symm_apply_eq).2 (Fin.ext (by
    rw [Shape.rowMajor_val_four]
    show n.val = ((0 * 1 + 0) * 1 + 0) * 64 + n.val
    omega))

theorem foldl_add {ι : Type} (l : List ι) (f : ι → EReal) (z : EReal) : l.foldl (fun r n => r + f n) z = z + (l.map f).sum := by
  induction l generalizing z with
  | nil => simp
  | cons a l ih => rw [List.foldl_cons, ih, List.map_cons, List.sum_cons, add_assoc]

/-- A window that ends at `r`, over real values. -/
theorem window_sum (F : ℕ → ℝ) (r : Fin 64) :
    (∑ n : Fin 64, if 63 ≤ r.val + n.val then F (r.val + n.val - 63) else 0) = ∑ i ∈ Finset.range (r.val + 1), F i := by
  obtain ⟨r, hr⟩ := r
  dsimp only
  have e : 64 = (63 - r) + (r + 1) := by omega
  have h := Finset.sum_range_add (fun n => if 63 ≤ r + n then F (r + n - 63) else 0) (63 - r) (r + 1)
  rw [← e] at h
  rw [Fin.sum_univ_eq_sum_range (fun n => if 63 ≤ r + n then F (r + n - 63) else 0) 64, h]
  rw [Finset.sum_eq_zero (fun n hn => if_neg (by rw [Finset.mem_range] at hn; omega)), zero_add]
  refine Finset.sum_congr rfl fun i _ => ?_
  rw [if_pos (by omega)]
  exact congrArg F (by omega)

/-- jax's running sum along the last axis, of real entries. -/
theorem cumsum4 (x : FVec Ideal S4x4x128x64 .f32) (init : FVec Ideal S_ .f32) (hinit : init (Shape.Idx.first h_S_) = (0 : EReal))
    (b h : Fin 4) (j : Fin 128) (F : ℕ → ℝ) (hx : ∀ i : Fin 64, x (ix4 b h j i) = ((F i.val : ℝ) : EReal)) (r : Fin 64) :
    Host.reduceWindowAdd ![1, 1, 1, 64] ![1, 1, 1, 1] ![0, 0, 0, 63] ![0, 0, 0, 0] x init
      reduceWindows_S4x4x128x64_S4x4x128x64_w1s1p0_0_w1s1p0_0_w1s1p0_0_w64s1p63_0 h_S_ (ix4 b h j r)
      = ((∑ i ∈ Finset.range (r.val + 1), F i : ℝ) : EReal) := by
  have hb := b.isLt
  have hh := h.isLt
  have hj := j.isLt
  have hr := r.isLt
  unfold Host.reduceWindowAdd
  rw [Ideal.hostReduceWindowAdd_def, hinit]
  unfold Ideal.hostReduceWindowAdd Host.reduceWindow
  refine (foldl_add _ _ _).trans ?_
  rw [zero_add, ← window_sum, ← sum_coe, ← Fin.sum_univ_def]
  refine Fintype.sum_equiv (finCongr numel_Win) _ _ fun n => ?_
  have s0 : (Win.rowMajor.symm n 0).val = 0 := by rw [win_symm]; rfl
  have s1 : (Win.rowMajor.symm n 1).val = 0 := by rw [win_symm]; rfl
  have s2 : (Win.rowMajor.symm n 2).val = 0 := by rw [win_symm]; rfl
  have s3 : (Win.rowMajor.symm n 3).val = n.val := by rw [win_symm]; rfl
  have hn : n.val < 64 := (n.cast numel_Win).isLt
  have hc : (finCongr numel_Win n).val = n.val := rfl
  rw [hc]
  by_cases hw : 63 ≤ r.val + n.val
  · rw [if_pos hw, ← hx ⟨r.val + n.val - 63, by omega⟩]
    refine (dif_pos fun a => ?_).trans (congrArg x (funext fun a => Fin.ext ?_))
    · match a with
      | ⟨0, _⟩ =>
        show 0 ≤ b.val * 1 + (Win.rowMajor.symm n 0).val ∧ b.val * 1 + (Win.rowMajor.symm n 0).val - 0 < 4
        omega
      | ⟨1, _⟩ =>
        show 0 ≤ h.val * 1 + (Win.rowMajor.symm n 1).val ∧ h.val * 1 + (Win.rowMajor.symm n 1).val - 0 < 4
        omega
      | ⟨2, _⟩ =>
        show 0 ≤ j.val * 1 + (Win.rowMajor.symm n 2).val ∧ j.val * 1 + (Win.rowMajor.symm n 2).val - 0 < 128
        omega
      | ⟨3, _⟩ =>
        show 63 ≤ r.val * 1 + (Win.rowMajor.symm n 3).val ∧ r.val * 1 + (Win.rowMajor.symm n 3).val - 63 < 64
        omega
    · match a with
      | ⟨0, _⟩ =>
        show b.val * 1 + (Win.rowMajor.symm n 0).val - 0 = b.val
        omega
      | ⟨1, _⟩ =>
        show h.val * 1 + (Win.rowMajor.symm n 1).val - 0 = h.val
        omega
      | ⟨2, _⟩ =>
        show j.val * 1 + (Win.rowMajor.symm n 2).val - 0 = j.val
        omega
      | ⟨3, _⟩ =>
        show r.val * 1 + (Win.rowMajor.symm n 3).val - 63 = r.val + n.val - 63
        omega
  · rw [if_neg hw]
    refine dif_neg fun H => hw ?_
    have h3 : 63 ≤ r.val * 1 + (Win.rowMajor.symm n 3).val := (H 3).1
    omega

variable (z : (⟨S32768x3200, .f32⟩ : BufTy).Contents (Elt Ideal)) (w : (⟨S4x1024, .f32⟩ : BufTy).Contents (Elt Ideal))
  (cb : (⟨S1024, .f32⟩ : BufTy).Contents (Elt Ideal)) (g : (⟨S2x4, .f32⟩ : BufTy).Contents (Elt Ideal))

theorem zero_init : K_main_call3_call0_v0 (F := Ideal) (Shape.Idx.first h_S_) = (0 : EReal) := by
  rw [show Shape.Idx.first h_S_ = ix0 from funext fun a => a.elim0]
  pointwise [K_main_call3_call0_v0, K_main_call3_call0_cst]

theorem A74_apply (hz : ∀ i, IsR (z i)) (hg : ∀ i, IsR (g i)) (j : Fin 128) (b h : Fin 4) (r : Fin 64) :
    A_main_v74 z w cb g (ix4 j b h r) = ((cum (toks z w cb g 1 64 b.val h).lf (j.val * 64) (r.val + 1) : ℝ) : EReal) := by
  have e : A_main_v74 z w cb g (ix4 j b h r) = A_main_v67 z w cb g (ix4 b h j r) := by
    pointwise [A_main_v74]
  rw [e]
  unfold A_main_v67
  refine cumsum4 _ _ zero_init b h j (fun i => (toks z w cb g 1 64 b.val h).lf (j.val * 64 + i)) (fun i => ?_) r
  rw [A66_apply]
  have hf : IsR (fgate z g b.val h (j.val * 64 + i.val)) := (hz _).add (hg _)
  rw [hf.eq, lsig_reference]
  show _ = ((lsig (fgate z g b.val h (j.val * 64 + i.val)).toReal * 1 : ℝ) : EReal)
  rw [mul_one]

/-- A chunk's queries, keys, values and gates are the sequence's. -/
theorem reads (hz : ∀ i, IsR (z i)) (hw : ∀ i, IsR (w i)) (hcb : ∀ i, IsR (cb i)) (hg : ∀ i, IsR (g i)) (j : Fin 128) (b h : Fin 4) :
    Reads (toks z w cb g 1 64 b.val h) (j.val * 64) (fun r a => A_main_v70 z w cb g (ix5 j b h r a))
      (fun r a => A_main_v71 z w cb g (ix5 j b h r a)) (fun r d => A_main_v72 z w cb g (ix5 j b h r d))
      (fun r => A_main_v73 z w cb g (ix4 j b h r)) (fun r => A_main_v74 z w cb g (ix4 j b h r)) where
  q r a := by
    rw [A70_apply]
    exact (IsR.mix hz hw hcb _ _ _).eq
  k r a := by
    rw [A71_apply]
    exact ((IsR.mix hz hw hcb _ _ _).mul isR_kscale).eq
  v r d := by
    rw [A72_apply]
    exact (hz _).eq
  ig r := by
    rw [A73_apply]
    have hi : IsR (igate z g b.val h (j.val * 64 + r.val)) := (hz _).add (hg _)
    show _ = (((igate z g b.val h (j.val * 64 + r.val)).toReal * 1 : ℝ) : EReal)
    rw [mul_one]
    exact hi.eq
  bc r := A74_apply z w cb g hz hg j b h r

end Cert.Mlstm

end
-- ==== Proof.MlstmRefStep.lean ====
/- One trip of the reference's loop at a head: what it reads of the stacks and what it makes of the carried state. -/
module

public import proofs.«01_k».proof.Proof.MlstmReal
public import proofs.«01_k».proof.Proof.Gen.ReferenceIdeal.Step
public import Idealize.ShloMosaic.Lib.Pointwise

@[expose] public section

set_option maxRecDepth 16384

noncomputable section

namespace Cert.Mlstm

open Idealize.ShloMosaic Idealize.ShloMosaic.TcCoe
open Cert.ReferenceIdeal Cert.ReferenceIdeal.Gen Cert.ReferenceIdeal.Step

variable (j : Fin 128) (s : State Ideal) (b h : Fin 4)

theorem word_j : (BitVec.ofNat 32 j.val).toInt = (j.val : ℤ) := by
  have := j.isLt
  rw [BitVec.toInt_eq_toNat_of_lt] <;> simp only [BitVec.toNat_ofNat] <;> omega

/-- The start of a trip's slices: the trip's number on the first axis, zero on the others. -/
abbrev at5 : Fin 5 → ((⟨S_, .i32⟩ : BufTy).Contents (Elt Ideal)) :=
  ![(constantI S_ 32 (BitVec.ofNat 32 j.val)), constantI S_ 32 0#32, constantI S_ 32 0#32, constantI S_ 32 0#32, constantI S_ 32 0#32]
abbrev at4 : Fin 4 → ((⟨S_, .i32⟩ : BufTy).Contents (Elt Ideal)) :=
  ![(constantI S_ 32 (BitVec.ofNat 32 j.val)), constantI S_ 32 0#32, constantI S_ 32 0#32, constantI S_ 32 0#32]

/-- A start inside the stack is its own clamp. -/
theorem clamp128 (a : Fin 5) : Host.clampedStart S128x4x4x64x128 S1x4x4x64x128 rfl (fun k => (at5 j k (Shape.Idx.first h_S_)).toInt) a
    = if a.val = 0 then j.val else 0 := by
  have := j.isLt
  refine Host.clampedStart_of_le (s := S128x4x4x64x128) (t := S1x4x4x64x128) rfl _ a _ ?_ ?_ <;> fin_cases a
  any_goals rfl
  · exact word_j j
  · show j.val + 1 ≤ 128
    omega
  all_goals exact le_rfl

theorem clamp256 (a : Fin 5) : Host.clampedStart S128x4x4x64x256 S1x4x4x64x256 rfl (fun k => (at5 j k (Shape.Idx.first h_S_)).toInt) a
    = if a.val = 0 then j.val else 0 := by
  have := j.isLt
  refine Host.clampedStart_of_le (s := S128x4x4x64x256) (t := S1x4x4x64x256) rfl _ a _ ?_ ?_ <;> fin_cases a
  any_goals rfl
  · exact word_j j
  · show j.val + 1 ≤ 128
    omega
  all_goals exact le_rfl

theorem clamp64 (a : Fin 4) : Host.clampedStart S128x4x4x64 S1x4x4x64 rfl (fun k => (at4 j k (Shape.Idx.first h_S_)).toInt) a
    = if a.val = 0 then j.val else 0 := by
  have := j.isLt
  refine Host.clampedStart_of_le (s := S128x4x4x64) (t := S1x4x4x64) rfl _ a _ ?_ ?_ <;> fin_cases a
  any_goals rfl
  · exact word_j j
  · show j.val + 1 ≤ 128
    omega
  all_goals exact le_rfl

theorem b5_apply (r : Fin 64) (a : Fin 128) : b5 j.val s (ix4 b h r a) = s.main_v79_0 (ix5 j b h r a) := by
  have e := clamp128 j
  pointwise [b5, b4, b0, b1, b2, b3]
  refine congrArg s.main_v79_0 ?_
  congr 1 <;> refine Fin.ext ?_
  · exact (e 0).trans (if_pos rfl)
  · exact (congrArg (· + _) (e 1)).trans (by simp)
  · exact (congrArg (· + _) (e 2)).trans (by simp)
  · exact (congrArg (· + _) (e 3)).trans (by simp)
  · exact (congrArg (· + _) (e 4)).trans (by simp)

theorem b11_apply (r : Fin 64) (a : Fin 128) : b11 j.val s (ix4 b h r a) = s.main_v79_1 (ix5 j b h r a) :=
  b5_apply j { s with main_v79_0 := s.main_v79_1 } b h r a

theorem b17_apply (r : Fin 64) (a : Fin 256) : b17 j.val s (ix4 b h r a) = s.main_v79_2 (ix5 j b h r a) := by
  have e := clamp256 j
  pointwise [b17, b16, b12, b13, b14, b15]
  refine congrArg s.main_v79_2 ?_
  congr 1 <;> refine Fin.ext ?_
  · exact (e 0).trans (if_pos rfl)
  · exact (congrArg (· + _) (e 1)).trans (by simp)
  · exact (congrArg (· + _) (e 2)).trans (by simp)
  · exact (congrArg (· + _) (e 3)).trans (by simp)
  · exact (congrArg (· + _) (e 4)).trans (by simp)

theorem b22_apply (r : Fin 64) : b22 j.val s (ix3 b h r) = s.main_v79_3 (ix4 j b h r) := by
  have e := clamp64 j
  pointwise [b22, b21, b18, b19, b20]
  refine congrArg s.main_v79_3 ?_
  congr 1 <;> refine Fin.ext ?_
  · exact (e 0).trans (if_pos rfl)
  · exact (congrArg (· + _) (e 1)).trans (by simp)
  · exact (congrArg (· + _) (e 2)).trans (by simp)
  · exact (congrArg (· + _) (e 3)).trans (by simp)

theorem b27_apply (r : Fin 64) : b27 j.val s (ix3 b h r) = s.main_v79_4 (ix4 j b h r) :=
  b22_apply j { s with main_v79_3 := s.main_v79_4 } b h r

/-- The trip's queries, keys, values and gates at a head, and the carried state. -/
abbrev sq (r : Fin 64) (a : Fin 128) : EReal := s.main_v79_0 (ix5 j b h r a)
abbrev sk (r : Fin 64) (a : Fin 128) : EReal := s.main_v79_1 (ix5 j b h r a)
abbrev sv (r : Fin 64) (d : Fin 256) : EReal := s.main_v79_2 (ix5 j b h r d)
abbrev si (r : Fin 64) : EReal := s.main_v79_3 (ix4 j b h r)
abbrev sb (r : Fin 64) : EReal := s.main_v79_4 (ix4 j b h r)
abbrev sC (a : Fin 128) (d : Fin 256) : EReal := s.main_v79_7 (ix4 b h a d)
abbrev sn (a : Fin 128) : EReal := s.main_v79_8 (ix3 b h a)
abbrev sm : EReal := s.main_v79_9 (ix2 b h)

theorem ofBits_ninf : Ideal.ofBits .f32 0xFF800000#32 = ⊥ := by simp [Ideal.ofBits, Ideal.ieee]

/-- The causal mask. -/
theorem mask (r t : Fin 64) (x y : EReal) : Scalar.select (Scalar.select (IntOp.cmpi CmpIPredicate.sge
    (IntOp.addi (BitVec.ofNat 32 r.val) 0#32) (BitVec.ofNat 32 t.val)) 1#1 0#1) x y = if t ≤ r then x else y := by
  have e : IntOp.cmpi CmpIPredicate.sge (IntOp.addi (BitVec.ofNat 32 r.val) 0#32) (BitVec.ofNat 32 t.val)
      = if t ≤ r then 1#1 else 0#1 := by
    revert r t
    decide +kernel
  rw [e]
  split <;> rfl

theorem b42_apply (r t : Fin 64) : b42 j.val s (ix4 b h r t) = dmat (si j s b h) (sb j s b h) r t := by
  unfold dmat
  pointwise [b42, b41, b40, b39, b38, b37, b36, b35, b34, b33, b32, b31, b30, K_main_v69, K_main_call4_v4, K_main_v68, K_main_call4_v5, K_main_call4_v2, K_main_call4_v3, K_main_call4_v0, K_main_call4_v1, K_main_call4_c, K_main_call4_c_0, K_main_c_0]
  rw [mask, ofBits_ninf, b27_apply, b27_apply, b22_apply]

theorem b48_apply (r : Fin 64) : b48 j.val s (ix3 b h r) = mrow (si j s b h) (sb j s b h) (sm s b h) r := by
  unfold mrow
  pointwise [b48, b47, b46, b45, b44, b43]
  rw [ofBits_ninf]
  simp only [b27_apply, b42_apply]

theorem b54_apply (r t : Fin 64) : b54 j.val s (ix4 b h r t)
    = score Ideal.exp (sq j s b h) (sk j s b h) (si j s b h) (sb j s b h) (sm s b h) r t := by
  unfold score
  pointwise [b54, b53, b52, b51, b50, b49]
  simp only [b48_apply, b42_apply, b5_apply, b11_apply]

theorem b56_apply (r : Fin 64) : b56 j.val s (ix3 b h r)
    = inter Ideal.exp (si j s b h) (sb j s b h) (sm s b h) r := by
  unfold inter
  pointwise [b56, b55, b45, b44, b43]
  simp only [b48_apply, b27_apply]

theorem b72_apply (r : Fin 64) (d : Fin 256) : b72 j.val s (ix4 b h r d)
    = hval Ideal.exp (sq j s b h) (sk j s b h) (sv j s b h) (si j s b h) (sb j s b h) (sC s b h) (sn s b h) (sm s b h) r d := by
  unfold hval num den
  pointwise [b72, b71, b70, b69, b68, b67, b66, b65, b64, b63, b62, b61, b60, b59, b58, b57, b28, b29]
  simp only [b48_apply, b56_apply, b54_apply, b5_apply, b17_apply]
  rw [Ideal.absf_def]

theorem b78_apply (t : Fin 64) : b78 j.val s (ix3 b h t) = acol (si j s b h) (sb j s b h) 63 t := by
  unfold acol
  pointwise [b78, b77, b76, b75, b74, b73]
  simp only [b27_apply, b22_apply]

theorem b82_apply : b82 j.val s (ix2 b h) = mnew (si j s b h) (sb j s b h) (sm s b h) 63 := by
  unfold mnew
  pointwise [b82, b81, b80, b79, b74, b73]
  rw [ofBits_ninf]
  simp only [b27_apply, b78_apply]

theorem b86_apply (t : Fin 64) : b86 j.val s (ix3 b h t) = wcol Ideal.exp (si j s b h) (sb j s b h) (sm s b h) 63 t := by
  unfold wcol
  pointwise [b86, b85, b84, b83]
  simp only [b78_apply, b82_apply]

theorem b89_apply : b89 j.val s (ix2 b h) = decay Ideal.exp (si j s b h) (sb j s b h) (sm s b h) 63 := by
  unfold decay
  pointwise [b89, b88, b87, b74, b73]
  simp only [b82_apply, b27_apply]

theorem b97_apply (a : Fin 128) (d : Fin 256) : b97 j.val s (ix4 b h a d)
    = cnew Ideal.exp (sk j s b h) (sv j s b h) (si j s b h) (sb j s b h) (sC s b h) (sm s b h) 63 a d := by
  unfold cnew
  pointwise [b97, b96, b95, b94, b93, b92, b91, b90]
  simp only [b89_apply, b86_apply, b11_apply, b17_apply]
  simp only [mul_comm (wcol _ _ _ _ _ _)]

theorem b103_apply (a : Fin 128) : b103 j.val s (ix3 b h a)
    = nnew Ideal.exp (sk j s b h) (si j s b h) (sb j s b h) (sn s b h) (sm s b h) 63 a := by
  unfold nnew
  pointwise [b103, b102, b101, b100, b99, b98, b92, b91, b90]
  simp only [b89_apply, b86_apply, b11_apply]
  simp only [mul_comm (wcol _ _ _ _ _ _)]

/-- The output stack after the trip: the trip's chunk is the trip's output, the others stay. -/
theorem b109_apply (i : Fin 128) (r : Fin 64) (d : Fin 256) : b109 j.val s (ix5 i b h r d)
    = if i = j then b72 j.val s (ix4 b h r d) else s.main_v79_10 (ix5 i b h r d) := by
  have e := clamp256 j
  have e0 := (e 0).trans (if_pos rfl)
  have e1 := (e 1).trans (if_neg (by decide))
  have e2 := (e 2).trans (if_neg (by decide))
  have e3 := (e 3).trans (if_neg (by decide))
  have e4 := (e 4).trans (if_neg (by decide))
  clear e
  by_cases hij : i = j
  · rw [if_pos hij]
    pointwise [b109, b108, b107, b106, b105, b104]
    have hi : i.val = j.val := congrArg Fin.val hij
    refine (dif_pos ⟨⟨e0.le.trans hi.ge, hi.le.trans_lt (Nat.lt_succ_of_le e0.ge)⟩, e1.le.trans (Nat.zero_le _), e2.le.trans (Nat.zero_le _),
      e3.le.trans (Nat.zero_le _), e4.le.trans (Nat.zero_le _)⟩).trans ?_
    refine congrArg (b72 j.val s) ?_
    congr 1
  · rw [if_neg hij]
    pointwise [b109, b108, b107, b106, b105, b104]
    exact dif_neg fun H => hij (Fin.ext (Nat.le_antisymm ((Nat.lt_succ_iff.mp H.1.2).trans e0.le) (e0.ge.trans H.1.1)))

end Cert.Mlstm

end
-- ==== Proof.MlstmRef.lean ====
/- The reference over its loop: the carried state and the stack of outputs before each trip, and the result array. -/
module

public import proofs.«01_k».proof.Proof.MlstmRefCum
public import proofs.«01_k».proof.Proof.MlstmRefStep

@[expose] public section

set_option maxRecDepth 16384

noncomputable section

namespace Cert.Mlstm

open Idealize.ShloMosaic Idealize.ShloMosaic.TcCoe
open Cert.ReferenceIdeal Cert.ReferenceIdeal.Gen Cert.ReferenceIdeal.Step

variable (z : (⟨S32768x3200, .f32⟩ : BufTy).Contents (Elt Ideal)) (w : (⟨S4x1024, .f32⟩ : BufTy).Contents (Elt Ideal))
  (cb : (⟨S1024, .f32⟩ : BufTy).Contents (Elt Ideal)) (g : (⟨S2x4, .f32⟩ : BufTy).Contents (Elt Ideal))

/-- The state before trip `n`. -/
def states : ℕ → State Ideal
  | 0 => init z w cb g
  | n + 1 => step n (states n)

/-- The stacks that a trip slices stay. -/
theorem stack_eq (n : ℕ) : (states z w cb g n).main_v79_0 = A_main_v70 z w cb g ∧ (states z w cb g n).main_v79_1 = A_main_v71 z w cb g
    ∧ (states z w cb g n).main_v79_2 = A_main_v72 z w cb g ∧ (states z w cb g n).main_v79_3 = A_main_v73 z w cb g
    ∧ (states z w cb g n).main_v79_4 = A_main_v74 z w cb g := by
  induction n with
  | zero => exact ⟨rfl, rfl, rfl, rfl, rfl⟩
  | succ n ih => exact ih

theorem init_C (b h : Fin 4) : sC (states z w cb g 0) b h = fun _ _ => 0 := by
  funext a d
  show K_main_v75 (F := Ideal) (ix4 b h a d) = (0 : EReal)
  pointwise [K_main_v75, K_main_cst_1]

theorem init_n (b h : Fin 4) : sn (states z w cb g 0) b h = fun _ => 0 := by
  funext a
  show K_main_v76 (F := Ideal) (ix3 b h a) = (0 : EReal)
  pointwise [K_main_v76, K_main_cst_2]

theorem init_m (b h : Fin 4) : sm (states z w cb g 0) b h = 0 := by
  show K_main_v77 (F := Ideal) (ix2 b h) = (0 : EReal)
  pointwise [K_main_v77, K_main_cst_3]

variable {z w cb g}

/-- Before trip `n` the carried state is the recurrence's at token `64 n`, and the chunks before hold its outputs. -/
theorem inv (hz : ∀ i, IsR (z i)) (hw : ∀ i, IsR (w i)) (hcb : ∀ i, IsR (cb i)) (hg : ∀ i, IsR (g i)) (b h : Fin 4) (n : ℕ) (hn : n ≤ 128) :
    Carried Real.exp (toks z w cb g 1 64 b.val h) (n * 64) (sC (states z w cb g n) b h) (sn (states z w cb g n) b h) (sm (states z w cb g n) b h)
    ∧ ∀ (i : Fin 128) (r : Fin 64) (d : Fin 256), i.val < n →
      (states z w cb g n).main_v79_10 (ix5 i b h r d) = (((toks z w cb g 1 64 b.val h).out Real.exp (i.val * 64 + r.val) d : ℝ) : EReal) := by
  induction n with
  | zero =>
    rw [init_C, init_n, init_m, Nat.zero_mul]
    exact ⟨carried_zero _ isExp_exp, fun i r d hi => absurd hi (Nat.not_lt_zero _)⟩
  | succ n ih =>
    obtain ⟨hC, ho⟩ := ih (by omega)
    have hj : n < 128 := hn
    obtain ⟨e0, e1, e2, e3, e4⟩ := stack_eq z w cb g n
    have hR := reads z w cb g hz hw hcb hg ⟨n, hj⟩ b h
    rw [← e0, ← e1, ← e2, ← e3, ← e4] at hR
    have eC : sC (states z w cb g (n + 1)) b h = fun a d => cnew Ideal.exp (sk ⟨n, hj⟩ (states z w cb g n) b h) (sv ⟨n, hj⟩ (states z w cb g n) b h)
        (si ⟨n, hj⟩ (states z w cb g n) b h) (sb ⟨n, hj⟩ (states z w cb g n) b h) (sC (states z w cb g n) b h) (sm (states z w cb g n) b h) 63 a d :=
      funext fun a => funext fun d => b97_apply ⟨n, hj⟩ (states z w cb g n) b h a d
    have en : sn (states z w cb g (n + 1)) b h = fun a => nnew Ideal.exp (sk ⟨n, hj⟩ (states z w cb g n) b h)
        (si ⟨n, hj⟩ (states z w cb g n) b h) (sb ⟨n, hj⟩ (states z w cb g n) b h) (sn (states z w cb g n) b h) (sm (states z w cb g n) b h) 63 a :=
      funext fun a => b103_apply ⟨n, hj⟩ (states z w cb g n) b h a
    have em : sm (states z w cb g (n + 1)) b h = mnew (si ⟨n, hj⟩ (states z w cb g n) b h) (sb ⟨n, hj⟩ (states z w cb g n) b h) (sm (states z w cb g n) b h) 63 :=
      b82_apply ⟨n, hj⟩ (states z w cb g n) b h
    constructor
    · rw [eC, en, em, show (n + 1) * 64 = n * 64 + 64 by omega]
      exact carried_step _ _ _ _ _ _ _ _ _ _ _ isExp_exp hR hC rfl
    · intro i r d hi
      have hs : (states z w cb g (n + 1)).main_v79_10 (ix5 i b h r d) = b109 n (states z w cb g n) (ix5 i b h r d) := rfl
      rw [hs]
      refine (b109_apply ⟨n, hj⟩ (states z w cb g n) b h i r d).trans ?_
      by_cases hin : i = ⟨n, hj⟩
      · rw [if_pos hin]
        refine (b72_apply ⟨n, hj⟩ (states z w cb g n) b h r d).trans ?_
        refine (hval_eq _ _ _ _ _ _ _ _ _ _ isExp_exp hR hC r d).trans ?_
        rw [hin]
      · rw [if_neg hin]
        exact ho i r d (Nat.lt_of_le_of_ne (Nat.lt_succ_iff.mp hi) fun h => hin (Fin.ext h))

/-- The result of a state's stack of outputs. -/
theorem R_lane (s : State Ideal) (gn : (⟨S1024, .f32⟩ : BufTy).Contents (Elt Ideal)) (b : Fin 4) (t : Fin 8192) (l : Fin 1024) :
    R_main_v108 s z gn (ix2 ⟨b.val * 8192 + t.val, by omega⟩ l)
      = gated (fun d => s.main_v79_10 (ix5 ⟨t.val / 64, by omega⟩ b ⟨l.val / 256, by omega⟩ ⟨t.val % 64, by omega⟩ d)) (gn (ix1 l))
        (z (ix2 ⟨b.val * 8192 + t.val, by omega⟩ ⟨2048 + l.val, by omega⟩)) ⟨l.val % 256, by omega⟩ := by
  unfold gated
  pointwise [R_main_v108]

theorem R_apply (s : State Ideal) (gn : (⟨S1024, .f32⟩ : BufTy).Contents (Elt Ideal)) (b : Fin 4) (t : Fin 8192) (h : Fin 4) (d : Fin 256) :
    R_main_v108 s z gn (ix2 ⟨b.val * 8192 + t.val, by omega⟩ (vcol h d))
      = gated (fun d => s.main_v79_10 (ix5 ⟨t.val / 64, by omega⟩ b h ⟨t.val % 64, by omega⟩ d)) (gn (ix1 (vcol h d)))
        (z (ix2 ⟨b.val * 8192 + t.val, by omega⟩ ⟨2048 + (vcol h d).val, by omega⟩)) d := by
  have hv : (vcol h d).val = h.val * 256 + d.val := rfl
  have e3 : (⟨(vcol h d).val / 256, by omega⟩ : Fin 4) = h := Fin.ext (by dsimp only; omega)
  have e4 : (⟨(vcol h d).val % 256, Nat.mod_lt _ (by norm_num)⟩ : Fin 256) = d := Fin.ext (by dsimp only; omega)
  rw [R_lane, e3, e4]

/-- The reference's result is the layer's output. -/
theorem ref_eq (hz : ∀ i, IsR (z i)) (hw : ∀ i, IsR (w i)) (hcb : ∀ i, IsR (cb i)) (hg : ∀ i, IsR (g i))
    (gn : (⟨S1024, .f32⟩ : BufTy).Contents (Elt Ideal)) : R_main_v108 (states z w cb g 128) z gn = value z w cb g gn := by
  funext i
  obtain ⟨r, l, rfl⟩ : ∃ r l, i = ix2 r l := ⟨i 0, i 1, eq_ix2 i⟩
  obtain ⟨h, d, rfl⟩ := col_split l
  obtain ⟨b, t, rfl⟩ : ∃ (b : Fin 4) (t : Fin 8192), r = ⟨b.val * 8192 + t.val, by omega⟩ :=
    ⟨⟨r.val / 8192, by omega⟩, ⟨r.val % 8192, by omega⟩, Fin.ext (by dsimp only; omega)⟩
  refine (R_apply (states z w cb g 128) gn b t h d).trans ?_
  have ht := t.isLt
  have ho : (fun d => (states z w cb g 128).main_v79_10 (ix5 ⟨t.val / 64, by omega⟩ b h ⟨t.val % 64, by omega⟩ d))
      = fun d => (((toks z w cb g 1 64 b.val h).out Real.exp t.val d : ℝ) : EReal) := funext fun d => by
    rw [(inv hz hw hcb hg b h 128 le_rfl).2 _ _ _ (by dsimp only; omega)]
    dsimp only
    rw [show t.val / 64 * 64 + t.val % 64 = t.val by omega]
  rw [ho, row_eq b t.val ht, value_apply z w cb g gn b.val t.val b.isLt ht h d]

end Cert.Mlstm

end
-- ==== Proof.MlstmSteps.lean ====
/- The mLSTM reference's run stated over one trip's step: at a valuation that holds a state (the carried values, the
   set-up values, the trip's number) every value of one trip is the step's, one lemma each, so one more trip keeps
   holding with the step applied; what the program leaves before its loop holds the initial state; the results are the
   fields of the step iterated. It follows the generated statement of the same run, whose lemma for the output stack
   does not go through (its rewriting does not find the update); the lemma is proved here by the equation itself. -/
module

public import proofs.«01_k».proof.Proof.Gen.ReferenceIdeal.Run
public import proofs.«01_k».proof.Proof.Gen.ReferenceIdeal.Step

@[expose] public section

noncomputable section

namespace Cert.Mlstm.Steps

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v79_7) = s.main_v79_7
  f_8 : V0 (Proc.devRef .tc main_v79_8) = s.main_v79_8
  f_9 : V0 (Proc.devRef .tc main_v79_9) = s.main_v79_9
  f_10 : V0 (Proc.devRef .tc main_v79_10) = s.main_v79_10
  f_0 : V0 (Proc.devRef .tc main_v79_0) = s.main_v79_0
  f_1 : V0 (Proc.devRef .tc main_v79_1) = s.main_v79_1
  f_2 : V0 (Proc.devRef .tc main_v79_2) = s.main_v79_2
  f_3 : V0 (Proc.devRef .tc main_v79_3) = s.main_v79_3
  f_4 : V0 (Proc.devRef .tc main_v79_4) = s.main_v79_4
  n_6 : V0 (Proc.devRef .tc main_v79_6) = constantI S_ 32 (BitVec.ofNat 32 j)
  k_5 : V0 (Proc.devRef .tc main_v79_5) = Cert.ReferenceIdeal.Step.K_main_v69 (F := F)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call5_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call5_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x128 (V0 (Proc.devRef .tc main_v79_0)) (fun k => (((![V0 (Proc.devRef .tc main_v79_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x128_S1x4x4x64x128 : (Proc.devRef .tc main_while0b_call5_v0 : DevRef τ sig).ty.Contents (Elt F)) = Cert.ReferenceIdeal.Step.b4 j s := by
  unfold Cert.ReferenceIdeal.Step.b4
  rw [← al_0 h, ← al_1 h, ← al_2 h, ← al_3 h, h.f_0, h.n_6]
  try rfl
set_option maxRecDepth 8192 in
theorem al_5 (h : Holds V0 s j) : (res_main_while0b_v109 V0 : (Proc.devRef .tc main_while0b_v109 : DevRef τ sig).ty.Contents (Elt F)) = Cert.ReferenceIdeal.Step.b5 j s := by
  unfold res_main_while0b_v109 Cert.ReferenceIdeal.Step.b5
  rw [← al_4 h]
  try rfl
set_option maxRecDepth 8192 in
theorem al_6 (h : Holds V0 s j) : (constantI S_ 32 0#32 : (Proc.devRef .tc main_while0b_call6_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call6_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call6_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call6_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x128 (V0 (Proc.devRef .tc main_v79_1)) (fun k => (((![V0 (Proc.devRef .tc main_v79_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x128_S1x4x4x64x128 : (Proc.devRef .tc main_while0b_call6_v0 : DevRef τ sig).ty.Contents (Elt F)) = Cert.ReferenceIdeal.Step.b10 j s := by
  unfold Cert.ReferenceIdeal.Step.b10
  rw [← al_6 h, ← al_7 h, ← al_8 h, ← al_9 h, h.f_1, h.n_6]
  try rfl
set_option maxRecDepth 8192 in
theorem al_11 (h : Holds V0 s j) : (res_main_while0b_v110 V0 : (Proc.devRef .tc main_while0b_v110 : DevRef τ sig).ty.Contents (Elt F)) = Cert.ReferenceIdeal.Step.b11 j s := by
  unfold res_main_while0b_v110 Cert.ReferenceIdeal.Step.b11
  rw [← al_10 h]
  try rfl
set_option maxRecDepth 8192 in
theorem al_12 (h : Holds V0 s j) : (constantI S_ 32 0#32 : (Proc.devRef .tc main_while0b_call7_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call7_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call7_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call7_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x256 (V0 (Proc.devRef .tc main_v79_2)) (fun k => (((![V0 (Proc.devRef .tc main_v79_6), constantI S_ 32 0#32, constantI S_ 32 0#32, constantI S_ 32 0#32, constantI S_ 32 0#32] : Fin 5 → (⟨S_, .i32⟩ : BufTy).Contents (Elt F))) k (Shape.Idx.first h_S_)).toInt) sliceFits_S128x4x4x64x256_S1x4x4x64x256 : (Proc.devRef .tc main_while0b_call7_v0 : DevRef τ sig).ty.Contents (Elt F)) = Cert.ReferenceIdeal.Step.b16 j s := by
  unfold Cert.ReferenceIdeal.Step.b16
  rw [← al_12 h, ← al_13 h, ← al_14 h, ← al_15 h, h.f_2, h.n_6]
  try rfl
set_option maxRecDepth 8192 in
theorem al_17 (h : Holds V0 s j) : (res_main_while0b_v111 V0 : (Proc.devRef .tc main_while0b_v111 : DevRef τ sig).ty.Contents (Elt F)) = Cert.ReferenceIdeal.Step.b17 j s := by
  unfold res_main_while0b_v111 Cert.ReferenceIdeal.Step.b17
  rw [← al_16 h]
  try rfl
set_option maxRecDepth 8192 in
theorem al_18 (h : Holds V0 s j) : (constantI S_ 32 0#32 : (Proc.devRef .tc main_while0b_call8_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call8_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call8_c_1 : DevRef τ sig).ty.Contents (Elt F)) = Cert.ReferenceIdeal.Step.b20 j s := by
  unfold Cert.ReferenceIdeal.Step.b20
  rfl
set_option maxRecDepth 8192 in
theorem al_21 (h : Holds V0 s j) : (Host.dynamicSlice S1x4x4x64 (V0 (Proc.devRef .tc main_v79_3)) (fun k => (((![V0 (Proc.devRef .tc main_v79_6), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call8_v0 : DevRef τ sig).ty.Contents (Elt F)) = Cert.ReferenceIdeal.Step.b21 j s := by
  unfold Cert.ReferenceIdeal.Step.b21
  rw [← al_18 h, ← al_19 h, ← al_20 h, h.f_3, h.n_6]
  try rfl
set_option maxRecDepth 8192 in
theorem al_22 (h : Holds V0 s j) : (res_main_while0b_v112 V0 : (Proc.devRef .tc main_while0b_v112 : DevRef τ sig).ty.Contents (Elt F)) = Cert.ReferenceIdeal.Step.b22 j s := by
  unfold res_main_while0b_v112 Cert.ReferenceIdeal.Step.b22
  rw [← al_21 h]
  try rfl
set_option maxRecDepth 8192 in
theorem al_23 (h : Holds V0 s j) : (constantI S_ 32 0#32 : (Proc.devRef .tc main_while0b_call9_c : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call9_c_0 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call9_c_1 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x4x4x64 (V0 (Proc.devRef .tc main_v79_4)) (fun k => (((![V0 (Proc.devRef .tc main_v79_6), constantI S_ 32 0#32, constantI S_ 32 0#32, constantI S_ 32 0#32] : Fin 4 → (⟨S_, .i32⟩ : BufTy).Contents (Elt F))) k (Shape.Idx.first h_S_)).toInt) sliceFits_S128x4x4x64_S1x4x4x64 : (Proc.devRef .tc main_while0b_call9_v0 : DevRef τ sig).ty.Contents (Elt F)) = Cert.ReferenceIdeal.Step.b26 j s := by
  unfold Cert.ReferenceIdeal.Step.b26
  rw [← al_23 h, ← al_24 h, ← al_25 h, h.f_4, h.n_6]
  try rfl
set_option maxRecDepth 8192 in
theorem al_27 (h : Holds V0 s j) : (res_main_while0b_v113 V0 : (Proc.devRef .tc main_while0b_v113 : DevRef τ sig).ty.Contents (Elt F)) = Cert.ReferenceIdeal.Step.b27 j s := by
  unfold res_main_while0b_v113 Cert.ReferenceIdeal.Step.b27
  rw [← al_26 h]
  try rfl
set_option maxRecDepth 8192 in
theorem al_28 (h : Holds V0 s j) : (Host.dotGeneral dot_S4x4x64x128_S4x4x128x256_S4x4x64x256_3_2_2_3_01_01 none (res_main_while0b_v109 V0) (V0 (Proc.devRef .tc main_v79_7)) : (Proc.devRef .tc main_while0b_v114 : DevRef τ sig).ty.Contents (Elt F)) = Cert.ReferenceIdeal.Step.b28 j s := by
  unfold Cert.ReferenceIdeal.Step.b28
  rw [← al_5 h, h.f_7]
  try rfl
set_option maxRecDepth 8192 in
theorem al_29 (h : Holds V0 s j) : (Host.dotGeneral dot_S4x4x64x128_S4x4x128_S4x4x64_3_2_2_n_01_01 none (res_main_while0b_v109 V0) (V0 (Proc.devRef .tc main_v79_8)) : (Proc.devRef .tc main_while0b_v115 : DevRef τ sig).ty.Contents (Elt F)) = Cert.ReferenceIdeal.Step.b29 j s := by
  unfold Cert.ReferenceIdeal.Step.b29
  rw [← al_5 h, h.f_8]
  try rfl
set_option maxRecDepth 8192 in
theorem al_30 (h : Holds V0 s j) : (broadcastInDim S4x4x64x1 ![0, 1, 2] bcast_S4x4x64_S4x4x64x1_0_1_2 (res_main_while0b_v113 V0) : (Proc.devRef .tc main_while0b_v116 : DevRef τ sig).ty.Contents (Elt F)) = Cert.ReferenceIdeal.Step.b30 j s := by
  unfold Cert.ReferenceIdeal.Step.b30
  rw [← al_27 h]
  try rfl
set_option maxRecDepth 8192 in
theorem al_31 (h : Holds V0 s j) : (broadcastInDim S4x4x1x64 ![0, 1, 3] bcast_S4x4x64_S4x4x1x64_0_1_3 (res_main_while0b_v113 V0) : (Proc.devRef .tc main_while0b_v117 : DevRef τ sig).ty.Contents (Elt F)) = Cert.ReferenceIdeal.Step.b31 j s := by
  unfold Cert.ReferenceIdeal.Step.b31
  rw [← al_27 h]
  try rfl
set_option maxRecDepth 8192 in
theorem al_32 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v113 V0)) : (Proc.devRef .tc main_while0b_v118 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v113 V0)) : (Proc.devRef .tc main_while0b_v119 : DevRef τ sig).ty.Contents (Elt F)) = Cert.ReferenceIdeal.Step.b33 j s := by
  unfold Cert.ReferenceIdeal.Step.b33
  rw [← al_31 h]
  try rfl
set_option maxRecDepth 8192 in
theorem al_34 (h : Holds V0 s j) : (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v113 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v113 V0))) : (Proc.devRef .tc main_while0b_v120 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (broadcastInDim S4x4x1x64 ![0, 1, 3] bcast_S4x4x64_S4x4x1x64_0_1_3 (res_main_while0b_v112 V0) : (Proc.devRef .tc main_while0b_v121 : DevRef τ sig).ty.Contents (Elt F)) = Cert.ReferenceIdeal.Step.b35 j s := by
  unfold Cert.ReferenceIdeal.Step.b35
  rw [← al_22 h]
  try rfl
set_option maxRecDepth 8192 in
theorem al_36 (h : Holds V0 s j) : (broadcastInDim S4x4x64x64 ![0, 1, 2, 3] bcast_S4x4x1x64_S4x4x64x64_0_1_2_3 (broadcastInDim S4x4x1x64 ![0, 1, 3] bcast_S4x4x64_S4x4x1x64_0_1_3 (res_main_while0b_v112 V0)) : (Proc.devRef .tc main_while0b_v122 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (addf (subf (broadcastInDim S4x4x64x64 ![0, 1, 2, 3] bcast_S4x4x64x1_S4x4x64x64_0_1_2_3 (broadcastInDim S4x4x64x1 ![0, 1, 2] bcast_S4x4x64_S4x4x64x1_0_1_2 (res_main_while0b_v113 V0))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v113 V0)))) (broadcastInDim S4x4x64x64 ![0, 1, 2, 3] bcast_S4x4x1x64_S4x4x64x64_0_1_2_3 (broadcastInDim S4x4x1x64 ![0, 1, 3] bcast_S4x4x64_S4x4x1x64_0_1_3 (res_main_while0b_v112 V0))) : (Proc.devRef .tc main_while0b_v123 : DevRef τ sig).ty.Contents (Elt F)) = Cert.ReferenceIdeal.Step.b37 j s := by
  unfold Cert.ReferenceIdeal.Step.b37
  rw [← al_34 h, ← al_36 h]
  try rfl
set_option maxRecDepth 8192 in
theorem al_38 (h : Holds V0 s j) : (constant S_ .f32 0xFF800000#32 : (Proc.devRef .tc main_while0b_cst_21 : DevRef τ sig).ty.Contents (Elt F)) = Cert.ReferenceIdeal.Step.b38 j s := by
  unfold Cert.ReferenceIdeal.Step.b38
  rfl
set_option maxRecDepth 8192 in
theorem al_39 (h : Holds V0 s j) : (id (constant S_ .f32 0xFF800000#32) : (Proc.devRef .tc main_while0b_call10_v0 : DevRef τ sig).ty.Contents (Elt F)) = Cert.ReferenceIdeal.Step.b39 j s := by
  unfold Cert.ReferenceIdeal.Step.b39
  rw [← al_38 h]
  try rfl
set_option maxRecDepth 8192 in
theorem al_40 (h : Holds V0 s j) : (broadcastInDim S4x4x64x64 ![2, 3] bcast_S64x64_S4x4x64x64_2_3 (V0 (Proc.devRef .tc main_v79_5)) : (Proc.devRef .tc main_while0b_call10_v1 : DevRef τ sig).ty.Contents (Elt F)) = Cert.ReferenceIdeal.Step.b40 j s := by
  unfold Cert.ReferenceIdeal.Step.b40
  rw [h.k_5]
  try rfl
set_option maxRecDepth 8192 in
theorem al_41 (h : Holds V0 s j) : (broadcastInDim S4x4x64x64 ![] bcast_S_S4x4x64x64 (id (constant S_ .f32 0xFF800000#32)) : (Proc.devRef .tc main_while0b_call10_v2 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (res_main_while0b_v124 V0 : (Proc.devRef .tc main_while0b_v124 : DevRef τ sig).ty.Contents (Elt F)) = Cert.ReferenceIdeal.Step.b42 j s := by
  unfold res_main_while0b_v124 Cert.ReferenceIdeal.Step.b42
  rw [← al_40 h, ← al_37 h, ← al_41 h]
  try rfl
set_option maxRecDepth 8192 in
theorem al_43 (h : Holds V0 s j) : (broadcastInDim S4x4x1 ![0, 1] bcast_S4x4_S4x4x1_0_1 (V0 (Proc.devRef .tc main_v79_9)) : (Proc.devRef .tc main_while0b_v125 : DevRef τ sig).ty.Contents (Elt F)) = Cert.ReferenceIdeal.Step.b43 j s := by
  unfold Cert.ReferenceIdeal.Step.b43
  rw [h.f_9]
  try rfl
set_option maxRecDepth 8192 in
theorem al_44 (h : Holds V0 s j) : (broadcastInDim S4x4x64 ![0, 1, 2] bcast_S4x4x1_S4x4x64_0_1_2 (broadcastInDim S4x4x1 ![0, 1] bcast_S4x4_S4x4x1_0_1 (V0 (Proc.devRef .tc main_v79_9))) : (Proc.devRef .tc main_while0b_v126 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (res_main_while0b_v127 V0 : (Proc.devRef .tc main_while0b_v127 : DevRef τ sig).ty.Contents (Elt F)) = Cert.ReferenceIdeal.Step.b45 j s := by
  unfold res_main_while0b_v127 Cert.ReferenceIdeal.Step.b45
  rw [← al_27 h, ← al_44 h]
  try rfl
set_option maxRecDepth 8192 in
theorem al_46 (h : Holds V0 s j) : (constant S_ .f32 0xFF800000#32 : (Proc.devRef .tc main_while0b_cst_22 : DevRef τ sig).ty.Contents (Elt F)) = Cert.ReferenceIdeal.Step.b46 j s := by
  unfold Cert.ReferenceIdeal.Step.b46
  rfl
set_option maxRecDepth 8192 in
theorem al_47 (h : Holds V0 s j) : (Host.reduce FloatOps.maximumf (res_main_while0b_v124 V0) (constant S_ .f32 0xFF800000#32) reducesTo_S4x4x64x64_S4x4x64_d3 h_S_ : (Proc.devRef .tc main_while0b_v128 : DevRef τ sig).ty.Contents (Elt F)) = Cert.ReferenceIdeal.Step.b47 j s := by
  unfold Cert.ReferenceIdeal.Step.b47
  rw [← al_42 h, ← al_46 h]
  try rfl
set_option maxRecDepth 8192 in
theorem al_48 (h : Holds V0 s j) : (res_main_while0b_v129 V0 : (Proc.devRef .tc main_while0b_v129 : DevRef τ sig).ty.Contents (Elt F)) = Cert.ReferenceIdeal.Step.b48 j s := by
  unfold res_main_while0b_v129 Cert.ReferenceIdeal.Step.b48
  rw [← al_45 h, ← al_47 h]
  try rfl
set_option maxRecDepth 8192 in
theorem al_49 (h : Holds V0 s j) : (Host.dotGeneral dot_S4x4x64x128_S4x4x64x128_S4x4x64x64_3_3_2_2_01_01 none (res_main_while0b_v109 V0) (res_main_while0b_v110 V0) : (Proc.devRef .tc main_while0b_v130 : DevRef τ sig).ty.Contents (Elt F)) = Cert.ReferenceIdeal.Step.b49 j s := by
  unfold Cert.ReferenceIdeal.Step.b49
  rw [← al_5 h, ← al_11 h]
  try rfl
set_option maxRecDepth 8192 in
theorem al_50 (h : Holds V0 s j) : (broadcastInDim S4x4x64x1 ![0, 1, 2] bcast_S4x4x64_S4x4x64x1_0_1_2 (res_main_while0b_v129 V0) : (Proc.devRef .tc main_while0b_v131 : DevRef τ sig).ty.Contents (Elt F)) = Cert.ReferenceIdeal.Step.b50 j s := by
  unfold Cert.ReferenceIdeal.Step.b50
  rw [← al_48 h]
  try rfl
set_option maxRecDepth 8192 in
theorem al_51 (h : Holds V0 s j) : (broadcastInDim S4x4x64x64 ![0, 1, 2, 3] bcast_S4x4x64x1_S4x4x64x64_0_1_2_3 (broadcastInDim S4x4x64x1 ![0, 1, 2] bcast_S4x4x64_S4x4x64x1_0_1_2 (res_main_while0b_v129 V0)) : (Proc.devRef .tc main_while0b_v132 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (subf (res_main_while0b_v124 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v129 V0))) : (Proc.devRef .tc main_while0b_v133 : DevRef τ sig).ty.Contents (Elt F)) = Cert.ReferenceIdeal.Step.b52 j s := by
  unfold Cert.ReferenceIdeal.Step.b52
  rw [← al_42 h, ← al_51 h]
  try rfl
set_option maxRecDepth 8192 in
theorem al_53 (h : Holds V0 s j) : (Host.exp (subf (res_main_while0b_v124 V0) (broadcastInDim S4x4x64x64 ![0, 1, 2, 3] bcast_S4x4x64x1_S4x4x64x64_0_1_2_3 (broadcastInDim S4x4x64x1 ![0, 1, 2] bcast_S4x4x64_S4x4x64x1_0_1_2 (res_main_while0b_v129 V0)))) : (Proc.devRef .tc main_while0b_v134 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (res_main_while0b_v135 V0 : (Proc.devRef .tc main_while0b_v135 : DevRef τ sig).ty.Contents (Elt F)) = Cert.ReferenceIdeal.Step.b54 j s := by
  unfold res_main_while0b_v135 Cert.ReferenceIdeal.Step.b54
  rw [← al_49 h, ← al_53 h]
  try rfl
set_option maxRecDepth 8192 in
theorem al_55 (h : Holds V0 s j) : (subf (res_main_while0b_v127 V0) (res_main_while0b_v129 V0) : (Proc.devRef .tc main_while0b_v136 : DevRef τ sig).ty.Contents (Elt F)) = Cert.ReferenceIdeal.Step.b55 j s := by
  unfold Cert.ReferenceIdeal.Step.b55
  rw [← al_45 h, ← al_48 h]
  try rfl
set_option maxRecDepth 8192 in
theorem al_56 (h : Holds V0 s j) : (res_main_while0b_v137 V0 : (Proc.devRef .tc main_while0b_v137 : DevRef τ sig).ty.Contents (Elt F)) = Cert.ReferenceIdeal.Step.b56 j s := by
  unfold res_main_while0b_v137 Cert.ReferenceIdeal.Step.b56
  rw [← al_55 h]
  try rfl
set_option maxRecDepth 8192 in
theorem al_57 (h : Holds V0 s j) : (broadcastInDim S4x4x64x1 ![0, 1, 2] bcast_S4x4x64_S4x4x64x1_0_1_2 (res_main_while0b_v137 V0) : (Proc.devRef .tc main_while0b_v138 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0)) : (Proc.devRef .tc main_while0b_v139 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7))) : (Proc.devRef .tc main_while0b_v140 : DevRef τ sig).ty.Contents (Elt F)) = Cert.ReferenceIdeal.Step.b59 j s := by
  unfold Cert.ReferenceIdeal.Step.b59
  rw [← al_58 h, ← al_28 h]
  try rfl
set_option maxRecDepth 8192 in
theorem al_60 (h : Holds V0 s j) : (Host.dotGeneral dot_S4x4x64x64_S4x4x64x256_S4x4x64x256_3_2_2_3_01_01 none (res_main_while0b_v135 V0) (res_main_while0b_v111 V0) : (Proc.devRef .tc main_while0b_v141 : DevRef τ sig).ty.Contents (Elt F)) = Cert.ReferenceIdeal.Step.b60 j s := by
  unfold Cert.ReferenceIdeal.Step.b60
  rw [← al_54 h, ← al_17 h]
  try rfl
set_option maxRecDepth 8192 in
theorem al_61 (h : Holds V0 s j) : (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7)))) (Host.dotGeneral dot_S4x4x64x64_S4x4x64x256_S4x4x64x256_3_2_2_3_01_01 none (res_main_while0b_v135 V0) (res_main_while0b_v111 V0)) : (Proc.devRef .tc main_while0b_v142 : DevRef τ sig).ty.Contents (Elt F)) = Cert.ReferenceIdeal.Step.b61 j s := by
  unfold Cert.ReferenceIdeal.Step.b61
  rw [← al_59 h, ← al_60 h]
  try rfl
set_option maxRecDepth 8192 in
theorem al_62 (h : Holds V0 s j) : (mulf (res_main_while0b_v137 V0) (Host.dotGeneral dot_S4x4x64x128_S4x4x128_S4x4x64_3_2_2_n_01_01 none (res_main_while0b_v109 V0) (V0 (Proc.devRef .tc main_v79_8))) : (Proc.devRef .tc main_while0b_v143 : DevRef τ sig).ty.Contents (Elt F)) = Cert.ReferenceIdeal.Step.b62 j s := by
  unfold Cert.ReferenceIdeal.Step.b62
  rw [← al_56 h, ← al_29 h]
  try rfl
set_option maxRecDepth 8192 in
theorem al_63 (h : Holds V0 s j) : (constant S_ .f32 0x00000000#32 : (Proc.devRef .tc main_while0b_cst_23 : DevRef τ sig).ty.Contents (Elt F)) = Cert.ReferenceIdeal.Step.b63 j s := by
  unfold Cert.ReferenceIdeal.Step.b63
  rfl
set_option maxRecDepth 8192 in
theorem al_64 (h : Holds V0 s j) : (Host.reduceAdd (res_main_while0b_v135 V0) (constant S_ .f32 0x00000000#32) reducesTo_S4x4x64x64_S4x4x64_d3 h_S_ : (Proc.devRef .tc main_while0b_v144 : DevRef τ sig).ty.Contents (Elt F)) = Cert.ReferenceIdeal.Step.b64 j s := by
  unfold Cert.ReferenceIdeal.Step.b64
  rw [← al_54 h, ← al_63 h]
  try rfl
set_option maxRecDepth 8192 in
theorem al_65 (h : Holds V0 s j) : (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_) : (Proc.devRef .tc main_while0b_v145 : DevRef τ sig).ty.Contents (Elt F)) = Cert.ReferenceIdeal.Step.b65 j s := by
  unfold Cert.ReferenceIdeal.Step.b65
  rw [← al_62 h, ← al_64 h]
  try rfl
set_option maxRecDepth 8192 in
theorem al_66 (h : Holds V0 s j) : (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_)) : (Proc.devRef .tc main_while0b_v146 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (Host.negf (res_main_while0b_v129 V0) : (Proc.devRef .tc main_while0b_v147 : DevRef τ sig).ty.Contents (Elt F)) = Cert.ReferenceIdeal.Step.b67 j s := by
  unfold Cert.ReferenceIdeal.Step.b67
  rw [← al_48 h]
  try rfl
set_option maxRecDepth 8192 in
theorem al_68 (h : Holds V0 s j) : (Host.exp (Host.negf (res_main_while0b_v129 V0)) : (Proc.devRef .tc main_while0b_v148 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0))) : (Proc.devRef .tc main_while0b_v149 : DevRef τ sig).ty.Contents (Elt F)) = Cert.ReferenceIdeal.Step.b69 j s := by
  unfold Cert.ReferenceIdeal.Step.b69
  rw [← al_66 h, ← al_68 h]
  try rfl
set_option maxRecDepth 8192 in
theorem al_70 (h : Holds V0 s j) : (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0)))) : (Proc.devRef .tc main_while0b_v150 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0))))) : (Proc.devRef .tc main_while0b_v151 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7)))) (Host.dotGeneral dot_S4x4x64x64_S4x4x64x256_S4x4x64x256_3_2_2_3_01_01 none (res_main_while0b_v135 V0) (res_main_while0b_v111 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0)))))) : (Proc.devRef .tc main_while0b_v152 : DevRef τ sig).ty.Contents (Elt F)) = Cert.ReferenceIdeal.Step.b72 j s := by
  unfold Cert.ReferenceIdeal.Step.b72
  rw [← al_61 h, ← al_71 h]
  try rfl
set_option maxRecDepth 8192 in
theorem al_73 (h : Holds V0 s j) : (extractStridedSlice S4x4x1 ![0, 0, 63] (res_main_while0b_v113 V0) slices_S4x4x64_S4x4x1_0_0_63 : (Proc.devRef .tc main_while0b_v153 : DevRef τ sig).ty.Contents (Elt F)) = Cert.ReferenceIdeal.Step.b73 j s := by
  unfold Cert.ReferenceIdeal.Step.b73
  rw [← al_27 h]
  try rfl
set_option maxRecDepth 8192 in
theorem al_74 (h : Holds V0 s j) : (res_main_while0b_v154 V0 : (Proc.devRef .tc main_while0b_v154 : DevRef τ sig).ty.Contents (Elt F)) = Cert.ReferenceIdeal.Step.b74 j s := by
  unfold res_main_while0b_v154 Cert.ReferenceIdeal.Step.b74
  rw [← al_73 h]
  try rfl
set_option maxRecDepth 8192 in
theorem al_75 (h : Holds V0 s j) : (broadcastInDim S4x4x1 ![0, 1] bcast_S4x4_S4x4x1_0_1 (res_main_while0b_v154 V0) : (Proc.devRef .tc main_while0b_v155 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (broadcastInDim S4x4x64 ![0, 1, 2] bcast_S4x4x1_S4x4x64_0_1_2 (broadcastInDim S4x4x1 ![0, 1] bcast_S4x4_S4x4x1_0_1 (res_main_while0b_v154 V0)) : (Proc.devRef .tc main_while0b_v156 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (subf (broadcastInDim S4x4x64 ![0, 1, 2] bcast_S4x4x1_S4x4x64_0_1_2 (broadcastInDim S4x4x1 ![0, 1] bcast_S4x4_S4x4x1_0_1 (res_main_while0b_v154 V0))) (res_main_while0b_v113 V0) : (Proc.devRef .tc main_while0b_v157 : DevRef τ sig).ty.Contents (Elt F)) = Cert.ReferenceIdeal.Step.b77 j s := by
  unfold Cert.ReferenceIdeal.Step.b77
  rw [← al_76 h, ← al_27 h]
  try rfl
set_option maxRecDepth 8192 in
theorem al_78 (h : Holds V0 s j) : (res_main_while0b_v158 V0 : (Proc.devRef .tc main_while0b_v158 : DevRef τ sig).ty.Contents (Elt F)) = Cert.ReferenceIdeal.Step.b78 j s := by
  unfold res_main_while0b_v158 Cert.ReferenceIdeal.Step.b78
  rw [← al_77 h, ← al_22 h]
  try rfl
set_option maxRecDepth 8192 in
theorem al_79 (h : Holds V0 s j) : (addf (res_main_while0b_v154 V0) (V0 (Proc.devRef .tc main_v79_9)) : (Proc.devRef .tc main_while0b_v159 : DevRef τ sig).ty.Contents (Elt F)) = Cert.ReferenceIdeal.Step.b79 j s := by
  unfold Cert.ReferenceIdeal.Step.b79
  rw [← al_74 h, h.f_9]
  try rfl
set_option maxRecDepth 8192 in
theorem al_80 (h : Holds V0 s j) : (constant S_ .f32 0xFF800000#32 : (Proc.devRef .tc main_while0b_cst_24 : DevRef τ sig).ty.Contents (Elt F)) = Cert.ReferenceIdeal.Step.b80 j s := by
  unfold Cert.ReferenceIdeal.Step.b80
  rfl
set_option maxRecDepth 8192 in
theorem al_81 (h : Holds V0 s j) : (Host.reduce FloatOps.maximumf (res_main_while0b_v158 V0) (constant S_ .f32 0xFF800000#32) reducesTo_S4x4x64_S4x4_d2 h_S_ : (Proc.devRef .tc main_while0b_v160 : DevRef τ sig).ty.Contents (Elt F)) = Cert.ReferenceIdeal.Step.b81 j s := by
  unfold Cert.ReferenceIdeal.Step.b81
  rw [← al_78 h, ← al_80 h]
  try rfl
set_option maxRecDepth 8192 in
theorem al_82 (h : Holds V0 s j) : (res_main_while0b_v161 V0 : (Proc.devRef .tc main_while0b_v161 : DevRef τ sig).ty.Contents (Elt F)) = Cert.ReferenceIdeal.Step.b82 j s := by
  unfold res_main_while0b_v161 Cert.ReferenceIdeal.Step.b82
  rw [← al_79 h, ← al_81 h]
  try rfl
set_option maxRecDepth 8192 in
theorem al_83 (h : Holds V0 s j) : (broadcastInDim S4x4x1 ![0, 1] bcast_S4x4_S4x4x1_0_1 (res_main_while0b_v161 V0) : (Proc.devRef .tc main_while0b_v162 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (broadcastInDim S4x4x64 ![0, 1, 2] bcast_S4x4x1_S4x4x64_0_1_2 (broadcastInDim S4x4x1 ![0, 1] bcast_S4x4_S4x4x1_0_1 (res_main_while0b_v161 V0)) : (Proc.devRef .tc main_while0b_v163 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (subf (res_main_while0b_v158 V0) (broadcastInDim S4x4x64 ![0, 1, 2] bcast_S4x4x1_S4x4x64_0_1_2 (broadcastInDim S4x4x1 ![0, 1] bcast_S4x4_S4x4x1_0_1 (res_main_while0b_v161 V0))) : (Proc.devRef .tc main_while0b_v164 : DevRef τ sig).ty.Contents (Elt F)) = Cert.ReferenceIdeal.Step.b85 j s := by
  unfold Cert.ReferenceIdeal.Step.b85
  rw [← al_78 h, ← al_84 h]
  try rfl
set_option maxRecDepth 8192 in
theorem al_86 (h : Holds V0 s j) : (Host.exp (subf (res_main_while0b_v158 V0) (broadcastInDim S4x4x64 ![0, 1, 2] bcast_S4x4x1_S4x4x64_0_1_2 (broadcastInDim S4x4x1 ![0, 1] bcast_S4x4_S4x4x1_0_1 (res_main_while0b_v161 V0)))) : (Proc.devRef .tc main_while0b_v165 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (addf (res_main_while0b_v154 V0) (V0 (Proc.devRef .tc main_v79_9)) : (Proc.devRef .tc main_while0b_v166 : DevRef τ sig).ty.Contents (Elt F)) = Cert.ReferenceIdeal.Step.b87 j s := by
  unfold Cert.ReferenceIdeal.Step.b87
  rw [← al_74 h, h.f_9]
  try rfl
set_option maxRecDepth 8192 in
theorem al_88 (h : Holds V0 s j) : (subf (addf (res_main_while0b_v154 V0) (V0 (Proc.devRef .tc main_v79_9))) (res_main_while0b_v161 V0) : (Proc.devRef .tc main_while0b_v167 : DevRef τ sig).ty.Contents (Elt F)) = Cert.ReferenceIdeal.Step.b88 j s := by
  unfold Cert.ReferenceIdeal.Step.b88
  rw [← al_87 h, ← al_82 h]
  try rfl
set_option maxRecDepth 8192 in
theorem al_89 (h : Holds V0 s j) : (res_main_while0b_v168 V0 : (Proc.devRef .tc main_while0b_v168 : DevRef τ sig).ty.Contents (Elt F)) = Cert.ReferenceIdeal.Step.b89 j s := by
  unfold res_main_while0b_v168 Cert.ReferenceIdeal.Step.b89
  rw [← al_88 h]
  try rfl
set_option maxRecDepth 8192 in
theorem al_90 (h : Holds V0 s j) : (broadcastInDim S4x4x64x1 ![0, 1, 2] bcast_S4x4x64_S4x4x64x1_0_1_2 (Host.exp (subf (res_main_while0b_v158 V0) (broadcastInDim S4x4x64 ![0, 1, 2] bcast_S4x4x1_S4x4x64_0_1_2 (broadcastInDim S4x4x1 ![0, 1] bcast_S4x4_S4x4x1_0_1 (res_main_while0b_v161 V0))))) : (Proc.devRef .tc main_while0b_v169 : DevRef τ sig).ty.Contents (Elt F)) = Cert.ReferenceIdeal.Step.b90 j s := by
  unfold Cert.ReferenceIdeal.Step.b90
  rw [← al_86 h]
  try rfl
set_option maxRecDepth 8192 in
theorem al_91 (h : Holds V0 s j) : (broadcastInDim S4x4x64x128 ![0, 1, 2, 3] bcast_S4x4x64x1_S4x4x64x128_0_1_2_3 (broadcastInDim S4x4x64x1 ![0, 1, 2] bcast_S4x4x64_S4x4x64x1_0_1_2 (Host.exp (subf (res_main_while0b_v158 V0) (broadcastInDim S4x4x64 ![0, 1, 2] bcast_S4x4x1_S4x4x64_0_1_2 (broadcastInDim S4x4x1 ![0, 1] bcast_S4x4_S4x4x1_0_1 (res_main_while0b_v161 V0)))))) : (Proc.devRef .tc main_while0b_v170 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (res_main_while0b_v171 V0 : (Proc.devRef .tc main_while0b_v171 : DevRef τ sig).ty.Contents (Elt F)) = Cert.ReferenceIdeal.Step.b92 j s := by
  unfold res_main_while0b_v171 Cert.ReferenceIdeal.Step.b92
  rw [← al_91 h, ← al_11 h]
  try rfl
set_option maxRecDepth 8192 in
theorem al_93 (h : Holds V0 s j) : (broadcastInDim S4x4x1x1 ![0, 1] bcast_S4x4_S4x4x1x1_0_1 (res_main_while0b_v168 V0) : (Proc.devRef .tc main_while0b_v172 : DevRef τ sig).ty.Contents (Elt F)) = Cert.ReferenceIdeal.Step.b93 j s := by
  unfold Cert.ReferenceIdeal.Step.b93
  rw [← al_89 h]
  try rfl
set_option maxRecDepth 8192 in
theorem al_94 (h : Holds V0 s j) : (broadcastInDim S4x4x128x256 ![0, 1, 2, 3] bcast_S4x4x1x1_S4x4x128x256_0_1_2_3 (broadcastInDim S4x4x1x1 ![0, 1] bcast_S4x4_S4x4x1x1_0_1 (res_main_while0b_v168 V0)) : (Proc.devRef .tc main_while0b_v173 : DevRef τ sig).ty.Contents (Elt F)) = Cert.ReferenceIdeal.Step.b94 j s := by
  unfold Cert.ReferenceIdeal.Step.b94
  rw [← al_93 h]
  try rfl
set_option maxRecDepth 8192 in
theorem al_95 (h : Holds V0 s j) : (mulf (broadcastInDim S4x4x128x256 ![0, 1, 2, 3] bcast_S4x4x1x1_S4x4x128x256_0_1_2_3 (broadcastInDim S4x4x1x1 ![0, 1] bcast_S4x4_S4x4x1x1_0_1 (res_main_while0b_v168 V0))) (V0 (Proc.devRef .tc main_v79_7)) : (Proc.devRef .tc main_while0b_v174 : DevRef τ sig).ty.Contents (Elt F)) = Cert.ReferenceIdeal.Step.b95 j s := by
  unfold Cert.ReferenceIdeal.Step.b95
  rw [← al_94 h, h.f_7]
  try rfl
set_option maxRecDepth 8192 in
theorem al_96 (h : Holds V0 s j) : (Host.dotGeneral dot_S4x4x64x128_S4x4x64x256_S4x4x128x256_2_2_3_3_01_01 none (res_main_while0b_v171 V0) (res_main_while0b_v111 V0) : (Proc.devRef .tc main_while0b_v175 : DevRef τ sig).ty.Contents (Elt F)) = Cert.ReferenceIdeal.Step.b96 j s := by
  unfold Cert.ReferenceIdeal.Step.b96
  rw [← al_92 h, ← al_17 h]
  try rfl
set_option maxRecDepth 8192 in
theorem al_97 (h : Holds V0 s j) : (addf (mulf (broadcastInDim S4x4x128x256 ![0, 1, 2, 3] bcast_S4x4x1x1_S4x4x128x256_0_1_2_3 (broadcastInDim S4x4x1x1 ![0, 1] bcast_S4x4_S4x4x1x1_0_1 (res_main_while0b_v168 V0))) (V0 (Proc.devRef .tc main_v79_7))) (Host.dotGeneral dot_S4x4x64x128_S4x4x64x256_S4x4x128x256_2_2_3_3_01_01 none (res_main_while0b_v171 V0) (res_main_while0b_v111 V0)) : (Proc.devRef .tc main_while0b_v176 : DevRef τ sig).ty.Contents (Elt F)) = Cert.ReferenceIdeal.Step.b97 j s := by
  unfold Cert.ReferenceIdeal.Step.b97
  rw [← al_95 h, ← al_96 h]
  try rfl
set_option maxRecDepth 8192 in
theorem al_98 (h : Holds V0 s j) : (broadcastInDim S4x4x1 ![0, 1] bcast_S4x4_S4x4x1_0_1 (res_main_while0b_v168 V0) : (Proc.devRef .tc main_while0b_v177 : DevRef τ sig).ty.Contents (Elt F)) = Cert.ReferenceIdeal.Step.b98 j s := by
  unfold Cert.ReferenceIdeal.Step.b98
  rw [← al_89 h]
  try rfl
set_option maxRecDepth 8192 in
theorem al_99 (h : Holds V0 s j) : (broadcastInDim S4x4x128 ![0, 1, 2] bcast_S4x4x1_S4x4x128_0_1_2 (broadcastInDim S4x4x1 ![0, 1] bcast_S4x4_S4x4x1_0_1 (res_main_while0b_v168 V0)) : (Proc.devRef .tc main_while0b_v178 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (mulf (broadcastInDim S4x4x128 ![0, 1, 2] bcast_S4x4x1_S4x4x128_0_1_2 (broadcastInDim S4x4x1 ![0, 1] bcast_S4x4_S4x4x1_0_1 (res_main_while0b_v168 V0))) (V0 (Proc.devRef .tc main_v79_8)) : (Proc.devRef .tc main_while0b_v179 : DevRef τ sig).ty.Contents (Elt F)) = Cert.ReferenceIdeal.Step.b100 j s := by
  unfold Cert.ReferenceIdeal.Step.b100
  rw [← al_99 h, h.f_8]
  try rfl
set_option maxRecDepth 8192 in
theorem al_101 (h : Holds V0 s j) : (constant S_ .f32 0x00000000#32 : (Proc.devRef .tc main_while0b_cst_25 : DevRef τ sig).ty.Contents (Elt F)) = Cert.ReferenceIdeal.Step.b101 j s := by
  unfold Cert.ReferenceIdeal.Step.b101
  rfl
set_option maxRecDepth 8192 in
theorem al_102 (h : Holds V0 s j) : (Host.reduceAdd (res_main_while0b_v171 V0) (constant S_ .f32 0x00000000#32) reducesTo_S4x4x64x128_S4x4x128_d2 h_S_ : (Proc.devRef .tc main_while0b_v180 : DevRef τ sig).ty.Contents (Elt F)) = Cert.ReferenceIdeal.Step.b102 j s := by
  unfold Cert.ReferenceIdeal.Step.b102
  rw [← al_92 h, ← al_101 h]
  try rfl
set_option maxRecDepth 8192 in
theorem al_103 (h : Holds V0 s j) : (addf (mulf (broadcastInDim S4x4x128 ![0, 1, 2] bcast_S4x4x1_S4x4x128_0_1_2 (broadcastInDim S4x4x1 ![0, 1] bcast_S4x4_S4x4x1_0_1 (res_main_while0b_v168 V0))) (V0 (Proc.devRef .tc main_v79_8))) (Host.reduceAdd (res_main_while0b_v171 V0) (constant S_ .f32 0x00000000#32) reducesTo_S4x4x64x128_S4x4x128_d2 h_S_) : (Proc.devRef .tc main_while0b_v181 : DevRef τ sig).ty.Contents (Elt F)) = Cert.ReferenceIdeal.Step.b103 j s := by
  unfold Cert.ReferenceIdeal.Step.b103
  rw [← al_100 h, ← al_102 h]
  try rfl
set_option maxRecDepth 8192 in
theorem al_104 (h : Holds V0 s j) : (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7)))) (Host.dotGeneral dot_S4x4x64x64_S4x4x64x256_S4x4x64x256_3_2_2_3_01_01 none (res_main_while0b_v135 V0) (res_main_while0b_v111 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0))))))) : (Proc.devRef .tc main_while0b_call11_v0 : DevRef τ sig).ty.Contents (Elt F)) = Cert.ReferenceIdeal.Step.b104 j s := by
  unfold Cert.ReferenceIdeal.Step.b104
  rw [← al_72 h]
  try rfl
set_option maxRecDepth 8192 in
theorem al_105 (h : Holds V0 s j) : (constantI S_ 32 0#32 : (Proc.devRef .tc main_while0b_call11_c : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call11_c_0 : DevRef τ sig).ty.Contents (Elt F)) = Cert.ReferenceIdeal.Step.b106 j s := by
  unfold Cert.ReferenceIdeal.Step.b106
  rfl
set_option maxRecDepth 8192 in
theorem al_107 (h : Holds V0 s j) : (constantI S_ 32 0#32 : (Proc.devRef .tc main_while0b_call11_c_1 : DevRef τ sig).ty.Contents (Elt F)) = Cert.ReferenceIdeal.Step.b107 j s := by
  unfold Cert.ReferenceIdeal.Step.b107
  rfl
set_option maxRecDepth 8192 in
theorem al_108 (h : Holds V0 s j) : (constantI S_ 32 0#32 : (Proc.devRef .tc main_while0b_call11_c_2 : DevRef τ sig).ty.Contents (Elt F)) = Cert.ReferenceIdeal.Step.b108 j s := by
  unfold Cert.ReferenceIdeal.Step.b108
  rfl
set_option maxRecDepth 8192 in
theorem al_109 (h : Holds V0 s j) : (Host.dynamicUpdateSlice (V0 (Proc.devRef .tc main_v79_10)) (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7)))) (Host.dotGeneral dot_S4x4x64x64_S4x4x64x256_S4x4x64x256_3_2_2_3_01_01 none (res_main_while0b_v135 V0) (res_main_while0b_v111 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0)))))))) (fun k => (((![V0 (Proc.devRef .tc main_v79_6), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x256_S1x4x4x64x256 : (Proc.devRef .tc main_while0b_v182 : DevRef τ sig).ty.Contents (Elt F)) = Cert.ReferenceIdeal.Step.b109 j s := by
  unfold Cert.ReferenceIdeal.Step.b109
  rw [← al_104 h, ← al_105 h, ← al_106 h, ← al_107 h, ← al_108 h, h.f_10, h.n_6]
  try rfl

/-! One trip's step of the carried values is `step`, field by field; a counter steps to the next number. -/

theorem step_7 (h : Holds V0 s j) : step_main_v79_7 V0 = (step j s).main_v79_7 := by
  unfold step_main_v79_7 Cert.ReferenceIdeal.Step.step
  show id (addf (mulf (broadcastInDim S4x4x128x256 ![0, 1, 2, 3] bcast_S4x4x1x1_S4x4x128x256_0_1_2_3 (broadcastInDim S4x4x1x1 ![0, 1] bcast_S4x4_S4x4x1x1_0_1 (res_main_while0b_v168 V0))) (V0 (Proc.devRef .tc main_v79_7))) (Host.dotGeneral dot_S4x4x64x128_S4x4x64x256_S4x4x128x256_2_2_3_3_01_01 none (res_main_while0b_v171 V0) (res_main_while0b_v111 V0))) = _
  rw [al_97 h]
  try rfl
theorem step_8 (h : Holds V0 s j) : step_main_v79_8 V0 = (step j s).main_v79_8 := by
  unfold step_main_v79_8 Cert.ReferenceIdeal.Step.step
  show id (addf (mulf (broadcastInDim S4x4x128 ![0, 1, 2] bcast_S4x4x1_S4x4x128_0_1_2 (broadcastInDim S4x4x1 ![0, 1] bcast_S4x4_S4x4x1_0_1 (res_main_while0b_v168 V0))) (V0 (Proc.devRef .tc main_v79_8))) (Host.reduceAdd (res_main_while0b_v171 V0) (constant S_ .f32 0x00000000#32) reducesTo_S4x4x64x128_S4x4x128_d2 h_S_)) = _
  rw [al_103 h]
  try rfl
theorem step_9 (h : Holds V0 s j) : step_main_v79_9 V0 = (step j s).main_v79_9 := by
  unfold step_main_v79_9 Cert.ReferenceIdeal.Step.step
  show id (res_main_while0b_v161 V0) = _
  rw [al_82 h]
  try rfl
theorem step_10 (h : Holds V0 s j) : step_main_v79_10 V0 = (step j s).main_v79_10 := by
  unfold step_main_v79_10 Cert.ReferenceIdeal.Step.step
  show id (Host.dynamicUpdateSlice (V0 (Proc.devRef .tc main_v79_10)) (broadcastInDim S1x4x4x64x256 ![1, 2, 3, 4] bcast_S4x4x64x256_S1x4x4x64x256_1_2_3_4 (Host.divf (addf (mulf (broadcastInDim S4x4x64x256 ![0, 1, 2, 3] bcast_S4x4x64x1_S4x4x64x256_0_1_2_3 (broadcastInDim S4x4x64x1 ![0, 1, 2] bcast_S4x4x64_S4x4x64x1_0_1_2 (res_main_while0b_v137 V0))) (Host.dotGeneral dot_S4x4x64x128_S4x4x128x256_S4x4x64x256_3_2_2_3_01_01 none (res_main_while0b_v109 V0) (V0 (Proc.devRef .tc main_v79_7)))) (Host.dotGeneral dot_S4x4x64x64_S4x4x64x256_S4x4x64x256_3_2_2_3_01_01 none (res_main_while0b_v135 V0) (res_main_while0b_v111 V0))) (broadcastInDim S4x4x64x256 ![0, 1, 2, 3] bcast_S4x4x64x1_S4x4x64x256_0_1_2_3 (broadcastInDim S4x4x64x1 ![0, 1, 2] bcast_S4x4x64_S4x4x64x1_0_1_2 (maximumf (Host.absf (addf (mulf (res_main_while0b_v137 V0) (Host.dotGeneral dot_S4x4x64x128_S4x4x128_S4x4x64_3_2_2_n_01_01 none (res_main_while0b_v109 V0) (V0 (Proc.devRef .tc main_v79_8)))) (Host.reduceAdd (res_main_while0b_v135 V0) (constant S_ .f32 0x00000000#32) reducesTo_S4x4x64x64_S4x4x64_d3 h_S_))) (Host.exp (Host.negf (res_main_while0b_v129 V0)))))))) (fun k => (((![V0 (Proc.devRef .tc main_v79_6), constantI S_ 32 0#32, constantI S_ 32 0#32, constantI S_ 32 0#32, constantI S_ 32 0#32] : Fin 5 → (⟨S_, .i32⟩ : BufTy).Contents (Elt F))) k (Shape.Idx.first h_S_)).toInt) updateFits_S128x4x4x64x256_S1x4x4x64x256) = _
  exact al_109 h
theorem step_6 (h : Holds V0 s j) : step_main_v79_6 V0 = constantI S_ 32 (BitVec.ofNat 32 (j + 1)) := by
  unfold step_main_v79_6
  rw [h.n_6]
  funext i
  show BitVec.ofNat 32 j + 1#32 = BitVec.ofNat 32 (j + 1)
  simp only [BitVec.ofNat_add]

set_option maxRecDepth 8192 in
theorem out_main_v108_holds (h : Holds V0 s j) {x_main_arg0 : (⟨S32768x3200, .f32⟩ : BufTy).Contents (Elt F)} (h_main_arg0 : V0 (Proc.devRef .tc main_arg0) = x_main_arg0) {x_main_arg4 : (⟨S1024, .f32⟩ : BufTy).Contents (Elt F)} (h_main_arg4 : V0 (Proc.devRef .tc main_arg4) = x_main_arg4) : out_main_v108 V0 = Cert.ReferenceIdeal.Step.R_main_v108 s x_main_arg0 x_main_arg4 := by
  unfold out_main_v108 Cert.ReferenceIdeal.Step.R_main_v108
  rw [h.f_10, h_main_arg0, h_main_arg4]
  try rfl

/-- One trip keeps the valuation holding: `step` of the state, the same set-up values, the next number. -/
theorem holds_step (h : Holds V0 s j) : Holds (STEP V0) (step j s) (j + 1) where
  f_7 := (STEP_main_v79_7 V0).trans (step_7 h)
  f_8 := (STEP_main_v79_8 V0).trans (step_8 h)
  f_9 := (STEP_main_v79_9 V0).trans (step_9 h)
  f_10 := (STEP_main_v79_10 V0).trans (step_10 h)
  n_6 := (STEP_main_v79_6 V0).trans (step_6 h)
  k_5 := (STEP_main_v79_5 V0).trans h.k_5
  f_0 := (STEP_main_v79_0 V0).trans h.f_0
  f_1 := (STEP_main_v79_1 V0).trans h.f_1
  f_2 := (STEP_main_v79_2 V0).trans h.f_2
  f_3 := (STEP_main_v79_3 V0).trans h.f_3
  f_4 := (STEP_main_v79_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 700000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 128 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v108) = Cert.ReferenceIdeal.Step.R_main_v108 (it c 128) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 128
    ⟨(h c).1.trans (out_main_v108_holds hk (iter_main_arg0 m c 128) (iter_main_arg4 m c 128)), (h c).2.1, (h c).2.2.1, (h c).2.2.2.1, (h c).2.2.2.2.1, (h c).2.2.2.2.2⟩) (Value.run m ρ)

end Cert.Mlstm.Steps

end
-- ==== Proof.Mlstm.lean ====
/- The mLSTM recurrence: on finite arguments the kernel and the reference end with equal results, the plain recurrence's. -/
module

public import proofs.«01_k».proof.Defs
public import proofs.«01_k».proof.Proof.MlstmGrid
public import proofs.«01_k».proof.Proof.MlstmRef
public import proofs.«01_k».proof.Proof.MlstmSteps
public import proofs.«01_k».proof.Proof.Gen.Pre_finite

@[expose] public section

set_option maxRecDepth 16384

noncomputable section

namespace Cert.Mlstm

open Idealize.ShloMosaic Idealize.ShloMosaic.TcCoe Idealize.SL.Sem

/-- The reference terminates with its arguments unchanged and every counter at zero. -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

theorem frame_reference_finite : Cert.quiescent_ReferenceIdeal_pre_finite (hReferenceIdeal := Cert.ReferenceIdeal.Gen.facts)
    (hPre_finite := Cert.Pre_finite.Gen.facts) :=
  fun m g _ => frame_reference m g trivial

theorem preserves : Cert.preserves_Kernel_KernelIdeal :=
  IdealRules.named_const.statement Cert.KernelIdeal.κ "log2e" .f32 0x3FB8AA3B#32 (((Real.log 2)⁻¹ : ℝ) : EReal) rfl

/-- The precondition's array of one argument holds ones where the entries are real. -/
theorem real_of_ones {S : Shape} (hb : (⟨0, ![]⟩ : Shape).BroadcastsInDim S (![] : Fin 0 → Fin S.rank)) (x : FVec Ideal S .f32)
    (h : cmpf .olt (Host.absf x) (broadcastInDim S ![] hb (constant (⟨0, ![]⟩ : Shape) .f32 0x7F800000#32)) = fun _ => 1#1) (i : S.Idx) :
    IsR (x i) :=
  isR_of_olt (x i) (congrFun h i)

/-- The precondition, of the kernel's arguments. -/
theorem real_of_pre (m : (ℓ : Loc KernelIdeal.nD KernelIdeal.τ KernelIdeal.sig) → Buf (Elt Ideal) ℓ)
    (h : Cert.Pre_KernelIdeal_finite (hPre_finite := Cert.Pre_finite.Gen.facts) m) (c : Dev KernelIdeal.nD) : Real m c := by
  obtain ⟨h0, h1, h2, h3⟩ := h c
  exact ⟨real_of_ones _ _ h0, real_of_ones _ _ h1, real_of_ones _ _ h2, real_of_ones _ _ h3⟩

/-- The two programs end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hR := real_of_pre m hpre
  refine ⟨fun c => result m c, ?_, ?_⟩
  · exact (θ_run Cert.KernelIdeal.defs _ _).mono (fun r h c => ⟨(h c).1.trans (final m (hR c)), (h c).2⟩)
      (Cert.KernelIdeal.Value.run_blocks m g)
  · refine (θ_run Cert.ReferenceIdeal.defs _ _).mono (fun r h c => ⟨(h c).1.trans ?_, (h c).2⟩)
      (Steps.run_iter m' g' (fun c => states (Z m c) (W m c) (CB m c) (G m c)) (fun c => ?_) (fun c n => rfl))
    · show Cert.ReferenceIdeal.Step.init (Z m c) (W m c) (CB m c) (G m c) = Steps.initState m' c
      unfold Steps.initState
      rw [(hargs c).1, (hargs c).2.1, (hargs c).2.2.1, (hargs c).2.2.2.1]
    · rw [(hargs c).1, (hargs c).2.2.2.2]
      exact ref_eq (hR c).z (hR c).w (hR c).cb (hR c).g (N m c)

end Cert.Mlstm

end
-- ==== Proof.FfnValue.lean ====
/- The squared-ReLU channel mixer. The kernel walks the hidden units in eight tiles of 1024 and adds each tile's
   product to the output block; here what one grid point computes, what the output block holds after each point, and
   what the result array holds. -/
module

public import proofs.«01_k».proof.Proof.Gen.Kernel2Ideal.Value
public import Idealize.ShloMosaic.Lib.Pipeline.Value
public import Idealize.ShloMosaic.Lib.Pointwise
public import Idealize.ShloMosaic.Lib.Tactic

@[expose] public section

set_option maxRecDepth 16384

noncomputable section

namespace Cert.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- A hidden unit's activation, squared. -/
def sqrelu (x : EReal) : EReal := max x 0 * max x 0

/-- One tile's contribution to the output block, element by element. -/
def tile (x : Vec Ideal S1024x2048 .bf16) (w1 : Vec Ideal S2048x1024 .bf16) (w2 : Vec Ideal S1024x2048 .bf16)
    (r : Fin 1024) (d : Fin 2048) : EReal :=
  ∑ k : Fin 1024, sqrelu (∑ e : Fin 2048, x (ix2 r e) * w1 (ix2 e k)) * w2 (ix2 k d)

theorem pay1_apply (x : Vec Ideal S1024x2048 .bf16) (w1 : Vec Ideal S2048x1024 .bf16) (w2 : Vec Ideal S1024x2048 .bf16)
    (r : Fin 1024) (d : Fin 2048) : k0_pay1 x w1 w2 (ix2 r d) = tile x w1 w2 r d := by
  unfold tile sqrelu
  pointwise [k0_pay1]

theorem pay2_apply (acc : Vec Ideal S1024x2048 .f32) (x : Vec Ideal S1024x2048 .bf16) (w1 : Vec Ideal S2048x1024 .bf16)
    (w2 : Vec Ideal S1024x2048 .bf16) (r : Fin 1024) (d : Fin 2048) :
    k0_pay2 acc x w1 w2 (ix2 r d) = acc (ix2 r d) + tile x w1 w2 r d := by
  unfold tile sqrelu
  pointwise [k0_pay2]

/-- The first tile's point leaves the tile's contribution. -/
theorem out_A (c : Dev nD) (i : grid0.Coords) (a0 h0 a1 h1 a2 h2 a3 h3) (hc0 : cond0_0 i) (hc1 : ¬cond0_1 i)
    (x : Vec Ideal S1024x2048 .bf16) (w1 : Vec Ideal S2048x1024 .bf16) (w2 : Vec Ideal S1024x2048 .bf16) :
    out0_A_3 c i a0 h0 a1 h1 a2 h2 a3 h3 hc0 hc1 x w1 w2 = k0_pay1 x w1 w2 := by
  unfold out0_A_3
  rw [View.read_writes_eq_canon _ _ _ (cover0_A_3 c i a0 h0 a1 h1 a2 h2 a3 h3 hc0 hc1 x w1 w2)]
  unfold kernelRun0_A
  dsimp only
  rw [View.canon_unit_zero hz]
  simp only [View.readAt_eq_ld, h0.read_unread, h1.read_unread, h2.read_unread,
    View.ld_unit_zero (S := S1024x2048) hz, View.ld_unit_zero (S := S2048x1024) hz]

/-- A later tile's point adds the tile's contribution to what the point before left. -/
theorem out_B (c : Dev nD) (i : grid0.Coords) (a0 h0 a1 h1 a2 h2 a3 h3) (hc0 : ¬cond0_0 i) (hc1 : cond0_1 i)
    (x : Vec Ideal S1024x2048 .bf16) (w1 : Vec Ideal S2048x1024 .bf16) (w2 : Vec Ideal S1024x2048 .bf16)
    (acc : Vec Ideal S1024x2048 .f32) :
    out0_B_3 c i a0 h0 a1 h1 a2 h2 a3 h3 hc0 hc1 x w1 w2 acc = k0_pay2 acc x w1 w2 := by
  unfold out0_B_3
  rw [View.read_writes_eq_canon _ _ _ (cover0_B_3 c i a0 h0 a1 h1 a2 h2 a3 h3 hc0 hc1 x w1 w2 acc)]
  unfold kernelRun0_B
  dsimp only
  rw [View.canon_unit_zero hz]
  simp only [View.readAt_eq_ld, h0.read_unread, h1.read_unread, h2.read_unread, h3.read_unread,
    View.ld_unit_zero (S := S1024x2048) hz, View.ld_unit_zero (S := S2048x1024) hz]

/-- The arguments. -/
abbrev X (c : Dev nD) : FVec Ideal S32768x2048 .bf16 := m ((c : Thread nD τ).loc main_arg0)
abbrev W1 (c : Dev nD) : FVec Ideal S2048x8192 .f32 := m ((c : Thread nD τ).loc main_arg1)
abbrev W2 (c : Dev nD) : FVec Ideal S8192x2048 .f32 := m ((c : Thread nD τ).loc main_arg2)

theorem V_v0 (c : Dev nD) : V m c main_v0 = truncf .bf16 (W1 m c) bitsLt_bf16_f32 := by
  unfold V
  simp only [hostOps0]
  after_results

theorem V_v1 (c : Dev nD) : V m c main_v1 = truncf .bf16 (W2 m c) bitsLt_bf16_f32 := by
  unfold V
  simp only [hostOps0]
  after_results

theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
theorem idx1 : ∀ t : Fin cfg0.N, win0_1.index t 0 = 0 ∧ win0_1.index t 1 = t.val % 8 :=
  (by decide +kernel : ∀ t : Fin grid0.N, win0_1.index t 0 = 0 ∧ win0_1.index t 1 = t.val % 8)
theorem idx2 : ∀ t : Fin cfg0.N, win0_2.index t 0 = t.val % 8 ∧ win0_2.index t 1 = 0 :=
  (by decide +kernel : ∀ t : Fin grid0.N, win0_2.index t 0 = t.val % 8 ∧ win0_2.index t 1 = 0)
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)

theorem lt_N (t : Fin cfg0.N) : t.val < 256 := lt_of_lt_of_eq t.isLt (show cfg0.N = 256 from N_0)

/-- The block of inputs of a point: 1024 rows of the normalised stream. -/
theorem blk0 (c : Dev nD) (t : Fin cfg0.N) (r : Fin 1024) (e : Fin 2048) :
    (iblk m c 0 t : Vec Ideal S1024x2048 .bf16) (ix2 r e)
      = X m c (ix2 ⟨t.val / 8 * 1024 + r.val, by have := lt_N t; omega⟩ e) := by
  unfold iblk
  rw [View.read_apply]
  show V m c main_arg0 _ = _
  rw [V_main_arg0]
  refine congrArg (X m c) (funext fun a => Fin.ext ?_)
  match a with
  | ⟨0, _⟩ => show win0_0.index t 0 * 1024 + 1 * r.val = t.val / 8 * 1024 + r.val; rw [(idx0 t).1]; omega
  | ⟨1, _⟩ => show win0_0.index t 1 * 2048 + 1 * e.val = e.val; rw [(idx0 t).2]; omega

theorem blk1 (c : Dev nD) (t : Fin cfg0.N) (e : Fin 2048) (k : Fin 1024) :
    (iblk m c 1 t : Vec Ideal S2048x1024 .bf16) (ix2 e k)
      = W1 m c (ix2 e ⟨t.val % 8 * 1024 + k.val, by omega⟩) := by
  unfold iblk
  rw [View.read_apply]
  show V m c main_v0 _ = _
  rw [V_v0]
  refine congrArg (W1 m c) (funext fun a => Fin.ext ?_)
  match a with
  | ⟨0, _⟩ => show win0_1.index t 0 * 2048 + 1 * e.val = e.val; rw [(idx1 t).1]; omega
  | ⟨1, _⟩ => show win0_1.index t 1 * 1024 + 1 * k.val = t.val % 8 * 1024 + k.val; rw [(idx1 t).2]; omega

theorem blk2 (c : Dev nD) (t : Fin cfg0.N) (k : Fin 1024) (d : Fin 2048) :
    (iblk m c 2 t : Vec Ideal S1024x2048 .bf16) (ix2 k d)
      = W2 m c (ix2 ⟨t.val % 8 * 1024 + k.val, by omega⟩ d) := by
  unfold iblk
  rw [View.read_apply]
  show V m c main_v1 _ = _
  rw [V_v1]
  refine congrArg (W2 m c) (funext fun a => Fin.ext ?_)
  match a with
  | ⟨0, _⟩ => show win0_2.index t 0 * 1024 + 1 * k.val = t.val % 8 * 1024 + k.val; rw [(idx2 t).1]; omega
  | ⟨1, _⟩ => show win0_2.index t 1 * 2048 + 1 * d.val = d.val; rw [(idx2 t).2]; omega

/-- One hidden unit's term of an output element, for a unit named by a natural number. -/
def term (c : Dev nD) (R : Fin 32768) (d : Fin 2048) (j : ℕ) : EReal :=
  if h : j < 8192 then sqrelu (∑ e : Fin 2048, X m c (ix2 R e) * W1 m c (ix2 e ⟨j, h⟩)) * W2 m c (ix2 ⟨j, h⟩ d) else 0

theorem tile_eq (c : Dev nD) (t : Fin cfg0.N) (r : Fin 1024) (d : Fin 2048) :
    tile (iblk m c 0 t) (iblk m c 1 t) (iblk m c 2 t) r d
      = ∑ k ∈ Finset.range 1024,
          term m c ⟨t.val / 8 * 1024 + r.val, by have := lt_N t; omega⟩ d (t.val % 8 * 1024 + k) := by
  rw [Finset.sum_range]
  unfold tile
  refine Finset.sum_congr rfl fun k _ => ?_
  unfold term
  rw [dif_pos (by omega), blk2]
  simp only [blk0, blk1]

/-- After point `t` the output block holds the terms of the hidden units walked so far. -/
theorem outs_eq (c : Dev nD) : ∀ (n : ℕ) (h : n < cfg0.N) (r : Fin 1024) (d : Fin 2048),
    outsAt0 m c n h (ix2 r d)
      = ∑ j ∈ Finset.range ((n % 8 + 1) * 1024),
          term m c ⟨n / 8 * 1024 + r.val, by have := lt_N ⟨n, h⟩; dsimp only at this; omega⟩ d j := by
  intro n
  induction n with
  | zero =>
    intro h r d
    rw [show outsAt0 m c 0 h = _ from (outsAt0_A m c ⟨0, h⟩ rfl (by dsimp only; omega)), out_A, pay1_apply, tile_eq]
    simp
  | succ n ih =>
    intro h r d
    have hN := lt_N ⟨n + 1, h⟩
    dsimp only at hN
    by_cases h0 : (n + 1) % 8 = 0
    · rw [show outsAt0 m c (n + 1) h = _ from (outsAt0_A m c ⟨n + 1, h⟩ h0 (by dsimp only; omega)), out_A, pay1_apply, tile_eq]
      simp only [h0]
      simp
    · rw [show outsAt0 m c (n + 1) h = _ from (outsAt0_B m c ⟨n + 1, h⟩ h0 (by dsimp only; omega)), out_B, pay2_apply, tile_eq]
      show outsAt0 m c n _ _ + _ = _
      rw [ih]
      have e1 : (n + 1) % 8 = n % 8 + 1 := by omega
      have e2 : (n + 1) / 8 = n / 8 := by omega
      simp only [e1, e2]
      rw [show (n % 8 + 1 + 1) * 1024 = (n % 8 + 1) * 1024 + 1024 by ring, Finset.sum_range_add]

/-- The result array: every hidden unit's term. -/
def result (c : Dev nD) : FVec Ideal S32768x2048 .f32 := fun i =>
  ∑ j : Fin 8192, sqrelu (∑ e : Fin 2048, X m c (ix2 (i 0) e) * W1 m c (ix2 e j)) * W2 m c (ix2 j (i 1))

theorem result_eq (c : Dev nD) (R : Fin 32768) (d : Fin 2048) :
    result m c (ix2 R d) = ∑ j ∈ Finset.range 8192, term m c R d j := by
  rw [Finset.sum_range]
  refine Finset.sum_congr rfl fun j _ => ?_
  unfold term
  rw [dif_pos j.isLt]
  rfl

theorem flushed_eq (c : Dev nD) (t : Fin cfg0.N) (hf : (cfg0.win 3).flush t = true) :
    (dats m 0 c).flushed 3 t = ((cfg0.win 3).blk t).view.read (Elt Ideal) (result m c) := by
  have h7 := (flush0_3 t).mp hf
  rw [Value.flushed3]
  funext y
  rw [View.read_apply]
  show outsAt0 m c t.val t.isLt y = _
  obtain ⟨r, d, rfl⟩ : ∃ (r : Fin 1024) (d : Fin 2048), y = ix2 r d := ⟨y 0, y 1, eq_ix2 y⟩
  rw [outs_eq, h7]
  have : ((cfg0.win 3).blk t).view.emb (ix2 r d) = (ix2 (⟨t.val / 8 * 1024 + r.val, by have := lt_N t; omega⟩ : Fin 32768) d : S32768x2048.Idx) := by
    funext a
    apply Fin.ext
    match a with
    | ⟨0, _⟩ => show win0_3.index t 0 * 1024 + 1 * r.val = t.val / 8 * 1024 + r.val; rw [(idx3 t).1]; omega
    | ⟨1, _⟩ => show win0_3.index t 1 * 2048 + 1 * d.val = d.val; rw [(idx3 t).2]; omega
  rw [this]
  exact (result_eq m c _ d).symm

/-- The point that flushes the rows of an element. -/
abbrev pt (i : S32768x2048.Idx) : Fin cfg0.N :=
  ⟨(i 0 : Nat) / 1024 * 8 + 7, by
    have h0 : (i 0 : Nat) < 32768 := (i 0).isLt
    rw [show cfg0.N = 256 from N_0]; omega⟩

theorem final (c : Dev nD) : (dats m 0 c).arrAt 3 cfg0.N = result m c :=
  (dats m 0 c).arrAt_eq_of_cover 3 (result m c) (flushed_eq m c) fun i =>
    ⟨pt i, (flush0_3 _).mpr (by show ((i 0 : Nat) / 1024 * 8 + 7) % 8 = 7; omega), by
    have h0 : (i 0 : Nat) < 32768 := (i 0).isLt
    have h1 : (i 1 : Nat) < 2048 := (i 1).isLt
    show i ∈ ((View.whole main_v2).slice (win0_3.rect (pt i))).set
    rw [View.set_slice_whole, Rect.mem_set_unit]
    intro a
    match a with
    | ⟨0, _⟩ =>
      show win0_3.index (pt i) 0 * 1024 ≤ (i 0 : Nat) ∧ (i 0 : Nat) < win0_3.index (pt i) 0 * 1024 + 1024
      rw [(idx3 _).1]; rw [show (pt i).val = (i 0 : Nat) / 1024 * 8 + 7 from rfl]; omega
    | ⟨1, _⟩ =>
      show win0_3.index (pt i) 1 * 2048 ≤ (i 1 : Nat) ∧ (i 1 : Nat) < win0_3.index (pt i) 1 * 2048 + 2048
      rw [(idx3 _).2]; omega⟩

end Cert.Ffn

end
-- ==== Proof.Ffn.lean ====
/- The squared-ReLU channel mixer's equation: the reference's matrix products, element by element, are the result array
   the kernel's grid leaves. -/
module

public import proofs.«01_k».proof.Defs
public import proofs.«01_k».proof.Proof.FfnValue
public import proofs.«01_k».proof.Proof.Gen.Reference2Ideal.Read

@[expose] public section

set_option maxRecDepth 16384

noncomputable section

namespace Cert.Ffn

open Idealize.ShloMosaic Idealize.ShloMosaic.TcCoe Idealize.SL.Sem

variable (m : (ℓ : Loc Kernel2Ideal.nD Kernel2Ideal.τ Kernel2Ideal.sig) → Buf (Elt Ideal) ℓ)

/-- The reference's value of the arguments is the kernel's result array. -/
theorem reference_eq (c : Dev Kernel2Ideal.nD) :
    Reference2Ideal.Read.val_main_v4 (F := Ideal) (X m c) (W1 m c) (W2 m c) = result m c := by
  funext i
  rw [Reference2Ideal.Read.val_main_v4_apply]
  unfold result
  refine Finset.sum_congr rfl fun k _ => ?_
  rw [Reference2Ideal.Read.val_main_v3_apply, Reference2Ideal.Read.val_main_v2_apply,
    Reference2Ideal.Read.val_main_v1_apply, Reference2Ideal.Read.val_main_call0_v0_apply,
    Reference2Ideal.Read.val_main_call0_cst_apply]
  simp only [Reference2Ideal.Read.val_main_v0_apply]
  show max _ (Ideal.ofBits .f32 0x00000000#32) * max _ (Ideal.ofBits .f32 0x00000000#32) * _ = _
  rw [Ideal.ofBits_zero_f32]
  have e1 : ∀ e : Fin 2048, Reference2Ideal.Read.lidx_main_v1 (Reference2Ideal.Read.lidx_main_v4 i k) e = ix2 (i 0) e :=
    fun e => funext fun a => Fin.ext (by match a with | ⟨0, _⟩ => rfl | ⟨1, _⟩ => rfl)
  have e2 : ∀ e : Fin 2048, Reference2Ideal.Read.ridx_main_v1 (Reference2Ideal.Read.lidx_main_v4 i k) e = ix2 e k :=
    fun e => funext fun a => Fin.ext (by match a with | ⟨0, _⟩ => rfl | ⟨1, _⟩ => rfl)
  have e3 : Reference2Ideal.Read.ridx_main_v4 i k = ix2 k (i 1) :=
    funext fun a => Fin.ext (by match a with | ⟨0, _⟩ => rfl | ⟨1, _⟩ => rfl)
  simp only [e1, e2, e3]
  rfl

/-- The reference terminates with its arguments unchanged and every counter at zero. -/
theorem frame_reference : Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩) (Cert.Reference2Ideal.Value.run m g)

/-- The two programs end with equal results. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => result m c, ?_, ?_⟩
  · exact (θ_run Cert.Kernel2Ideal.defs _ _).mono (fun r h c => ⟨(h c).1.trans (final m c), (h c).2⟩)
      (Cert.Kernel2Ideal.Value.run_blocks m g)
  · refine (θ_run Cert.Reference2Ideal.defs _ _).mono (fun r h c => ⟨?_, (h c).2⟩) (Cert.Reference2Ideal.Value.run m' g')
    rw [(h c).1, Reference2Ideal.Read.val_main_v4_eq, (hargs c).1, (hargs c).2.1, (hargs c).2.2]
    exact reference_eq m c

end Cert.Ffn

end
-- ==== Proof.Rows.lean ====
/- What the calls around the recurrence do to one row of the stream: the root-mean-square norm and the logistic gate. -/
module

public import Idealize.ShloMosaic.Lib.Pointwise

@[expose] public section

noncomputable section

namespace Cert.Rows

open Idealize.ShloMosaic

/-- A row's root-mean-square norm, with the gains `g`. -/
def rms (x g : Fin 2048 → EReal) (d : Fin 2048) : EReal :=
  x d * Ideal.rsqrt (Ideal.div (∑ k, x k * x k) (Ideal.ofBits .f32 0x45000000#32) + Ideal.ofBits .f32 0x358637BD#32) * g d

/-- The logistic function. -/
def gate (x : EReal) : EReal := Ideal.div 1 (1 + Ideal.exp (-x))

/-- A row times a matrix. -/
def mulVec {n k : ℕ} (x : Fin n → EReal) (w : Fin n → Fin k → EReal) (d : Fin k) : EReal := ∑ e, x e * w e d

/-- The stream after the gated embedding of a token. -/
def gated (u : Fin 2048 → EReal) (p : Fin 256 → EReal) (g : Fin 2048 → EReal) (wg : Fin 2048 → Fin 2048 → EReal)
    (wp : Fin 256 → Fin 2048 → EReal) (d : Fin 2048) : EReal :=
  u d + gate (mulVec (rms u g) wg d) * mulVec p wp d

theorem zero_offsets : (![0, 0] : Fin 2 → Nat) = fun _ => 0 := funext fun a => by fin_cases a <;> rfl

end Cert.Rows

end
-- ==== Proof.PleValue.lean ====
/- The gated embedding and the final norm: what the kernel's grid leaves in the result array. -/
module

public import proofs.«01_k».proof.Proof.Rows
public import proofs.«01_k».proof.Proof.Gen.Kernel3Ideal.Value
public import Idealize.ShloMosaic.Lib.Pipeline.Value
public import Idealize.ShloMosaic.Lib.Tactic

@[expose] public section

set_option maxRecDepth 16384

noncomputable section

namespace Cert.Ple

open Cert.Kernel3Ideal Cert.Kernel3Ideal.Gen Cert.Rows Idealize.ShloMosaic Idealize.ShloMosaic.TcCoe Idealize.SL.Sem
open Idealize.ShloMosaic.Pipeline (Dat)

variable (m : (ℓ : Loc nD τ sig) → Buf (Elt Ideal) ℓ)

theorem pay2_apply (x0 x1 : Vec Ideal S512x2048 .f32) (x2 : Vec Ideal S512x256 .f32) (x3 : Vec Ideal S1x2048 .f32)
    (x4 : Vec Ideal S2048x2048 .bf16) (x5 : Vec Ideal S256x2048 .bf16) (r : Fin 512) (d : Fin 2048) :
    k0_pay2 x0 x1 x3 x4 x2 x5 (ix2 r d)
      = gated (fun k => x0 (ix2 r k) + x1 (ix2 r k)) (fun k => x2 (ix2 r k)) (fun k => x3 (ix2 0 k))
          (fun e k => x4 (ix2 e k)) (fun e k => x5 (ix2 e k)) d := by
  unfold gated gate mulVec rms
  pointwise [k0_pay2]
  rw [zero_sub]

theorem pay1_apply (v : Vec Ideal S512x2048 .f32) (x6 : Vec Ideal S1x2048 .f32) (r : Fin 512) (d : Fin 2048) :
    k0_pay1 v (k0_pay3 x6) (ix2 r d) = rms (fun k => v (ix2 r k)) (fun k => x6 (ix2 0 k)) d := by
  unfold rms
  pointwise [k0_pay1, k0_pay3]

/-- What a grid point leaves in its block of the result. -/
theorem out_apply (x0 x1 : Vec Ideal S512x2048 .f32) (x2 : Vec Ideal S512x256 .f32) (x3 : Vec Ideal S1x2048 .f32)
    (x4 : Vec Ideal S2048x2048 .bf16) (x5 : Vec Ideal S256x2048 .bf16) (x6 : Vec Ideal S1x2048 .f32) (r : Fin 512) (d : Fin 2048) :
    out0_7 x0 x1 x2 x3 x4 x5 x6 (ix2 r d)
      = rms (gated (fun k => x0 (ix2 r k) + x1 (ix2 r k)) (fun k => x2 (ix2 r k)) (fun k => x3 (ix2 0 k))
          (fun e k => x4 (ix2 e k)) (fun e k => x5 (ix2 e k))) (fun k => x6 (ix2 0 k)) d := by
  unfold out0_7
  rw [View.canon_unit_zero zero_offsets]
  simp only [View.ld_unit_zero (S := S512x2048) zero_offsets, View.ld_unit_zero (S := S1x2048) zero_offsets,
    View.ld_unit_zero (S := S2048x2048) zero_offsets, View.ld_unit_zero (S := S512x256) zero_offsets,
    View.ld_unit_zero (S := S256x2048) zero_offsets]
  rw [pay1_apply]
  simp only [pay2_apply]

/-- The arguments. -/
abbrev X (c : Dev nD) : FVec Ideal S32768x2048 .f32 := m ((c : Thread nD τ).loc main_arg0)
abbrev M (c : Dev nD) : FVec Ideal S32768x2048 .f32 := m ((c : Thread nD τ).loc main_arg1)
abbrev P (c : Dev nD) : FVec Ideal S32768x256 .f32 := m ((c : Thread nD τ).loc main_arg2)
abbrev G (c : Dev nD) : FVec Ideal S2048 .f32 := m ((c : Thread nD τ).loc main_arg3)
abbrev WG (c : Dev nD) : FVec Ideal S2048x2048 .f32 := m ((c : Thread nD τ).loc main_arg4)
abbrev WP (c : Dev nD) : FVec Ideal S256x2048 .f32 := m ((c : Thread nD τ).loc main_arg5)
abbrev GF (c : Dev nD) : FVec Ideal S2048 .f32 := m ((c : Thread nD τ).loc main_arg6)

/-- The arrays the host prepares. -/
theorem V_v0 (c : Dev nD) : V m c main_v0 = shapeCast S1x2048 (G m c) shapeCasts_S2048_S1x2048 := by
  unfold V
  simp only [hostOps0]
  after_results
  rfl

theorem V_v1 (c : Dev nD) : V m c main_v1 = truncf .bf16 (WG m c) bitsLt_bf16_f32 := by
  unfold V
  simp only [hostOps0]
  after_results

theorem V_v2 (c : Dev nD) : V m c main_v2 = truncf .bf16 (WP m c) bitsLt_bf16_f32 := by
  unfold V
  simp only [hostOps0]
  after_results

theorem V_v3 (c : Dev nD) : V m c main_v3 = shapeCast S1x2048 (GF m c) shapeCasts_S2048_S1x2048 := by
  unfold V
  simp only [hostOps0]
  after_results
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

theorem lt_N (t : Fin cfg0.N) : t.val < 64 := lt_of_lt_of_eq t.isLt (show cfg0.N = 64 from N_0)

/-- A row of a point's block, as a row of the array. -/
abbrev row (t : Fin cfg0.N) (r : Fin 512) : Fin 32768 := ⟨t.val * 512 + r.val, by have := lt_N t; omega⟩

theorem blk0 (c : Dev nD) (t : Fin cfg0.N) (r : Fin 512) (k : Fin 2048) :
    (iblk m c 0 t : Vec Ideal S512x2048 .f32) (ix2 r k) = X m c (ix2 (row t r) k) := by
  unfold iblk
  rw [View.read_apply]
  show V m c main_arg0 _ = _
  rw [V_main_arg0]
  refine congrArg (X m c) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem blk1 (c : Dev nD) (t : Fin cfg0.N) (r : Fin 512) (k : Fin 2048) :
    (iblk m c 1 t : Vec Ideal S512x2048 .f32) (ix2 r k) = M m c (ix2 (row t r) k) := by
  unfold iblk
  rw [View.read_apply]
  show V m c main_arg1 _ = _
  rw [V_main_arg1]
  refine congrArg (M m c) (funext fun a => Fin.ext ?_)
  match a with
  | ⟨0, _⟩ => show win0_1.index t 0 * 512 + 1 * r.val = t.val * 512 + r.val; rw [(idx1 t).1]; omega
  | ⟨1, _⟩ => show win0_1.index t 1 * 2048 + 1 * k.val = k.val; rw [(idx1 t).2]; omega

theorem blk2 (c : Dev nD) (t : Fin cfg0.N) (r : Fin 512) (k : Fin 256) :
    (iblk m c 2 t : Vec Ideal S512x256 .f32) (ix2 r k) = P m c (ix2 (row t r) k) := by
  unfold iblk
  rw [View.read_apply]
  show V m c main_arg2 _ = _
  rw [V_main_arg2]
  refine congrArg (P m c) (funext fun a => Fin.ext ?_)
  match a with
  | ⟨0, _⟩ => show win0_2.index t 0 * 512 + 1 * r.val = t.val * 512 + r.val; rw [(idx2 t).1]; omega
  | ⟨1, _⟩ => show win0_2.index t 1 * 256 + 1 * k.val = k.val; rw [(idx2 t).2]; omega

theorem blk3 (c : Dev nD) (t : Fin cfg0.N) (k : Fin 2048) :
    (iblk m c 3 t : Vec Ideal S1x2048 .f32) (ix2 0 k) = G m c (ix1 k) := by
  unfold iblk
  rw [View.read_apply]
  show V m c main_v0 _ = _
  rw [V_v0]
  have e : ∀ i : S1x2048.Idx, i 1 = k → shapeCast S1x2048 (G m c) shapeCasts_S2048_S1x2048 i = G m c (ix1 k) := by
    intro i hi
    obtain ⟨z, w, rfl⟩ : ∃ (z : Fin 1) (w : Fin 2048), i = ix2 z w := ⟨i 0, i 1, eq_ix2 i⟩
    obtain rfl : w = k := hi
    obtain rfl : z = 0 := Subsingleton.elim _ _
    pointwise []
  exact e _ (Fin.ext (by show 0 * 2048 + 1 * k.val = k.val; omega))

theorem blk6 (c : Dev nD) (t : Fin cfg0.N) (k : Fin 2048) :
    (iblk m c 6 t : Vec Ideal S1x2048 .f32) (ix2 0 k) = GF m c (ix1 k) := by
  unfold iblk
  rw [View.read_apply]
  show V m c main_v3 _ = _
  rw [V_v3]
  have e : ∀ i : S1x2048.Idx, i 1 = k → shapeCast S1x2048 (GF m c) shapeCasts_S2048_S1x2048 i = GF m c (ix1 k) := by
    intro i hi
    obtain ⟨z, w, rfl⟩ : ∃ (z : Fin 1) (w : Fin 2048), i = ix2 z w := ⟨i 0, i 1, eq_ix2 i⟩
    obtain rfl : w = k := hi
    obtain rfl : z = 0 := Subsingleton.elim _ _
    pointwise []
  exact e _ (Fin.ext (by show 0 * 2048 + 1 * k.val = k.val; omega))

theorem blk4 (c : Dev nD) (t : Fin cfg0.N) (e k : Fin 2048) :
    (iblk m c 4 t : Vec Ideal S2048x2048 .bf16) (ix2 e k) = WG m c (ix2 e k) := by
  unfold iblk
  rw [View.read_apply]
  show V m c main_v1 _ = _
  rw [V_v1]
  refine congrArg (WG m c) (funext fun a => Fin.ext ?_)
  match a with
  | ⟨0, _⟩ => show 0 * 2048 + 1 * e.val = e.val; omega
  | ⟨1, _⟩ => show 0 * 2048 + 1 * k.val = k.val; omega

theorem blk5 (c : Dev nD) (t : Fin cfg0.N) (e : Fin 256) (k : Fin 2048) :
    (iblk m c 5 t : Vec Ideal S256x2048 .bf16) (ix2 e k) = WP m c (ix2 e k) := by
  unfold iblk
  rw [View.read_apply]
  show V m c main_v2 _ = _
  rw [V_v2]
  refine congrArg (WP m c) (funext fun a => Fin.ext ?_)
  match a with
  | ⟨0, _⟩ => show 0 * 256 + 1 * e.val = e.val; omega
  | ⟨1, _⟩ => show 0 * 2048 + 1 * k.val = k.val; omega

/-- The result array: every token's row, normed. -/
def result (c : Dev nD) : FVec Ideal S32768x2048 .f32 := fun i =>
  rms (gated (fun k => X m c (ix2 (i 0) k) + M m c (ix2 (i 0) k)) (fun k => P m c (ix2 (i 0) k)) (fun k => G m c (ix1 k))
    (fun e k => WG m c (ix2 e k)) (fun e k => WP m c (ix2 e k))) (fun k => GF m c (ix1 k)) (i 1)

theorem flushed_eq (c : Dev nD) (t : Fin cfg0.N) (hf : (cfg0.win 7).flush t = true) :
    (dats m 0 c).flushed 7 t = ((cfg0.win 7).blk t).view.read (Elt Ideal) (result m c) := by
  rw [Value.flushed7]
  funext y
  rw [View.read_apply]
  obtain ⟨r, d, rfl⟩ : ∃ (r : Fin 512) (d : Fin 2048), y = ix2 r d := ⟨y 0, y 1, eq_ix2 y⟩
  show out0_7 (iblk m c 0 t) (iblk m c 1 t) (iblk m c 2 t) (iblk m c 3 t) (iblk m c 4 t) (iblk m c 5 t) (iblk m c 6 t) (ix2 r d) = _
  rw [out_apply]
  simp only [blk0, blk1, blk2, blk3, blk4, blk5, blk6]
  have : ((cfg0.win 7).blk t).view.emb (ix2 r d) = (ix2 (row t r) d : S32768x2048.Idx) := by
    funext a
    apply Fin.ext
    match a with
    | ⟨0, _⟩ => show win0_7.index t 0 * 512 + 1 * r.val = t.val * 512 + r.val; rw [(idx7 t).1]; omega
    | ⟨1, _⟩ => show win0_7.index t 1 * 2048 + 1 * d.val = d.val; rw [(idx7 t).2]; omega
  rw [this]
  rfl

/-- The point that writes the rows of an element. -/
abbrev pt (i : S32768x2048.Idx) : Fin cfg0.N :=
  ⟨(i 0 : Nat) / 512, by
    have h0 : (i 0 : Nat) < 32768 := (i 0).isLt
    rw [show cfg0.N = 64 from N_0]; omega⟩

theorem final (c : Dev nD) : (dats m 0 c).arrAt 7 cfg0.N = result m c :=
  (dats m 0 c).arrAt_eq_of_cover 7 (result m c) (flushed_eq m c) fun i =>
    ⟨pt i, flush0_7 _, by
    have h0 : (i 0 : Nat) < 32768 := (i 0).isLt
    have h1 : (i 1 : Nat) < 2048 := (i 1).isLt
    show i ∈ ((View.whole main_v4).slice (win0_7.rect (pt i))).set
    rw [View.set_slice_whole, Rect.mem_set_unit]
    intro a
    match a with
    | ⟨0, _⟩ =>
      show win0_7.index (pt i) 0 * 512 ≤ (i 0 : Nat) ∧ (i 0 : Nat) < win0_7.index (pt i) 0 * 512 + 512
      rw [(idx7 _).1]; rw [show (pt i).val = (i 0 : Nat) / 512 from rfl]; omega
    | ⟨1, _⟩ =>
      show win0_7.index (pt i) 1 * 2048 ≤ (i 1 : Nat) ∧ (i 1 : Nat) < win0_7.index (pt i) 1 * 2048 + 2048
      rw [(idx7 _).2]; omega⟩

end Cert.Ple

end
-- ==== Proof.Ple.lean ====
/- The gated embedding and the final norm: the kernel and the reference end with equal results. -/
module

public import proofs.«01_k».proof.Defs
public import proofs.«01_k».proof.Proof.PleValue
public import proofs.«01_k».proof.Proof.Gen.Reference3Ideal.Read

@[expose] public section

set_option maxRecDepth 16384

noncomputable section

namespace Cert.Ple

open Cert.Rows Idealize.ShloMosaic Idealize.ShloMosaic.TcCoe Idealize.SL.Sem
open Cert.Reference3Ideal.Read

section

open Cert.Reference3Ideal

variable (x0 x1 : FVec Ideal S32768x2048 .f32) (x2 : FVec Ideal S32768x256 .f32) (x3 x6 : FVec Ideal S2048 .f32)
  (x4 : FVec Ideal S2048x2048 .f32) (x5 : FVec Ideal S256x2048 .f32) (R : Fin 32768) (d : Fin 2048)

/-- The reference's norm of the summed stream. -/
theorem norm_apply : val_main_v13 (F := Ideal) x0 x1 x3 (ix2 R d)
    = rms (fun k => x0 (ix2 R k) + x1 (ix2 R k)) (fun k => x3 (ix1 k)) d := by
  unfold rms
  pointwise [val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]

theorem stream_apply : val_main_v23 (F := Ideal) x0 x1 x2 x3 x4 x5 (ix2 R d)
    = gated (fun k => x0 (ix2 R k) + x1 (ix2 R k)) (fun k => x2 (ix2 R k)) (fun k => x3 (ix1 k))
        (fun e k => x4 (ix2 e k)) (fun e k => x5 (ix2 e k)) d := by
  unfold gated gate mulVec
  pointwise [val_main_v23, val_main_v22, val_main_v21, val_main_v20, val_main_v19, val_main_cst_3, val_main_v18,
    val_main_v17, val_main_cst_2, val_main_v16, val_main_v15, val_main_v14, val_main_v0]
  simp only [norm_apply]

theorem out_ref_apply : val_main_v36 (F := Ideal) x0 x1 x2 x3 x4 x5 x6 (ix2 R d)
    = rms (gated (fun k => x0 (ix2 R k) + x1 (ix2 R k)) (fun k => x2 (ix2 R k)) (fun k => x3 (ix1 k))
        (fun e k => x4 (ix2 e k)) (fun e k => x5 (ix2 e k))) (fun k => x6 (ix1 k)) d := by
  unfold rms
  pointwise [val_main_v36, val_main_v35, val_main_v34, val_main_v33, val_main_v32, val_main_v31, val_main_v30, val_main_v29,
    val_main_cst_6, val_main_v28, val_main_v27, val_main_cst_5, val_main_v26, val_main_v25, val_main_cst_4,
    val_main_v24]
  simp only [stream_apply]

end

variable (m : (ℓ : Loc Kernel3Ideal.nD Kernel3Ideal.τ Kernel3Ideal.sig) → Buf (Elt Ideal) ℓ)

/-- The reference's value of the arguments is the kernel's result array. -/
theorem reference_eq (c : Dev Kernel3Ideal.nD) :
    val_main_v36 (F := Ideal) (X m c) (M m c) (P m c) (G m c) (WG m c) (WP m c) (GF m c) = result m c := by
  funext i
  obtain ⟨R, d, rfl⟩ : ∃ (R : Fin 32768) (d : Fin 2048), i = ix2 R d := ⟨i 0, i 1, eq_ix2 i⟩
  exact out_ref_apply _ _ _ _ _ _ _ R d

/-- The reference terminates with its arguments unchanged and every counter at zero. -/
theorem frame_reference : Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩) (Cert.Reference3Ideal.Value.run m g)

/-- The two programs end with equal results. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => result m c, ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨?_, (h c).2⟩)
      (Cert.Reference3Ideal.Value.run m' g')
    obtain ⟨e0, e1, e2, e3, e4, e5, e6⟩ := hargs c
    rw [(h c).1, val_main_v36_eq, e0, e1, e2, e3, e4, e5, e6]
    exact reference_eq m c

end Cert.Ple

end
-- ==== Proof.OutProjValue.lean ====
/- The output projection, the residual and the next norm: what the kernel's grid leaves in its two result arrays. -/
module

public import proofs.«01_k».proof.Proof.Rows
public import proofs.«01_k».proof.Proof.Gen.Kernel4Ideal.Value
public import Idealize.ShloMosaic.Lib.Pipeline.Value
public import Idealize.ShloMosaic.Lib.Tactic

@[expose] public section

set_option maxRecDepth 16384

noncomputable section

namespace Cert.OutProj

open Cert.Kernel4Ideal Cert.Kernel4Ideal.Gen Cert.Rows Idealize.ShloMosaic Idealize.ShloMosaic.TcCoe Idealize.SL.Sem
open Idealize.ShloMosaic.Pipeline (Dat)

variable (m : (ℓ : Loc nD τ sig) → Buf (Elt Ideal) ℓ)

/-- A token's stream after the projection is added. -/
def stream (x y : Fin 2048 → EReal) (w : Fin 2048 → Fin 2048 → EReal) (d : Fin 2048) : EReal := x d + mulVec y w d

theorem pay1_apply (x0 : Vec Ideal S512x2048 .f32) (x1 : Vec Ideal S512x2048 .bf16) (x2 : Vec Ideal S2048x2048 .bf16)
    (r : Fin 512) (d : Fin 2048) :
    k0_pay1 x0 x1 x2 (ix2 r d)
      = stream (fun k => x0 (ix2 r k)) (fun k => x1 (ix2 r k)) (fun e k => x2 (ix2 e k)) d := by
  unfold stream mulVec
  pointwise [k0_pay1]

theorem pay2_apply (x0 : Vec Ideal S512x2048 .f32) (x1 : Vec Ideal S512x2048 .bf16) (x2 : Vec Ideal S2048x2048 .bf16)
    (x3 : Vec Ideal S1x2048 .f32) (r : Fin 512) (d : Fin 2048) :
    k0_pay2 x0 x1 x2 x3 (ix2 r d)
      = rms (stream (fun k => x0 (ix2 r k)) (fun k => x1 (ix2 r k)) (fun e k => x2 (ix2 e k))) (fun k => x3 (ix2 0 k)) d := by
  unfold rms
  pointwise [k0_pay2]
  simp only [pay1_apply]

/-- What a grid point leaves in its block of each result. -/
theorem out4_apply (x0 : Vec Ideal S512x2048 .f32) (x1 : Vec Ideal S512x2048 .bf16) (x2 : Vec Ideal S2048x2048 .bf16)
    (x3 : Vec Ideal S1x2048 .f32) (r : Fin 512) (d : Fin 2048) :
    out0_4 x0 x1 x2 x3 (ix2 r d)
      = stream (fun k => x0 (ix2 r k)) (fun k => x1 (ix2 r k)) (fun e k => x2 (ix2 e k)) d := by
  unfold out0_4
  rw [View.canon_unit_zero zero_offsets]
  simp only [View.ld_unit_zero (S := S512x2048) zero_offsets, View.ld_unit_zero (S := S2048x2048) zero_offsets]
  exact pay1_apply _ _ _ r d

theorem out5_apply (x0 : Vec Ideal S512x2048 .f32) (x1 : Vec Ideal S512x2048 .bf16) (x2 : Vec Ideal S2048x2048 .bf16)
    (x3 : Vec Ideal S1x2048 .f32) (r : Fin 512) (d : Fin 2048) :
    out0_5 x0 x1 x2 x3 (ix2 r d)
      = rms (stream (fun k => x0 (ix2 r k)) (fun k => x1 (ix2 r k)) (fun e k => x2 (ix2 e k))) (fun k => x3 (ix2 0 k)) d := by
  unfold out0_5
  rw [View.canon_unit_zero zero_offsets]
  simp only [View.ld_unit_zero (S := S512x2048) zero_offsets, View.ld_unit_zero (S := S1x2048) zero_offsets,
    View.ld_unit_zero (S := S2048x2048) zero_offsets]
  exact pay2_apply _ _ _ _ r d

/-- The arguments. -/
abbrev X (c : Dev nD) : FVec Ideal S32768x2048 .f32 := m ((c : Thread nD τ).loc main_arg0)
abbrev Y (c : Dev nD) : FVec Ideal S32768x2048 .bf16 := m ((c : Thread nD τ).loc main_arg1)
abbrev W (c : Dev nD) : FVec Ideal S2048x2048 .f32 := m ((c : Thread nD τ).loc main_arg2)
abbrev G (c : Dev nD) : FVec Ideal S2048 .f32 := m ((c : Thread nD τ).loc main_arg3)

/-- The arrays the host prepares. -/
theorem V_v0 (c : Dev nD) : V m c main_v0 = truncf .bf16 (W m c) bitsLt_bf16_f32 := by
  unfold V
  simp only [hostOps0]
  after_results

theorem V_v1 (c : Dev nD) : V m c main_v1 = shapeCast S1x2048 (G m c) shapeCasts_S2048_S1x2048 := by
  unfold V
  simp only [hostOps0]
  after_results
  rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem lt_N (t : Fin cfg0.N) : t.val < 64 := lt_of_lt_of_eq t.isLt (show cfg0.N = 64 from N_0)

/-- A row of a point's block, as a row of the array. -/
abbrev row (t : Fin cfg0.N) (r : Fin 512) : Fin 32768 := ⟨t.val * 512 + r.val, by have := lt_N t; omega⟩

theorem blk0 (c : Dev nD) (t : Fin cfg0.N) (r : Fin 512) (k : Fin 2048) :
    (iblk m c 0 t : Vec Ideal S512x2048 .f32) (ix2 r k) = X m c (ix2 (row t r) k) := by
  unfold iblk
  rw [View.read_apply]
  show V m c main_arg0 _ = _
  rw [V_main_arg0]
  refine congrArg (X m c) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem blk1 (c : Dev nD) (t : Fin cfg0.N) (r : Fin 512) (k : Fin 2048) :
    (iblk m c 1 t : Vec Ideal S512x2048 .bf16) (ix2 r k) = Y m c (ix2 (row t r) k) := by
  unfold iblk
  rw [View.read_apply]
  show V m c main_arg1 _ = _
  rw [V_main_arg1]
  refine congrArg (Y m c) (funext fun a => Fin.ext ?_)
  match a with
  | ⟨0, _⟩ => show win0_1.index t 0 * 512 + 1 * r.val = t.val * 512 + r.val; rw [(idx1 t).1]; omega
  | ⟨1, _⟩ => show win0_1.index t 1 * 2048 + 1 * k.val = k.val; rw [(idx1 t).2]; omega

theorem blk2 (c : Dev nD) (t : Fin cfg0.N) (e k : Fin 2048) :
    (iblk m c 2 t : Vec Ideal S2048x2048 .bf16) (ix2 e k) = W m c (ix2 e k) := by
  unfold iblk
  rw [View.read_apply]
  show V m c main_v0 _ = _
  rw [V_v0]
  refine congrArg (W m c) (funext fun a => Fin.ext ?_)
  match a with
  | ⟨0, _⟩ => show 0 * 2048 + 1 * e.val = e.val; omega
  | ⟨1, _⟩ => show 0 * 2048 + 1 * k.val = k.val; omega

theorem blk3 (c : Dev nD) (t : Fin cfg0.N) (k : Fin 2048) :
    (iblk m c 3 t : Vec Ideal S1x2048 .f32) (ix2 0 k) = G m c (ix1 k) := by
  unfold iblk
  rw [View.read_apply]
  show V m c main_v1 _ = _
  rw [V_v1]
  have e : ∀ i : S1x2048.Idx, i 1 = k → shapeCast S1x2048 (G m c) shapeCasts_S2048_S1x2048 i = G m c (ix1 k) := by
    intro i hi
    obtain ⟨z, w, rfl⟩ : ∃ (z : Fin 1) (w : Fin 2048), i = ix2 z w := ⟨i 0, i 1, eq_ix2 i⟩
    obtain rfl : w = k := hi
    obtain rfl : z = 0 := Subsingleton.elim _ _
    pointwise []
  exact e _ (Fin.ext (by show 0 * 2048 + 1 * k.val = k.val; omega))

/-- The result arrays: every token's stream, and its norm. -/
def result4 (c : Dev nD) : FVec Ideal S32768x2048 .f32 := fun i =>
  stream (fun k => X m c (ix2 (i 0) k)) (fun k => Y m c (ix2 (i 0) k)) (fun e k => W m c (ix2 e k)) (i 1)

def result5 (c : Dev nD) : FVec Ideal S32768x2048 .bf16 := fun i =>
  rms (stream (fun k => X m c (ix2 (i 0) k)) (fun k => Y m c (ix2 (i 0) k)) (fun e k => W m c (ix2 e k)))
    (fun k => G m c (ix1 k)) (i 1)

theorem flushed4_eq (c : Dev nD) (t : Fin cfg0.N) (hf : (cfg0.win 4).flush t = true) :
    (dats m 0 c).flushed 4 t = ((cfg0.win 4).blk t).view.read (Elt Ideal) (result4 m c) := by
  rw [Value.flushed4]
  funext y
  rw [View.read_apply]
  obtain ⟨r, d, rfl⟩ : ∃ (r : Fin 512) (d : Fin 2048), y = ix2 r d := ⟨y 0, y 1, eq_ix2 y⟩
  show out0_4 (iblk m c 0 t) (iblk m c 1 t) (iblk m c 2 t) (iblk m c 3 t) (ix2 r d) = _
  rw [out4_apply]
  simp only [blk0, blk1, blk2]
  have : ((cfg0.win 4).blk t).view.emb (ix2 r d) = (ix2 (row t r) d : S32768x2048.Idx) := by
    funext a
    apply Fin.ext
    match a with
    | ⟨0, _⟩ => show win0_4.index t 0 * 512 + 1 * r.val = t.val * 512 + r.val; rw [(idx4 t).1]; omega
    | ⟨1, _⟩ => show win0_4.index t 1 * 2048 + 1 * d.val = d.val; rw [(idx4 t).2]; omega
  rw [this]
  rfl

theorem flushed5_eq (c : Dev nD) (t : Fin cfg0.N) (hf : (cfg0.win 5).flush t = true) :
    (dats m 0 c).flushed 5 t = ((cfg0.win 5).blk t).view.read (Elt Ideal) (result5 m c) := by
  rw [Value.flushed5]
  funext y
  rw [View.read_apply]
  obtain ⟨r, d, rfl⟩ : ∃ (r : Fin 512) (d : Fin 2048), y = ix2 r d := ⟨y 0, y 1, eq_ix2 y⟩
  show out0_5 (iblk m c 0 t) (iblk m c 1 t) (iblk m c 2 t) (iblk m c 3 t) (ix2 r d) = _
  rw [out5_apply]
  simp only [blk0, blk1, blk2, blk3]
  have : ((cfg0.win 5).blk t).view.emb (ix2 r d) = (ix2 (row t r) d : S32768x2048.Idx) := by
    funext a
    apply Fin.ext
    match a with
    | ⟨0, _⟩ => show win0_5.index t 0 * 512 + 1 * r.val = t.val * 512 + r.val; rw [(idx5 t).1]; omega
    | ⟨1, _⟩ => show win0_5.index t 1 * 2048 + 1 * d.val = d.val; rw [(idx5 t).2]; omega
  rw [this]
  rfl

/-- The point that writes the rows of an element. -/
abbrev pt (i : S32768x2048.Idx) : Fin cfg0.N :=
  ⟨(i 0 : Nat) / 512, by
    have h0 : (i 0 : Nat) < 32768 := (i 0).isLt
    rw [show cfg0.N = 64 from N_0]; omega⟩

theorem final4 (c : Dev nD) : (dats m 0 c).arrAt 4 cfg0.N = result4 m c :=
  (dats m 0 c).arrAt_eq_of_cover 4 (result4 m c) (flushed4_eq m c) fun i =>
    ⟨pt i, flush0_4 _, by
    have h0 : (i 0 : Nat) < 32768 := (i 0).isLt
    have h1 : (i 1 : Nat) < 2048 := (i 1).isLt
    show i ∈ ((View.whole main_v2_0).slice (win0_4.rect (pt i))).set
    rw [View.set_slice_whole, Rect.mem_set_unit]
    intro a
    match a with
    | ⟨0, _⟩ =>
      show win0_4.index (pt i) 0 * 512 ≤ (i 0 : Nat) ∧ (i 0 : Nat) < win0_4.index (pt i) 0 * 512 + 512
      rw [(idx4 _).1]; rw [show (pt i).val = (i 0 : Nat) / 512 from rfl]; omega
    | ⟨1, _⟩ =>
      show win0_4.index (pt i) 1 * 2048 ≤ (i 1 : Nat) ∧ (i 1 : Nat) < win0_4.index (pt i) 1 * 2048 + 2048
      rw [(idx4 _).2]; omega⟩

theorem final5 (c : Dev nD) : (dats m 0 c).arrAt 5 cfg0.N = result5 m c :=
  (dats m 0 c).arrAt_eq_of_cover 5 (result5 m c) (flushed5_eq m c) fun i =>
    ⟨pt i, flush0_5 _, by
    have h0 : (i 0 : Nat) < 32768 := (i 0).isLt
    have h1 : (i 1 : Nat) < 2048 := (i 1).isLt
    show i ∈ ((View.whole main_v2_1).slice (win0_5.rect (pt i))).set
    rw [View.set_slice_whole, Rect.mem_set_unit]
    intro a
    match a with
    | ⟨0, _⟩ =>
      show win0_5.index (pt i) 0 * 512 ≤ (i 0 : Nat) ∧ (i 0 : Nat) < win0_5.index (pt i) 0 * 512 + 512
      rw [(idx5 _).1]; rw [show (pt i).val = (i 0 : Nat) / 512 from rfl]; omega
    | ⟨1, _⟩ =>
      show win0_5.index (pt i) 1 * 2048 ≤ (i 1 : Nat) ∧ (i 1 : Nat) < win0_5.index (pt i) 1 * 2048 + 2048
      rw [(idx5 _).2]; omega⟩

end Cert.OutProj

end
-- ==== Proof.OutProj.lean ====
/- The output projection, the residual and the next norm: the kernel and the reference end with equal results. -/
module

public import proofs.«01_k».proof.Defs
public import proofs.«01_k».proof.Proof.OutProjValue
public import proofs.«01_k».proof.Proof.Gen.Reference4Ideal.Read

@[expose] public section

set_option maxRecDepth 16384

noncomputable section

namespace Cert.OutProj

open Cert.Rows Idealize.ShloMosaic Idealize.ShloMosaic.TcCoe Idealize.SL.Sem
open Cert.Reference4Ideal.Read

section

open Cert.Reference4Ideal

variable (x0 : FVec Ideal S32768x2048 .f32) (x1 : FVec Ideal S32768x2048 .bf16) (x2 : FVec Ideal S2048x2048 .f32)
  (x3 : FVec Ideal S2048 .f32) (R : Fin 32768) (d : Fin 2048)

/-- The reference's stream, and its norm. -/
theorem stream_apply : val_main_v2 (F := Ideal) x0 x1 x2 (ix2 R d)
    = stream (fun k => x0 (ix2 R k)) (fun k => x1 (ix2 R k)) (fun e k => x2 (ix2 e k)) d := by
  unfold stream mulVec
  pointwise [val_main_v2, val_main_v1, val_main_v0]

theorem norm_apply : val_main_v16 (F := Ideal) x0 x1 x2 x3 (ix2 R d)
    = rms (stream (fun k => x0 (ix2 R k)) (fun k => x1 (ix2 R k)) (fun e k => x2 (ix2 e k))) (fun k => x3 (ix1 k)) d := by
  unfold rms
  pointwise [val_main_v16, val_main_v15, val_main_v14, val_main_v13, val_main_v12, val_main_v11, val_main_v10, val_main_v9,
    val_main_v8, val_main_cst_1, val_main_v7, val_main_v6, val_main_cst_0, val_main_v5, val_main_v4, val_main_cst, val_main_v3]
  simp only [stream_apply]

end

variable (m : (ℓ : Loc Kernel4Ideal.nD Kernel4Ideal.τ Kernel4Ideal.sig) → Buf (Elt Ideal) ℓ)

/-- The reference's values of the arguments are the kernel's result arrays. -/
theorem reference4_eq (c : Dev Kernel4Ideal.nD) : val_main_v2 (F := Ideal) (X m c) (Y m c) (W m c) = result4 m c := by
  funext i
  obtain ⟨R, d, rfl⟩ : ∃ (R : Fin 32768) (d : Fin 2048), i = ix2 R d := ⟨i 0, i 1, eq_ix2 i⟩
  exact stream_apply _ _ _ R d

theorem reference5_eq (c : Dev Kernel4Ideal.nD) : val_main_v16 (F := Ideal) (X m c) (Y m c) (W m c) (G m c) = result5 m c := by
  funext i
  obtain ⟨R, d, rfl⟩ : ∃ (R : Fin 32768) (d : Fin 2048), i = ix2 R d := ⟨i 0, i 1, eq_ix2 i⟩
  exact norm_apply _ _ _ _ R d

/-- The reference terminates with its arguments unchanged and every counter at zero. -/
theorem frame_reference : Cert.quiescent_Reference4Ideal (hReference4Ideal := Cert.Reference4Ideal.Gen.facts) :=
  fun m g _ => (θ_run Cert.Reference4Ideal.defs _ _).mono
    (fun r h => ⟨fun c => (h c).2.2, sem_eq_zero_of_no_sems (by decide) r.2⟩) (Cert.Reference4Ideal.Value.run m g)

/-- The two programs end with equal results. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => result4 m c, fun c => result5 m c, ?_, ?_⟩
  · exact (θ_run Cert.Kernel4Ideal.defs _ _).mono
      (fun r h c => ⟨(h c).1.trans (final4 m c), (h c).2.1.trans (final5 m c), (h c).2.2⟩)
      (Cert.Kernel4Ideal.Value.run_blocks m g)
  · refine (θ_run Cert.Reference4Ideal.defs _ _).mono (fun r h c => ⟨?_, ?_, (h c).2.2⟩)
      (Cert.Reference4Ideal.Value.run m' g')
    · obtain ⟨e0, e1, e2, e3⟩ := hargs c
      rw [(h c).1, val_main_v2_eq, e0, e1, e2]
      exact reference4_eq m c
    · obtain ⟨e0, e1, e2, e3⟩ := hargs c
      rw [(h c).2.1, val_main_v16_eq, e0, e1, e2, e3]
      exact reference5_eq m c

end Cert.OutProj

end
-- ==== Proof.MergeValue.lean ====
/- The gated merge of the two branches: what the kernel's grid leaves in the result array. -/
module

public import proofs.«01_k».proof.Proof.Rows
public import proofs.«01_k».proof.Proof.Gen.Kernel5Ideal.Value
public import Idealize.ShloMosaic.Lib.Pipeline.Value
public import Idealize.ShloMosaic.Lib.Tactic

@[expose] public section

set_option maxRecDepth 16384

noncomputable section

namespace Cert.Merge

open Cert.Kernel5Ideal Cert.Kernel5Ideal.Gen Cert.Rows Idealize.ShloMosaic Idealize.ShloMosaic.TcCoe Idealize.SL.Sem
open Idealize.ShloMosaic.Pipeline (Dat)

variable (m : (ℓ : Loc nD τ sig) → Buf (Elt Ideal) ℓ)

/-- One column of a token's merged stream: two branches, each behind its gate. -/
def merged (h : Fin 2048 → EReal) (a b : Fin 1024 → EReal) (ga gb : Fin 2048 → EReal) (ua ub : Fin 1024 → EReal) : EReal :=
  gate (∑ e, h e * ga e) * (∑ e, a e * ua e) + gate (∑ e, h e * gb e) * (∑ e, b e * ub e)

theorem pay1_apply (x0 : Vec Ideal S1024x2048 .bf16) (x1 x2 : Vec Ideal S1024x1024 .bf16) (x3 x4 : Vec Ideal S2048x1024 .bf16)
    (x5 x6 : Vec Ideal S1024x1024 .bf16) (r d : Fin 1024) :
    k0_pay1 x0 x3 x4 x1 x5 x2 x6 (ix2 r d)
      = merged (fun k => x0 (ix2 r k)) (fun k => x1 (ix2 r k)) (fun k => x2 (ix2 r k)) (fun e => x3 (ix2 e d))
          (fun e => x4 (ix2 e d)) (fun e => x5 (ix2 e d)) (fun e => x6 (ix2 e d)) := by
  unfold merged gate
  pointwise [k0_pay1]
  rw [zero_sub, zero_sub]

/-- What a grid point leaves in its block of the result. -/
theorem out_apply (x0 : Vec Ideal S1024x2048 .bf16) (x1 x2 : Vec Ideal S1024x1024 .bf16) (x3 x4 : Vec Ideal S2048x1024 .bf16)
    (x5 x6 : Vec Ideal S1024x1024 .bf16) (r d : Fin 1024) :
    out0_7 x0 x1 x2 x3 x4 x5 x6 (ix2 r d)
      = merged (fun k => x0 (ix2 r k)) (fun k => x1 (ix2 r k)) (fun k => x2 (ix2 r k)) (fun e => x3 (ix2 e d))
          (fun e => x4 (ix2 e d)) (fun e => x5 (ix2 e d)) (fun e => x6 (ix2 e d)) := by
  unfold out0_7
  rw [View.canon_unit_zero zero_offsets]
  simp only [View.ld_unit_zero (S := S1024x2048) zero_offsets, View.ld_unit_zero (S := S1024x1024) zero_offsets,
    View.ld_unit_zero (S := S2048x1024) zero_offsets]
  exact pay1_apply _ _ _ _ _ _ _ r d

/-- The arguments. -/
abbrev H (c : Dev nD) : FVec Ideal S32768x2048 .bf16 := m ((c : Thread nD τ).loc main_arg0)
abbrev A (c : Dev nD) : FVec Ideal S32768x1024 .bf16 := m ((c : Thread nD τ).loc main_arg1)
abbrev B (c : Dev nD) : FVec Ideal S32768x1024 .bf16 := m ((c : Thread nD τ).loc main_arg2)
abbrev W (c : Dev nD) : FVec Ideal S2048x10248 .f32 := m ((c : Thread nD τ).loc main_arg3)
abbrev UA (c : Dev nD) : FVec Ideal S1024x2048 .f32 := m ((c : Thread nD τ).loc main_arg4)
abbrev UB (c : Dev nD) : FVec Ideal S1024x2048 .f32 := m ((c : Thread nD τ).loc main_arg5)

/-- The gates' columns of the input weights. -/
abbrev colA (d : Fin 2048) : Fin 10248 := ⟨6152 + d.val, by omega⟩
abbrev colB (d : Fin 2048) : Fin 10248 := ⟨8200 + d.val, by omega⟩

/-- The arrays the host prepares. -/
theorem V_v1 (c : Dev nD) : V m c main_v1 = truncf .bf16
    (extractStridedSlice S2048x2048 ![0, 6152] (W m c) slices_S2048x10248_S2048x2048_0_6152) bitsLt_bf16_f32 := by
  unfold V
  simp only [hostOps0]
  after_results

theorem V_v3 (c : Dev nD) : V m c main_v3 = truncf .bf16
    (extractStridedSlice S2048x2048 ![0, 8200] (W m c) slices_S2048x10248_S2048x2048_0_8200) bitsLt_bf16_f32 := by
  unfold V
  simp only [hostOps0]
  after_results

theorem V_v4 (c : Dev nD) : V m c main_v4 = truncf .bf16 (UA m c) bitsLt_bf16_f32 := by
  unfold V
  simp only [hostOps0]
  after_results

theorem V_v5 (c : Dev nD) : V m c main_v5 = truncf .bf16 (UB m c) bitsLt_bf16_f32 := by
  unfold V
  simp only [hostOps0]
  after_results

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val / 2 ∧ win0_1.index t 1 = 0 :=
  (by decide +kernel : ∀ t : Fin grid0.N, win0_1.index t 0 = t.val / 2 ∧ win0_1.index t 1 = 0)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)
theorem idx4 : ∀ t : Fin cfg0.N, win0_4.index t 0 = 0 ∧ win0_4.index t 1 = t.val % 2 :=
  (by decide +kernel : ∀ t : Fin grid0.N, win0_4.index t 0 = 0 ∧ win0_4.index t 1 = t.val % 2)
theorem idx5 : ∀ t : Fin cfg0.N, win0_5.index t 0 = 0 ∧ win0_5.index t 1 = t.val % 2 :=
  (by decide +kernel : ∀ t : Fin grid0.N, win0_5.index t 0 = 0 ∧ win0_5.index t 1 = t.val % 2)
theorem idx6 : ∀ t : Fin cfg0.N, win0_6.index t 0 = 0 ∧ win0_6.index t 1 = t.val % 2 :=
  (by decide +kernel : ∀ t : Fin grid0.N, win0_6.index t 0 = 0 ∧ win0_6.index t 1 = t.val % 2)
theorem idx7 : ∀ t : Fin cfg0.N, win0_7.index t 0 = t.val / 2 ∧ win0_7.index t 1 = t.val % 2 :=
  (by decide +kernel : ∀ t : Fin grid0.N, win0_7.index t 0 = t.val / 2 ∧ win0_7.index t 1 = t.val % 2)

theorem lt_N (t : Fin cfg0.N) : t.val < 64 := lt_of_lt_of_eq t.isLt (show cfg0.N = 64 from N_0)

/-- A row and a column of a point's block, as those of the array. -/
abbrev row (t : Fin cfg0.N) (r : Fin 1024) : Fin 32768 := ⟨t.val / 2 * 1024 + r.val, by have := lt_N t; omega⟩
abbrev col (t : Fin cfg0.N) (d : Fin 1024) : Fin 2048 := ⟨t.val % 2 * 1024 + d.val, by omega⟩

theorem blk0 (c : Dev nD) (t : Fin cfg0.N) (r : Fin 1024) (k : Fin 2048) :
    (iblk m c 0 t : Vec Ideal S1024x2048 .bf16) (ix2 r k) = H m c (ix2 (row t r) k) := by
  unfold iblk
  rw [View.read_apply]
  show V m c main_arg0 _ = _
  rw [V_main_arg0]
  refine congrArg (H m c) (funext fun a => Fin.ext ?_)
  match a with
  | ⟨0, _⟩ => show win0_0.index t 0 * 1024 + 1 * r.val = t.val / 2 * 1024 + r.val; rw [(idx0 t).1]; omega
  | ⟨1, _⟩ => show win0_0.index t 1 * 2048 + 1 * k.val = k.val; rw [(idx0 t).2]; omega

theorem blk1 (c : Dev nD) (t : Fin cfg0.N) (r : Fin 1024) (k : Fin 1024) :
    (iblk m c 1 t : Vec Ideal S1024x1024 .bf16) (ix2 r k) = A m c (ix2 (row t r) k) := by
  unfold iblk
  rw [View.read_apply]
  show V m c main_arg1 _ = _
  rw [V_main_arg1]
  refine congrArg (A m c) (funext fun a => Fin.ext ?_)
  match a with
  | ⟨0, _⟩ => show win0_1.index t 0 * 1024 + 1 * r.val = t.val / 2 * 1024 + r.val; rw [(idx1 t).1]; omega
  | ⟨1, _⟩ => show win0_1.index t 1 * 1024 + 1 * k.val = k.val; rw [(idx1 t).2]; omega

theorem blk2 (c : Dev nD) (t : Fin cfg0.N) (r : Fin 1024) (k : Fin 1024) :
    (iblk m c 2 t : Vec Ideal S1024x1024 .bf16) (ix2 r k) = B m c (ix2 (row t r) k) := by
  unfold iblk
  rw [View.read_apply]
  show V m c main_arg2 _ = _
  rw [V_main_arg2]
  refine congrArg (B m c) (funext fun a => Fin.ext ?_)
  match a with
  | ⟨0, _⟩ => show win0_2.index t 0 * 1024 + 1 * r.val = t.val / 2 * 1024 + r.val; rw [(idx2 t).1]; omega
  | ⟨1, _⟩ => show win0_2.index t 1 * 1024 + 1 * k.val = k.val; rw [(idx2 t).2]; omega

theorem blk3 (c : Dev nD) (t : Fin cfg0.N) (e : Fin 2048) (d : Fin 1024) :
    (iblk m c 3 t : Vec Ideal S2048x1024 .bf16) (ix2 e d) = W m c (ix2 e (colA (col t d))) := by
  unfold iblk
  rw [View.read_apply]
  show V m c main_v1 _ = _
  rw [V_v1]
  refine congrArg (W m c) (funext fun a => Fin.ext ?_)
  match a with
  | ⟨0, _⟩ => show 0 + (win0_3.index t 0 * 2048 + 1 * e.val) = e.val; rw [(idx3 t).1]; omega
  | ⟨1, _⟩ =>
    show 6152 + (win0_3.index t 1 * 1024 + 1 * d.val) = 6152 + (t.val % 2 * 1024 + d.val)
    rw [(idx3 t).2]; omega

theorem blk4 (c : Dev nD) (t : Fin cfg0.N) (e : Fin 2048) (d : Fin 1024) :
    (iblk m c 4 t : Vec Ideal S2048x1024 .bf16) (ix2 e d) = W m c (ix2 e (colB (col t d))) := by
  unfold iblk
  rw [View.read_apply]
  show V m c main_v3 _ = _
  rw [V_v3]
  refine congrArg (W m c) (funext fun a => Fin.ext ?_)
  match a with
  | ⟨0, _⟩ => show 0 + (win0_4.index t 0 * 2048 + 1 * e.val) = e.val; rw [(idx4 t).1]; omega
  | ⟨1, _⟩ =>
    show 8200 + (win0_4.index t 1 * 1024 + 1 * d.val) = 8200 + (t.val % 2 * 1024 + d.val)
    rw [(idx4 t).2]; omega

theorem blk5 (c : Dev nD) (t : Fin cfg0.N) (e d : Fin 1024) :
    (iblk m c 5 t : Vec Ideal S1024x1024 .bf16) (ix2 e d) = UA m c (ix2 e (col t d)) := by
  unfold iblk
  rw [View.read_apply]
  show V m c main_v4 _ = _
  rw [V_v4]
  refine congrArg (UA m c) (funext fun a => Fin.ext ?_)
  match a with
  | ⟨0, _⟩ => show win0_5.index t 0 * 1024 + 1 * e.val = e.val; rw [(idx5 t).1]; omega
  | ⟨1, _⟩ => show win0_5.index t 1 * 1024 + 1 * d.val = t.val % 2 * 1024 + d.val; rw [(idx5 t).2]; omega

theorem blk6 (c : Dev nD) (t : Fin cfg0.N) (e d : Fin 1024) :
    (iblk m c 6 t : Vec Ideal S1024x1024 .bf16) (ix2 e d) = UB m c (ix2 e (col t d)) := by
  unfold iblk
  rw [View.read_apply]
  show V m c main_v5 _ = _
  rw [V_v5]
  refine congrArg (UB m c) (funext fun a => Fin.ext ?_)
  match a with
  | ⟨0, _⟩ => show win0_6.index t 0 * 1024 + 1 * e.val = e.val; rw [(idx6 t).1]; omega
  | ⟨1, _⟩ => show win0_6.index t 1 * 1024 + 1 * d.val = t.val % 2 * 1024 + d.val; rw [(idx6 t).2]; omega

/-- The result array: every token's merged stream. -/
def result (c : Dev nD) : FVec Ideal S32768x2048 .bf16 := fun i =>
  merged (fun k => H m c (ix2 (i 0) k)) (fun k => A m c (ix2 (i 0) k)) (fun k => B m c (ix2 (i 0) k))
    (fun e => W m c (ix2 e (colA (i 1)))) (fun e => W m c (ix2 e (colB (i 1))))
    (fun e => UA m c (ix2 e (i 1))) (fun e => UB m c (ix2 e (i 1)))

theorem flushed_eq (c : Dev nD) (t : Fin cfg0.N) (hf : (cfg0.win 7).flush t = true) :
    (dats m 0 c).flushed 7 t = ((cfg0.win 7).blk t).view.read (Elt Ideal) (result m c) := by
  rw [Value.flushed7]
  funext y
  rw [View.read_apply]
  obtain ⟨r, d, rfl⟩ : ∃ (r : Fin 1024) (d : Fin 1024), y = ix2 r d := ⟨y 0, y 1, eq_ix2 y⟩
  show out0_7 (iblk m c 0 t) (iblk m c 1 t) (iblk m c 2 t) (iblk m c 3 t) (iblk m c 4 t) (iblk m c 5 t) (iblk m c 6 t) (ix2 r d) = _
  rw [out_apply]
  simp only [blk0, blk1, blk2, blk3, blk4, blk5, blk6]
  have : ((cfg0.win 7).blk t).view.emb (ix2 r d) = (ix2 (row t r) (col t d) : S32768x2048.Idx) := by
    funext a
    apply Fin.ext
    match a with
    | ⟨0, _⟩ => show win0_7.index t 0 * 1024 + 1 * r.val = t.val / 2 * 1024 + r.val; rw [(idx7 t).1]; omega
    | ⟨1, _⟩ => show win0_7.index t 1 * 1024 + 1 * d.val = t.val % 2 * 1024 + d.val; rw [(idx7 t).2]; omega
  rw [this]
  rfl

/-- The point that writes an element. -/
abbrev pt (i : S32768x2048.Idx) : Fin cfg0.N :=
  ⟨(i 0 : Nat) / 1024 * 2 + (i 1 : Nat) / 1024, by
    have h0 : (i 0 : Nat) < 32768 := (i 0).isLt
    have h1 : (i 1 : Nat) < 2048 := (i 1).isLt
    rw [show cfg0.N = 64 from N_0]; omega⟩

theorem final (c : Dev nD) : (dats m 0 c).arrAt 7 cfg0.N = result m c :=
  (dats m 0 c).arrAt_eq_of_cover 7 (result m c) (flushed_eq m c) fun i =>
    ⟨pt i, flush0_7 _, by
    have h0 : (i 0 : Nat) < 32768 := (i 0).isLt
    have h1 : (i 1 : Nat) < 2048 := (i 1).isLt
    show i ∈ ((View.whole main_v6).slice (win0_7.rect (pt i))).set
    rw [View.set_slice_whole, Rect.mem_set_unit]
    intro a
    match a with
    | ⟨0, _⟩ =>
      show win0_7.index (pt i) 0 * 1024 ≤ (i 0 : Nat) ∧ (i 0 : Nat) < win0_7.index (pt i) 0 * 1024 + 1024
      rw [(idx7 _).1]; rw [show (pt i).val = (i 0 : Nat) / 1024 * 2 + (i 1 : Nat) / 1024 from rfl]; omega
    | ⟨1, _⟩ =>
      show win0_7.index (pt i) 1 * 1024 ≤ (i 1 : Nat) ∧ (i 1 : Nat) < win0_7.index (pt i) 1 * 1024 + 1024
      rw [(idx7 _).2]; rw [show (pt i).val = (i 0 : Nat) / 1024 * 2 + (i 1 : Nat) / 1024 from rfl]; omega⟩

end Cert.Merge

end
-- ==== Proof.Merge.lean ====
/- The gated merge of the two branches: the kernel and the reference end with equal results. -/
module

public import proofs.«01_k».proof.Defs
public import proofs.«01_k».proof.Proof.MergeValue
public import proofs.«01_k».proof.Proof.Gen.Reference5Ideal.Read

@[expose] public section

set_option maxRecDepth 16384

noncomputable section

namespace Cert.Merge

open Cert.Rows Idealize.ShloMosaic Idealize.ShloMosaic.TcCoe Idealize.SL.Sem
open Cert.Reference5Ideal.Read

section

open Cert.Reference5Ideal

variable (x0 : FVec Ideal S32768x2048 .bf16) (x1 x2 : FVec Ideal S32768x1024 .bf16) (x3 : FVec Ideal S2048x10248 .f32)
  (x4 x5 : FVec Ideal S1024x2048 .f32) (R : Fin 32768) (d : Fin 2048)

/-- The gates' columns of the input weights. -/
theorem slice_a (e : Fin 2048) : val_main_v3 (F := Ideal) x3 (ix2 e d) = x3 (ix2 e (colA d)) :=
  congrArg x3 (funext fun a => Fin.ext (by match a with | ⟨0, _⟩ => exact Nat.zero_add _ | ⟨1, _⟩ => rfl))

theorem slice_b (e : Fin 2048) : val_main_v5 (F := Ideal) x3 (ix2 e d) = x3 (ix2 e (colB d)) :=
  congrArg x3 (funext fun a => Fin.ext (by match a with | ⟨0, _⟩ => exact Nat.zero_add _ | ⟨1, _⟩ => rfl))

theorem merged_apply : val_main_v24 (F := Ideal) x0 x1 x2 x3 x4 x5 (ix2 R d)
    = merged (fun k => x0 (ix2 R k)) (fun k => x1 (ix2 R k)) (fun k => x2 (ix2 R k))
        (fun e => x3 (ix2 e (colA d))) (fun e => x3 (ix2 e (colB d))) (fun e => x4 (ix2 e d)) (fun e => x5 (ix2 e d)) := by
  unfold merged gate
  pointwise [val_main_v24, val_main_v23, val_main_v22, val_main_v21, val_main_v20, val_main_v19, val_main_cst_2, val_main_v18,
    val_main_v17, val_main_cst_1, val_main_v16, val_main_v15, val_main_v14, val_main_v13, val_main_v12, val_main_v11,
    val_main_cst_0, val_main_v10, val_main_v9, val_main_cst, val_main_v8, val_main_v7, val_main_v6, val_main_v4,
    val_main_v2, val_main_v1, val_main_v0]
  simp only [slice_a, slice_b]

end

variable (m : (ℓ : Loc Kernel5Ideal.nD Kernel5Ideal.τ Kernel5Ideal.sig) → Buf (Elt Ideal) ℓ)

/-- The reference's value of the arguments is the kernel's result array. -/
theorem reference_eq (c : Dev Kernel5Ideal.nD) :
    val_main_v24 (F := Ideal) (H m c) (A m c) (B m c) (W m c) (UA m c) (UB m c) = result m c := by
  funext i
  obtain ⟨R, d, rfl⟩ : ∃ (R : Fin 32768) (d : Fin 2048), i = ix2 R d := ⟨i 0, i 1, eq_ix2 i⟩
  exact merged_apply _ _ _ _ _ _ R d

/-- The reference terminates with its arguments unchanged and every counter at zero. -/
theorem frame_reference : Cert.quiescent_Reference5Ideal (hReference5Ideal := Cert.Reference5Ideal.Gen.facts) :=
  fun m g _ => (θ_run Cert.Reference5Ideal.defs _ _).mono
    (fun r h => ⟨fun c => (h c).2, sem_eq_zero_of_no_sems (by decide) r.2⟩) (Cert.Reference5Ideal.Value.run m g)

/-- The two programs end with equal results. -/
theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => result m c, ?_, ?_⟩
  · exact (θ_run Cert.Kernel5Ideal.defs _ _).mono (fun r h c => ⟨(h c).1.trans (final m c), (h c).2⟩)
      (Cert.Kernel5Ideal.Value.run_blocks m g)
  · refine (θ_run Cert.Reference5Ideal.defs _ _).mono (fun r h c => ⟨?_, (h c).2⟩)
      (Cert.Reference5Ideal.Value.run m' g')
    obtain ⟨e0, e1, e2, e3, e4, e5⟩ := hargs c
    rw [(h c).1, val_main_v24_eq, e0, e1, e2, e3, e4, e5]
    exact reference_eq m c

end Cert.Merge

end
-- ==== Proof.InprojMValue.lean ====
/- The shared norm and the mLSTM branch's projection: what the kernel's grid leaves in its two result arrays. -/
module

public import proofs.«01_k».proof.Proof.Rows
public import proofs.«01_k».proof.Proof.Gen.Kernel6Ideal.Value
public import Idealize.ShloMosaic.Lib.Pipeline.Value
public import Idealize.ShloMosaic.Lib.Pipeline.ValueKit.Tiles
public import Idealize.ShloMosaic.Lib.KernelVsHost
public import Idealize.ShloMosaic.Lib.Tactic

@[expose] public section

set_option maxRecDepth 16384

noncomputable section

namespace Cert.InprojM

open Cert.Kernel6Ideal Cert.Kernel6Ideal.Gen Cert.Rows Idealize.ShloMosaic Idealize.ShloMosaic.TcCoe Idealize.SL.Sem
open Idealize.ShloMosaic.Pipeline (Dat)

variable (m : (ℓ : Loc nD τ sig) → Buf (Elt Ideal) ℓ)

theorem pay1_apply (x0 : Vec Ideal S512x2048 .f32) (x1 : Vec Ideal S1x2048 .f32) (r : Fin 512) (d : Fin 2048) :
    k0_pay1 x0 x1 (ix2 r d) = rms (fun k => x0 (ix2 r k)) (fun k => x1 (ix2 0 k)) d := by
  unfold rms
  pointwise [k0_pay1]

theorem pay2_apply (x0 : Vec Ideal S512x2048 .f32) (x1 : Vec Ideal S1x2048 .f32) (x2 : Vec Ideal S2048x3072 .bf16)
    (r : Fin 512) (d : Fin 3072) :
    k0_pay2 x0 x1 x2 (ix2 r d)
      = ∑ e, rms (fun k => x0 (ix2 r k)) (fun k => x1 (ix2 0 k)) e * x2 (ix2 e d) := by
  pointwise [k0_pay2]
  simp only [pay1_apply]

theorem pay3_apply (x0 : Vec Ideal S512x2048 .f32) (x1 : Vec Ideal S1x2048 .f32) (x3 : Vec Ideal S2048x128 .bf16)
    (r : Fin 512) (d : Fin 128) :
    k0_pay3 x0 x1 x3 (ix2 r d)
      = ∑ e, rms (fun k => x0 (ix2 r k)) (fun k => x1 (ix2 0 k)) e * x3 (ix2 e d) := by
  pointwise [k0_pay3]
  simp only [pay1_apply]

theorem idx_eq {p q : ℕ} (x : (⟨2, ![p, q]⟩ : Shape).Idx) (r : Fin p) (d : Fin q) (h0 : (x 0).val = r.val)
    (h1 : (x 1).val = d.val) : x = ix2 r d := by
  rw [eq_ix2 x]
  exact congrArg₂ ix2 (Fin.ext h0) (Fin.ext h1)

section

variable (c : Dev nD) (i : grid0.Coords)
  (a1 : Memref sig .tc .vmem S512x2048 .f32) (h1 : a1.IsWhole) (a2 : Memref sig .tc .vmem S1x2048 .f32) (h2 : a2.IsWhole)
  (a3 : Memref sig .tc .vmem S2048x3072 .bf16) (h3 : a3.IsWhole) (a4 : Memref sig .tc .vmem S2048x128 .bf16) (h4 : a4.IsWhole)
  (a5 : Memref sig .tc .vmem S512x3200 .f32) (h5 : a5.IsWhole) (a6 : Memref sig .tc .vmem S512x2048 .bf16) (h6 : a6.IsWhole)
  (x0 : Vec Ideal S512x2048 .f32) (x1 : Vec Ideal S1x2048 .f32) (x2 : Vec Ideal S2048x3072 .bf16) (x3 : Vec Ideal S2048x128 .bf16)

/-- What a grid point leaves in its block of each result. -/
theorem out4_apply (r : Fin 512) (D : Fin 3200) :
    out0_A_4 c i a1 h1 a2 h2 a3 h3 a4 h4 a5 h5 a6 h6 x0 x1 x2 x3 (ix2 r D)
      = if h : D.val < 3072 then ∑ e, rms (fun k => x0 (ix2 r k)) (fun k => x1 (ix2 0 k)) e * x2 (ix2 e ⟨D.val, h⟩)
        else ∑ e, rms (fun k => x0 (ix2 r k)) (fun k => x1 (ix2 0 k)) e
          * x3 (ix2 e ⟨D.val - 3072, by have := D.isLt; omega⟩) := by
  have hc := cover0_A_4 c i a1 h1 a2 h2 a3 h3 a4 h4 a5 h5 a6 h6 x0 x1 x2 x3 (ix2 r D)
  unfold out0_A_4
  rw [View.read_writes_junk_eq_canon]
  unfold kernelRun0_A at hc ⊢
  dsimp only at hc ⊢
  canon_tiles x hx using hc
  all_goals change D.val = _ at hx1
  · have e : x = ix2 r ⟨D.val - 3072, by omega⟩ := idx_eq x _ _ hx0.symm (by show (x 1).val = D.val - 3072; omega)
    rw [e, dif_neg (by omega)]
    simp only [View.readAt_eq_ld, h1.read_unread, h2.read_unread, h4.read_unread,
      View.ld_unit_zero (S := S512x2048) zero_offsets, View.ld_unit_zero (S := S1x2048) zero_offsets,
      View.ld_unit_zero (S := S2048x128) zero_offsets]
    exact pay3_apply _ _ _ r _
  · have e : x = ix2 r ⟨D.val, by omega⟩ := idx_eq x _ _ hx0.symm hx1.symm
    rw [e, dif_pos (by omega)]
    simp only [View.readAt_eq_ld, h1.read_unread, h2.read_unread, h3.read_unread,
      View.ld_unit_zero (S := S512x2048) zero_offsets, View.ld_unit_zero (S := S1x2048) zero_offsets,
      View.ld_unit_zero (S := S2048x3072) zero_offsets]
    exact pay2_apply _ _ _ r _

theorem out5_apply (r : Fin 512) (d : Fin 2048) :
    out0_A_5 c i a1 h1 a2 h2 a3 h3 a4 h4 a5 h5 a6 h6 x0 x1 x2 x3 (ix2 r d)
      = rms (fun k => x0 (ix2 r k)) (fun k => x1 (ix2 0 k)) d := by
  unfold out0_A_5
  rw [View.read_writes_junk_eq_canon]
  unfold kernelRun0_A
  dsimp only
  rw [View.canon_unit_zero zero_offsets]
  simp only [View.readAt_eq_ld, h1.read_unread, h2.read_unread, View.ld_unit_zero (S := S512x2048) zero_offsets,
    View.ld_unit_zero (S := S1x2048) zero_offsets]
  exact pay1_apply _ _ r d

end

/-- The arguments. -/
abbrev X (c : Dev nD) : FVec Ideal S32768x2048 .f32 := m ((c : Thread nD τ).loc main_arg0)
abbrev G (c : Dev nD) : FVec Ideal S2048 .f32 := m ((c : Thread nD τ).loc main_arg1)
abbrev W (c : Dev nD) : FVec Ideal S2048x10248 .f32 := m ((c : Thread nD τ).loc main_arg2)

theorem V_v4 (c : Dev nD) : V m c main_v4 = truncf .bf16
    (extractStridedSlice S2048x3072 ![0, 0] (W m c) slices_S2048x10248_S2048x3072_0_0) bitsLt_bf16_f32 := by
  unfold V
  simp only [hostOps0, hostOps0_1, hostOps0_2, List.flatten_cons, List.flatten_nil, List.append_nil, List.cons_append, List.nil_append]
  after_results

theorem V_v5 (c : Dev nD) : V m c main_v5 = shapeCast S1x2048 (G m c) shapeCasts_S2048_S1x2048 := by
  unfold V
  simp only [hostOps0, hostOps0_1, hostOps0_2, List.flatten_cons, List.flatten_nil, List.append_nil, List.cons_append, List.nil_append]
  after_results
  rfl

theorem V_v2 (c : Dev nD) : V m c main_v2 = truncf .bf16
    (pad S2048x128 ![0, 0] ![0, 120] ![0, 0]
      (extractStridedSlice S2048x8 ![0, 3072] (W m c) slices_S2048x10248_S2048x8_0_3072)
      (sitofp (F := Ideal) .f32 (constantI S_ 32 0#32)) pads_S2048x8_S2048x128_000_01200 h_S_) bitsLt_bf16_f32 := by
  unfold V
  simp only [hostOps0, hostOps0_1, hostOps0_2, List.flatten_cons, List.flatten_nil, List.append_nil, List.cons_append, List.nil_append]
  after_results
  all_goals rfl

/-- The gates' columns, padded with zero columns. -/
theorem V_v2_apply (c : Dev nD) (e : Fin 2048) (d : Fin 128) : (V m c main_v2 : Vec Ideal S2048x128 .bf16) (ix2 e d)
    = if h : d.val < 8 then W m c (ix2 e ⟨3072 + d.val, by omega⟩) else 0 := by
  rw [V_v2]
  pointwise []
  split
  · rfl
  · exact sitofp_zero

theorem idx0 : ∀ t : Fin cfg0.N, win0_0.index t 0 = t.val ∧ win0_0.index t 1 = 0 :=
  (by decide +kernel : ∀ t : Fin grid0.N, win0_0.index t 0 = t.val ∧ win0_0.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

theorem lt_N (t : Fin cfg0.N) : t.val < 64 := lt_of_lt_of_eq t.isLt (show cfg0.N = 64 from N_0)

/-- A row of a point's block, as a row of the array. -/
abbrev row (t : Fin cfg0.N) (r : Fin 512) : Fin 32768 := ⟨t.val * 512 + r.val, by have := lt_N t; omega⟩

theorem blk0 (c : Dev nD) (t : Fin cfg0.N) (r : Fin 512) (k : Fin 2048) :
    (iblk m c 0 t : Vec Ideal S512x2048 .f32) (ix2 r k) = X m c (ix2 (row t r) k) := by
  unfold iblk
  rw [View.read_apply]
  show V m c main_arg0 _ = _
  rw [V_main_arg0]
  refine congrArg (X m c) (funext fun a => Fin.ext ?_)
  match a with
  | ⟨0, _⟩ => show win0_0.index t 0 * 512 + 1 * r.val = t.val * 512 + r.val; rw [(idx0 t).1]; omega
  | ⟨1, _⟩ => show win0_0.index t 1 * 2048 + 1 * k.val = k.val; rw [(idx0 t).2]; omega

theorem blk1 (c : Dev nD) (t : Fin cfg0.N) (k : Fin 2048) :
    (iblk m c 1 t : Vec Ideal S1x2048 .f32) (ix2 0 k) = G m c (ix1 k) := by
  unfold iblk
  rw [View.read_apply]
  show V m c main_v5 _ = _
  rw [V_v5]
  have e : ∀ i : S1x2048.Idx, i 1 = k → shapeCast S1x2048 (G m c) shapeCasts_S2048_S1x2048 i = G m c (ix1 k) := by
    intro i hi
    obtain ⟨z, w, rfl⟩ : ∃ (z : Fin 1) (w : Fin 2048), i = ix2 z w := ⟨i 0, i 1, eq_ix2 i⟩
    obtain rfl : w = k := hi
    obtain rfl : z = 0 := Subsingleton.elim _ _
    pointwise []
  exact e _ (Fin.ext (by show 0 * 2048 + 1 * k.val = k.val; omega))

theorem blk2 (c : Dev nD) (t : Fin cfg0.N) (e : Fin 2048) (d : Fin 3072) :
    (iblk m c 2 t : Vec Ideal S2048x3072 .bf16) (ix2 e d) = W m c (ix2 e ⟨d.val, by omega⟩) := by
  unfold iblk
  rw [View.read_apply]
  show V m c main_v4 _ = _
  rw [V_v4]
  refine congrArg (W m c) (funext fun a => Fin.ext ?_)
  match a with
  | ⟨0, _⟩ => show 0 + (0 * 2048 + 1 * e.val) = e.val; omega
  | ⟨1, _⟩ => show 0 + (0 * 3072 + 1 * d.val) = d.val; omega

theorem blk3 (c : Dev nD) (t : Fin cfg0.N) (e : Fin 2048) (d : Fin 128) :
    (iblk m c 3 t : Vec Ideal S2048x128 .bf16) (ix2 e d)
      = if h : d.val < 8 then W m c (ix2 e ⟨3072 + d.val, by omega⟩) else 0 := by
  unfold iblk
  rw [View.read_apply]
  refine Eq.trans (congrArg (V m c main_v2 : Vec Ideal S2048x128 .bf16) ?_) (V_v2_apply m c e d)
  refine idx_eq _ _ _ ?_ ?_
  · show 0 * 2048 + 1 * e.val = e.val; omega
  · show 0 * 128 + 1 * d.val = d.val; omega

/-- A token's projection, its columns past the last gate zero. -/
def proj (x g : Fin 2048 → EReal) (w : Fin 2048 → Fin 10248 → EReal) (D : Fin 3200) : EReal :=
  if h : D.val < 3080 then ∑ e, rms x g e * w e ⟨D.val, by omega⟩ else 0

/-- The result arrays: every token's projection, and its norm. -/
def result4 (c : Dev nD) : FVec Ideal S32768x3200 .f32 := fun i =>
  proj (fun k => X m c (ix2 (i 0) k)) (fun k => G m c (ix1 k)) (fun e k => W m c (ix2 e k)) (i 1)

def result5 (c : Dev nD) : FVec Ideal S32768x2048 .bf16 := fun i =>
  rms (fun k => X m c (ix2 (i 0) k)) (fun k => G m c (ix1 k)) (i 1)

theorem flushed4_eq (c : Dev nD) (t : Fin cfg0.N) (hf : (cfg0.win 4).flush t = true) :
    (dats m 0 c).flushed 4 t = ((cfg0.win 4).blk t).view.read (Elt Ideal) (result4 m c) := by
  rw [Value.flushed4_A]
  funext y
  rw [View.read_apply]
  obtain ⟨r, D, rfl⟩ : ∃ (r : Fin 512) (D : Fin 3200), y = ix2 r D := ⟨y 0, y 1, eq_ix2 y⟩
  show out0_A_4 c _ _ _ _ _ _ _ _ _ _ _ _ _ (iblk m c 0 t) (iblk m c 1 t) (iblk m c 2 t) (iblk m c 3 t) (ix2 r D) = _
  rw [out4_apply]
  simp only [blk0, blk1, blk2, blk3]
  have : ((cfg0.win 4).blk t).view.emb (ix2 r D) = (ix2 (row t r) D : S32768x3200.Idx) := by
    funext a
    apply Fin.ext
    match a with
    | ⟨0, _⟩ => show win0_4.index t 0 * 512 + 1 * r.val = t.val * 512 + r.val; rw [(idx4 t).1]; omega
    | ⟨1, _⟩ => show win0_4.index t 1 * 3200 + 1 * D.val = D.val; rw [(idx4 t).2]; omega
  rw [this]
  show _ = proj (fun k => X m c (ix2 (row t r) k)) (fun k => G m c (ix1 k)) (fun e k => W m c (ix2 e k)) D
  unfold proj
  by_cases h : D.val < 3072
  · rw [dif_pos h, dif_pos (by omega)]
  · rw [dif_neg h]
    by_cases h8 : D.val < 3080
    · rw [dif_pos h8]
      refine Finset.sum_congr rfl fun e _ => ?_
      rw [dif_pos (by omega)]
      have hd : (⟨3072 + (D.val - 3072), by omega⟩ : Fin 10248) = ⟨D.val, by omega⟩ := Fin.ext (by show 3072 + (D.val - 3072) = D.val; omega)
      rw [hd]
    · rw [dif_neg h8]
      refine Finset.sum_eq_zero fun e _ => ?_
      rw [dif_neg (by omega)]
      exact mul_zero _

theorem flushed5_eq (c : Dev nD) (t : Fin cfg0.N) (hf : (cfg0.win 5).flush t = true) :
    (dats m 0 c).flushed 5 t = ((cfg0.win 5).blk t).view.read (Elt Ideal) (result5 m c) := by
  rw [Value.flushed5_A]
  funext y
  rw [View.read_apply]
  obtain ⟨r, d, rfl⟩ : ∃ (r : Fin 512) (d : Fin 2048), y = ix2 r d := ⟨y 0, y 1, eq_ix2 y⟩
  show out0_A_5 c _ _ _ _ _ _ _ _ _ _ _ _ _ (iblk m c 0 t) (iblk m c 1 t) (iblk m c 2 t) (iblk m c 3 t) (ix2 r d) = _
  rw [out5_apply]
  simp only [blk0, blk1]
  have : ((cfg0.win 5).blk t).view.emb (ix2 r d) = (ix2 (row t r) d : S32768x2048.Idx) := by
    funext a
    apply Fin.ext
    match a with
    | ⟨0, _⟩ => show win0_5.index t 0 * 512 + 1 * r.val = t.val * 512 + r.val; rw [(idx5 t).1]; omega
    | ⟨1, _⟩ => show win0_5.index t 1 * 2048 + 1 * d.val = d.val; rw [(idx5 t).2]; omega
  rw [this]
  rfl

/-- The point that writes a row. -/
abbrev pt (R : Fin 32768) : Fin cfg0.N := ⟨R.val / 512, by rw [show cfg0.N = 64 from N_0]; omega⟩

theorem final4 (c : Dev nD) : (dats m 0 c).arrAt 4 cfg0.N = result4 m c :=
  (dats m 0 c).arrAt_eq_of_cover 4 (result4 m c) (flushed4_eq m c) fun i =>
    ⟨pt (i 0), flush0_4 _, by
    have h0 : (i 0 : Nat) < 32768 := (i 0).isLt
    have h1 : (i 1 : Nat) < 3200 := (i 1).isLt
    show i ∈ ((View.whole main_v6_0).slice (win0_4.rect (pt (i 0)))).set
    rw [View.set_slice_whole, Rect.mem_set_unit]
    intro a
    match a with
    | ⟨0, _⟩ =>
      show win0_4.index (pt (i 0)) 0 * 512 ≤ (i 0 : Nat) ∧ (i 0 : Nat) < win0_4.index (pt (i 0)) 0 * 512 + 512
      rw [(idx4 _).1]; rw [show (pt (i 0)).val = (i 0 : Nat) / 512 from rfl]; omega
    | ⟨1, _⟩ =>
      show win0_4.index (pt (i 0)) 1 * 3200 ≤ (i 1 : Nat) ∧ (i 1 : Nat) < win0_4.index (pt (i 0)) 1 * 3200 + 3200
      rw [(idx4 _).2]; omega⟩

theorem final5 (c : Dev nD) : (dats m 0 c).arrAt 5 cfg0.N = result5 m c :=
  (dats m 0 c).arrAt_eq_of_cover 5 (result5 m c) (flushed5_eq m c) fun i =>
    ⟨pt (i 0), flush0_5 _, by
    have h0 : (i 0 : Nat) < 32768 := (i 0).isLt
    have h1 : (i 1 : Nat) < 2048 := (i 1).isLt
    show i ∈ ((View.whole main_v6_1).slice (win0_5.rect (pt (i 0)))).set
    rw [View.set_slice_whole, Rect.mem_set_unit]
    intro a
    match a with
    | ⟨0, _⟩ =>
      show win0_5.index (pt (i 0)) 0 * 512 ≤ (i 0 : Nat) ∧ (i 0 : Nat) < win0_5.index (pt (i 0)) 0 * 512 + 512
      rw [(idx5 _).1]; rw [show (pt (i 0)).val = (i 0 : Nat) / 512 from rfl]; omega
    | ⟨1, _⟩ =>
      show win0_5.index (pt (i 0)) 1 * 2048 ≤ (i 1 : Nat) ∧ (i 1 : Nat) < win0_5.index (pt (i 0)) 1 * 2048 + 2048
      rw [(idx5 _).2]; omega⟩

end Cert.InprojM

end
-- ==== Proof.InprojM.lean ====
/- The shared norm and the mLSTM branch's projection: the kernel and the reference end with equal results. -/
module

public import proofs.«01_k».proof.Defs
public import proofs.«01_k».proof.Proof.InprojMValue
public import proofs.«01_k».proof.Proof.Gen.Reference6Ideal.Read

@[expose] public section

set_option maxRecDepth 16384

noncomputable section

namespace Cert.InprojM

open Cert.Rows Idealize.ShloMosaic Idealize.ShloMosaic.TcCoe Idealize.SL.Sem
open Cert.Reference6Ideal.Read

section

open Cert.Reference6Ideal

variable (x0 : FVec Ideal S32768x2048 .f32) (x1 : FVec Ideal S2048 .f32) (x2 : FVec Ideal S2048x10248 .f32) (R : Fin 32768)

/-- The reference's norm, its product with the branch's columns, and the padded product. -/
theorem norm_apply (d : Fin 2048) : val_main_v12 (F := Ideal) x0 x1 (ix2 R d)
    = rms (fun k => x0 (ix2 R k)) (fun k => x1 (ix1 k)) d := by
  unfold rms
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]

theorem slice_apply (e : Fin 2048) (d : Fin 3080) : val_main_v13 (F := Ideal) x2 (ix2 e d) = x2 (ix2 e ⟨d.val, by omega⟩) := by
  pointwise [val_main_v13]

theorem product_apply (d : Fin 3080) : val_main_v14 (F := Ideal) x0 x1 x2 (ix2 R d)
    = ∑ e, rms (fun k => x0 (ix2 R k)) (fun k => x1 (ix1 k)) e * x2 (ix2 e ⟨d.val, by omega⟩) := by
  pointwise [val_main_v14]
  simp only [norm_apply, slice_apply]

theorem proj_apply (D : Fin 3200) : val_main_v15 (F := Ideal) x0 x1 x2 (ix2 R D)
    = proj (fun k => x0 (ix2 R k)) (fun k => x1 (ix1 k)) (fun e k => x2 (ix2 e k)) D := by
  unfold proj
  pointwise [val_main_v15, val_main_call0_v0, val_main_c]
  by_cases h : D.val < 3080
  · rw [dif_pos h, dif_pos h]
    exact product_apply x0 x1 x2 R _
  · rw [dif_neg h, dif_neg h]
    exact sitofp_zero (φ := .f32)

end

variable (m : (ℓ : Loc Kernel6Ideal.nD Kernel6Ideal.τ Kernel6Ideal.sig) → Buf (Elt Ideal) ℓ)

/-- The reference's values of the arguments are the kernel's result arrays. -/
theorem reference4_eq (c : Dev Kernel6Ideal.nD) : val_main_v15 (F := Ideal) (X m c) (G m c) (W m c) = result4 m c := by
  funext i
  obtain ⟨R, D, rfl⟩ : ∃ (R : Fin 32768) (D : Fin 3200), i = ix2 R D := ⟨i 0, i 1, eq_ix2 i⟩
  exact proj_apply _ _ _ R D

theorem reference5_eq (c : Dev Kernel6Ideal.nD) : val_main_v16 (F := Ideal) (X m c) (G m c) = result5 m c := by
  funext i
  obtain ⟨R, d, rfl⟩ : ∃ (R : Fin 32768) (d : Fin 2048), i = ix2 R d := ⟨i 0, i 1, eq_ix2 i⟩
  exact norm_apply _ _ R d

/-- The reference terminates with its arguments unchanged and every counter at zero. -/
theorem frame_reference : Cert.quiescent_Reference6Ideal (hReference6Ideal := Cert.Reference6Ideal.Gen.facts) :=
  fun m g _ => (θ_run Cert.Reference6Ideal.defs _ _).mono
    (fun r h => ⟨fun c => (h c).2.2, sem_eq_zero_of_no_sems (by decide) r.2⟩) (Cert.Reference6Ideal.Value.run m g)

/-- The two programs end with equal results. -/
theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => result4 m c, fun c => result5 m c, ?_, ?_⟩
  · exact (θ_run Cert.Kernel6Ideal.defs _ _).mono
      (fun r h c => ⟨(h c).1.trans (final4 m c), (h c).2.1.trans (final5 m c), (h c).2.2⟩)
      (Cert.Kernel6Ideal.Value.run_blocks m g)
  · refine (θ_run Cert.Reference6Ideal.defs _ _).mono (fun r h c => ⟨?_, ?_, (h c).2.2⟩)
      (Cert.Reference6Ideal.Value.run m' g')
    · obtain ⟨e0, e1, e2⟩ := hargs c
      rw [(h c).1, val_main_v15_eq, e0, e1, e2]
      exact reference4_eq m c
    · obtain ⟨e0, e1, e2⟩ := hargs c
      rw [(h c).2.1, val_main_v16_eq, e0, e1]
      exact reference5_eq m c

end Cert.InprojM

end
-- ==== Proof.InprojAValue.lean ====
/- The attention's input projection: what a grid point of the kernel leaves in its block of the result. -/
module

public import proofs.«01_k».proof.Proof.Rows
public import proofs.«01_k».proof.Proof.Gen.Kernel7Ideal.Value
public import Idealize.ShloMosaic.Lib.Pipeline.Value
public import Idealize.ShloMosaic.Lib.Pipeline.ValueKit.Tiles
public import Idealize.ShloMosaic.Lib.KernelVsHost
public import Idealize.ShloMosaic.Lib.Tactic

@[expose] public section

set_option maxRecDepth 16384

noncomputable section

namespace Cert.InprojA

open Cert.Kernel7Ideal Cert.Kernel7Ideal.Gen Cert.Rows Idealize.ShloMosaic Idealize.ShloMosaic.TcCoe Idealize.SL.Sem
open Idealize.ShloMosaic.Pipeline (Dat)

/-- A token's position, as a real number. -/
def real (p : BitVec 32) : EReal := ((p.toInt : ℝ) : EReal)

/-- One head's rotary embedding: the first 32 lanes turned by the angles `a`, in pairs sixteen lanes apart. -/
def turn (z a : Fin 128 → EReal) (l : Fin 128) : EReal :=
  if l.val < 32 then
    z l * Ideal.cos (a l)
      + (if l.val < 16 then z ⟨(l.val + 128 - 112) % 128, Nat.mod_lt _ (by norm_num)⟩ else z ⟨(l.val + 128 - 16) % 128, Nat.mod_lt _ (by norm_num)⟩)
        * Ideal.sin (a l)
  else z l

/-- A token's queries and keys turned head by head, its values as they are. -/
def turned (z : Fin 3072 → EReal) (a : Fin 128 → EReal) (D : Fin 3072) : EReal :=
  if h : D.val < 2048 then turn (fun l => z ⟨D.val / 128 * 128 + l.val, by omega⟩) a ⟨D.val % 128, Nat.mod_lt _ (by norm_num)⟩ else z D

theorem turned_head (z : Fin 3072 → EReal) (a : Fin 128 → EReal) (D : Fin 3072) (q : ℕ) (l : Fin 128) (hq : q ≤ 1920) (h : q % 128 = 0)
    (hD : D.val = q + l.val) : turned z a D = turn (fun k => z ⟨q + k.val, by omega⟩) a l := by
  have e1 : D.val / 128 * 128 = q := by omega
  have e2 : (⟨D.val % 128, Nat.mod_lt _ (by norm_num)⟩ : Fin 128) = l := Fin.ext (by show D.val % 128 = l.val; omega)
  unfold turned
  rw [dif_pos (by omega), e2]
  simp only [e1]

theorem select_slt (k : ℕ) (hk : k ≤ 128) (l : Fin 128) (a b : EReal) :
    Scalar.select (IntOp.cmpi CmpIPredicate.slt (BitVec.ofNat 32 l.val) (BitVec.ofNat 32 k)) a b = if l.val < k then a else b := by
  have h : IntOp.cmpi CmpIPredicate.slt (BitVec.ofNat 32 l.val) (BitVec.ofNat 32 k) = if l.val < k then 1#1 else 0#1 := by
    rw [WordCmp.cmpi_slt_eq, BitVec.toInt_eq_toNat_of_lt (by rw [BitVec.toNat_ofNat]; omega), BitVec.toInt_eq_toNat_of_lt (by rw [BitVec.toNat_ofNat]; omega), BitVec.toNat_ofNat, BitVec.toNat_ofNat, Nat.mod_eq_of_lt (by omega), Nat.mod_eq_of_lt (by omega)]
    by_cases e : l.val < k
    · rw [if_pos e, decide_eq_true (by exact_mod_cast e)]; rfl
    · rw [if_neg e, decide_eq_false (by exact_mod_cast e)]; rfl
  rw [h]
  split <;> rfl

theorem idx_eq {p q : ℕ} (x : (⟨2, ![p, q]⟩ : Shape).Idx) (r : Fin p) (d : Fin q) (h0 : (x 0).val = r.val)
    (h1 : (x 1).val = d.val) : x = ix2 r d := by
  rw [eq_ix2 x]
  exact congrArg₂ ix2 (Fin.ext h0) (Fin.ext h1)

section

variable (c : Dev nD) (i : grid0.Coords)
  (a1 : Memref sig .tc .vmem S1024x2048 .bf16) (h1 : a1.IsWhole) (a2 : Memref sig .tc .vmem S2048x3072 .bf16) (h2 : a2.IsWhole)
  (a3 : Memref sig .tc .vmem S1024x1 .i32) (h3 : a3.IsWhole) (a4 : Memref sig .tc .vmem S1x128 .f32) (h4 : a4.IsWhole)
  (a5 : Memref sig .tc .vmem S1024x3072 .bf16) (h5 : a5.IsWhole)
  (x0 : Vec Ideal S1024x2048 .bf16) (x1 : Vec Ideal S2048x3072 .bf16) (x2 : Vec Ideal S1024x1 .i32) (x3 : Vec Ideal S1x128 .f32)

set_option maxHeartbeats 2000000 in
/-- What a grid point leaves in its block of the result. -/
theorem out4_apply (r : Fin 1024) (D : Fin 3072) :
    out0_A_4 c i a1 h1 a2 h2 a3 h3 a4 h4 a5 h5 x0 x1 x2 x3 (ix2 r D)
      = turned (fun d => ∑ e, x0 (ix2 r e) * x1 (ix2 e d)) (fun l => real (x2 (ix2 r 0)) * x3 (ix2 0 l)) D := by
  have hc := cover0_A_4 c i a1 h1 a2 h2 a3 h3 a4 h4 a5 h5 x0 x1 x2 x3 (ix2 r D)
  unfold out0_A_4
  rw [View.read_writes_junk_eq_canon]
  unfold kernelRun0_A at hc ⊢
  dsimp only at hc ⊢
  canon_tiles x hx using hc
  all_goals change D.val = _ at hx1
  · sl_unfold_run_names
    obtain ⟨l, e⟩ : ∃ l : Fin 1024, x = ix2 r l := ⟨x 1, idx_eq x r (x 1) hx0.symm rfl⟩
    rw [e] at hx1 ⊢
    change D.val = _ + l.val at hx1
    simp only [View.readAt_eq_ld, h1.read_unread, h2.read_unread, View.ld_unit_zero (S := S1024x2048) zero_offsets]
    unfold turned
    rw [dif_neg (by omega)]
    have hD : D = ⟨2048 + l.val, by omega⟩ := Fin.ext hx1
    rw [hD]
    pointwise [k0_pay2]
  all_goals
    sl_unfold_run_names
    obtain ⟨l, e⟩ : ∃ l : Fin 128, x = ix2 r l := ⟨x 1, idx_eq x r (x 1) hx0.symm rfl⟩
    rw [e] at hx1 ⊢
    first
      | change D.val = _ + l.val at hx1
        rw [turned_head _ _ D _ l (by norm_num) (by norm_num) hx1]
      | change D.val = l.val at hx1
        rw [turned_head _ _ D 0 l (by norm_num) (by norm_num) (by omega)]
    simp only [View.readAt_eq_ld, h1.read_unread, h2.read_unread, h3.read_unread, h4.read_unread,
      View.ld_unit_zero (S := S1024x2048) zero_offsets, View.ld_unit_zero (S := S1024x1) zero_offsets,
      View.ld_unit_zero (S := S1x128) zero_offsets]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37]
    simp only [select_slt 16 (by norm_num), select_slt 32 (by norm_num), ← Nat.add_assoc, Nat.reduceAdd]
    unfold turn
    simp only [← Nat.add_assoc, Nat.reduceAdd, Nat.zero_add]
    rfl

end

end Cert.InprojA

end
-- ==== Proof.InprojAGrid.lean ====
/- The attention's input projection: what the kernel's grid leaves in its result array. -/
module

public import proofs.«01_k».proof.Proof.InprojAValue
public import Idealize.ShloMosaic.Lib.Pipeline.Value
public import Idealize.ShloMosaic.Lib.KernelVsHost
public import Idealize.ShloMosaic.Lib.Tactic

@[expose] public section

set_option maxRecDepth 16384

noncomputable section

namespace Cert.InprojA

open Cert.Kernel7Ideal Cert.Kernel7Ideal.Gen Cert.Rows Idealize.ShloMosaic Idealize.ShloMosaic.TcCoe Idealize.SL.Sem
open Idealize.ShloMosaic.Pipeline (Dat)

variable (m : (ℓ : Loc nD τ sig) → Buf (Elt Ideal) ℓ)

/-- The rotary frequencies, by pair of lanes; and by lane, with the sign that the partner's lane takes. -/
def inv (k : Fin 16) : EReal :=
  Ideal.pow (Ideal.ofBits .f32 0x48F42400#32)
    (Ideal.div (-real (BitVec.ofNat 32 k.val) * Ideal.ofBits .f32 0x40000000#32) (Ideal.ofBits .f32 0x42000000#32))

def freq (l : Fin 128) : EReal :=
  if h : l.val < 16 then -inv ⟨l.val, h⟩ else if h : l.val < 32 then inv ⟨l.val - 16, by omega⟩ else 0

/-- The arguments. -/
abbrev H (c : Dev nD) : FVec Ideal S32768x2048 .bf16 := m ((c : Thread nD τ).loc main_arg0)
abbrev W (c : Dev nD) : FVec Ideal S2048x10248 .f32 := m ((c : Thread nD τ).loc main_arg1)
abbrev P (c : Dev nD) : IVec S4x8192 32 := m ((c : Thread nD τ).loc main_arg2)

theorem V_v13 (c : Dev nD) : V m c main_v13 = truncf .bf16
    (extractStridedSlice S2048x3072 ![0, 3080] (W m c) slices_S2048x10248_S2048x3072_0_3080) bitsLt_bf16_f32 := by
  unfold V
  simp only [hostOps0]
  after_results

theorem V_v14 (c : Dev nD) : V m c main_v14 = shapeCast S32768x1 (P m c) shapeCasts_S4x8192_S32768x1 := by
  unfold V
  simp only [hostOps0]
  after_results
  rfl

/-- The frequencies as the host computes them. -/
abbrev hostInv : FVec Ideal S16 .f32 :=
  Host.powf (broadcastInDim S16 ![] bcast_S_S16 (constant S_ .f32 0x48F42400#32))
    (Host.divf (mulf (Host.negf (sitofp .f32 (iotaInDim S16 32 0))) (broadcastInDim S16 ![] bcast_S_S16 (constant S_ .f32 0x40000000#32)))
      (broadcastInDim S16 ![] bcast_S_S16 (constant S_ .f32 0x42000000#32)))

theorem V_v11 (c : Dev nD) : V m c main_v11 = shapeCast S1x128
    (concatenate S128 0 [⟨S16, Host.negf hostInv⟩, ⟨S16, hostInv⟩,
      ⟨S96, broadcastInDim S96 ![] bcast_S_S96 (constant (F := Ideal) S_ .f32 0x00000000#32)⟩] concatenates_S16_S16_S96_S128_d0)
    shapeCasts_S128_S1x128 := by
  unfold V
  simp only [hostOps0]
  after_results
  rfl

theorem V_v11_apply (c : Dev nD) (l : Fin 128) : (V m c main_v11 : Vec Ideal S1x128 .f32) (ix2 0 l) = freq l := by
  rw [V_v11]
  unfold freq inv
  pointwise []
  by_cases h : l.val < 16
  · rw [dif_pos h, dif_pos h]
    rfl
  · rw [dif_neg h, dif_neg h]
    by_cases h2 : l.val < 32
    · rw [dif_pos (by omega), dif_pos h2]
      rfl
    · rw [dif_neg (by omega), dif_neg h2]

theorem V_v14_apply (c : Dev nD) (R : Fin 32768) : (V m c main_v14 : Vec Ideal S32768x1 .i32) (ix2 R 0)
    = P m c (ix2 ⟨R.val / 8192, by omega⟩ ⟨R.val % 8192, Nat.mod_lt _ (by norm_num)⟩) := by
  rw [V_v14]
  pointwise []

theorem idx0 : ∀ t : Fin cfg0.N, win0_0.index t 0 = t.val ∧ win0_0.index t 1 = 0 :=
  (by decide +kernel : ∀ t : Fin grid0.N, win0_0.index t 0 = t.val ∧ win0_0.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)

theorem lt_N (t : Fin cfg0.N) : t.val < 32 := lt_of_lt_of_eq t.isLt (show cfg0.N = 32 from N_0)

/-- A row of a point's block, as a row of the array. -/
abbrev row (t : Fin cfg0.N) (r : Fin 1024) : Fin 32768 := ⟨t.val * 1024 + r.val, by have := lt_N t; omega⟩

/-- A token's position. -/
def pos (c : Dev nD) (R : Fin 32768) : EReal :=
  real (P m c (ix2 ⟨R.val / 8192, by omega⟩ ⟨R.val % 8192, Nat.mod_lt _ (by norm_num)⟩))

theorem blk0 (c : Dev nD) (t : Fin cfg0.N) (r : Fin 1024) (k : Fin 2048) :
    (iblk m c 0 t : Vec Ideal S1024x2048 .bf16) (ix2 r k) = H m c (ix2 (row t r) k) := by
  unfold iblk
  rw [View.read_apply]
  show V m c main_arg0 _ = _
  rw [V_main_arg0]
  refine congrArg (H m c) (funext fun a => Fin.ext ?_)
  match a with
  | ⟨0, _⟩ => show win0_0.index t 0 * 1024 + 1 * r.val = t.val * 1024 + r.val; rw [(idx0 t).1]; omega
  | ⟨1, _⟩ => show win0_0.index t 1 * 2048 + 1 * k.val = k.val; rw [(idx0 t).2]; omega

theorem blk1 (c : Dev nD) (t : Fin cfg0.N) (e : Fin 2048) (d : Fin 3072) :
    (iblk m c 1 t : Vec Ideal S2048x3072 .bf16) (ix2 e d) = W m c (ix2 e ⟨3080 + d.val, by omega⟩) := by
  unfold iblk
  rw [View.read_apply]
  show V m c main_v13 _ = _
  rw [V_v13]
  refine congrArg (W m c) (funext fun a => Fin.ext ?_)
  match a with
  | ⟨0, _⟩ => show 0 + (0 * 2048 + 1 * e.val) = e.val; omega
  | ⟨1, _⟩ => show 3080 + (0 * 3072 + 1 * d.val) = 3080 + d.val; omega

theorem blk2 (c : Dev nD) (t : Fin cfg0.N) (r : Fin 1024) :
    real ((iblk m c 2 t : Vec Ideal S1024x1 .i32) (ix2 r 0)) = pos m c (row t r) := by
  unfold iblk pos
  rw [View.read_apply]
  refine congrArg real (Eq.trans (congrArg (V m c main_v14 : Vec Ideal S32768x1 .i32) ?_) (V_v14_apply m c (row t r)))
  refine idx_eq _ _ _ ?_ ?_
  · show win0_2.index t 0 * 1024 + 1 * r.val = t.val * 1024 + r.val; rw [(idx2 t).1]; omega
  · show win0_2.index t 1 * 1 + 1 * 0 = 0; rw [(idx2 t).2]

theorem blk3 (c : Dev nD) (t : Fin cfg0.N) (l : Fin 128) : (iblk m c 3 t : Vec Ideal S1x128 .f32) (ix2 0 l) = freq l := by
  unfold iblk
  rw [View.read_apply]
  refine Eq.trans (congrArg (V m c main_v11 : Vec Ideal S1x128 .f32) ?_) (V_v11_apply m c l)
  refine idx_eq _ _ _ ?_ ?_
  · show 0 * 1 + 1 * 0 = 0; omega
  · show 0 * 128 + 1 * l.val = l.val; omega

/-- A token's projection onto the attention's columns. -/
def proj (x : Fin 2048 → EReal) (w : Fin 2048 → Fin 10248 → EReal) (d : Fin 3072) : EReal :=
  ∑ e, x e * w e ⟨3080 + d.val, by omega⟩

/-- The result array: every token's projection, its queries and keys turned by the token's position. -/
def result (c : Dev nD) : FVec Ideal S32768x3072 .bf16 := fun i =>
  turned (proj (fun k => H m c (ix2 (i 0) k)) (fun e k => W m c (ix2 e k))) (fun l => pos m c (i 0) * freq l) (i 1)

theorem flushed4_eq (c : Dev nD) (t : Fin cfg0.N) (hf : (cfg0.win 4).flush t = true) :
    (dats m 0 c).flushed 4 t = ((cfg0.win 4).blk t).view.read (Elt Ideal) (result m c) := by
  rw [Value.flushed4_A]
  funext y
  rw [View.read_apply]
  obtain ⟨r, D, rfl⟩ : ∃ (r : Fin 1024) (D : Fin 3072), y = ix2 r D := ⟨y 0, y 1, eq_ix2 y⟩
  show out0_A_4 c _ _ _ _ _ _ _ _ _ _ _ (iblk m c 0 t) (iblk m c 1 t) (iblk m c 2 t) (iblk m c 3 t) (ix2 r D) = _
  rw [out4_apply]
  simp only [blk0, blk1, blk2, blk3]
  have : ((cfg0.win 4).blk t).view.emb (ix2 r D) = (ix2 (row t r) D : S32768x3072.Idx) := by
    funext a
    apply Fin.ext
    match a with
    | ⟨0, _⟩ => show win0_4.index t 0 * 1024 + 1 * r.val = t.val * 1024 + r.val; rw [(idx4 t).1]; omega
    | ⟨1, _⟩ => show win0_4.index t 1 * 3072 + 1 * D.val = D.val; rw [(idx4 t).2]; omega
  rw [this]
  rfl

/-- The point that writes a row. -/
abbrev pt (R : Fin 32768) : Fin cfg0.N := ⟨R.val / 1024, by rw [show cfg0.N = 32 from N_0]; omega⟩

theorem final4 (c : Dev nD) : (dats m 0 c).arrAt 4 cfg0.N = result m c :=
  (dats m 0 c).arrAt_eq_of_cover 4 (result m c) (flushed4_eq m c) fun i =>
    ⟨pt (i 0), flush0_4 _, by
    have h0 : (i 0 : Nat) < 32768 := (i 0).isLt
    have h1 : (i 1 : Nat) < 3072 := (i 1).isLt
    show i ∈ ((View.whole main_v15).slice (win0_4.rect (pt (i 0)))).set
    rw [View.set_slice_whole, Rect.mem_set_unit]
    intro a
    match a with
    | ⟨0, _⟩ =>
      show win0_4.index (pt (i 0)) 0 * 1024 ≤ (i 0 : Nat) ∧ (i 0 : Nat) < win0_4.index (pt (i 0)) 0 * 1024 + 1024
      rw [(idx4 _).1]; rw [show (pt (i 0)).val = (i 0 : Nat) / 1024 from rfl]; omega
    | ⟨1, _⟩ =>
      show win0_4.index (pt (i 0)) 1 * 3072 ≤ (i 1 : Nat) ∧ (i 1 : Nat) < win0_4.index (pt (i 0)) 1 * 3072 + 3072
      rw [(idx4 _).2]; omega⟩

end Cert.InprojA

end
-- ==== Proof.InprojA.lean ====
/- The attention's input projection: the kernel and the reference end with equal results. -/
module

public import proofs.«01_k».proof.Defs
public import proofs.«01_k».proof.Proof.InprojAGrid
public import proofs.«01_k».proof.Proof.Gen.Reference7Ideal.Read

@[expose] public section

set_option maxRecDepth 16384

noncomputable section

namespace Cert.InprojA

open Cert.Rows Idealize.ShloMosaic Idealize.ShloMosaic.TcCoe Idealize.SL.Sem
open Cert.Reference7Ideal.Read

/-- The frequencies are real. -/
theorem inv_real (k : Fin 16) : ∃ r : ℝ, inv k = (r : EReal) := by
  have h1 : Ideal.ofBits .f32 0x48F42400#32 = ((500000 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.ofBits .f32 0x42000000#32 = ((32 : ℝ) : EReal) := by
    simp [Ideal.ofBits, Ideal.ieee]
    rw [← EReal.coe_mul]
    norm_num
  unfold inv real
  rw [h1, h2, h3, ← EReal.coe_neg, ← EReal.coe_mul]
  have hd : ∀ x : ℝ, Ideal.div (x : EReal) ((32 : ℝ) : EReal) = ((x / 32 : ℝ) : EReal) := by
    intro x
    rw [Ideal.div_coe (by norm_num), ← EReal.coe_mul, mul_one_div]
  rw [hd]
  exact ⟨_, rfl⟩

theorem cos_neg (r : ℝ) : Ideal.cos (-(r : EReal)) = Ideal.cos (r : EReal) := by
  rw [← EReal.coe_neg]
  show ((Real.cos (-r) : ℝ) : EReal) = (Real.cos r : EReal)
  rw [Real.cos_neg]

theorem sin_neg (r : ℝ) : Ideal.sin (-(r : EReal)) = -Ideal.sin (r : EReal) := by
  rw [← EReal.coe_neg]
  show ((Real.sin (-r) : ℝ) : EReal) = -(Real.sin r : EReal)
  rw [Real.sin_neg, EReal.coe_neg]

/-- One head's rotary embedding, written on the two halves of the turned lanes. -/
def halves (z : Fin 128 → EReal) (p : EReal) (l : Fin 128) : EReal :=
  if h : l.val < 32 then
    if h2 : l.val < 16 then
      z ⟨l.val, l.isLt⟩ * Ideal.cos (p * inv ⟨l.val, h2⟩) - z ⟨16 + l.val, by omega⟩ * Ideal.sin (p * inv ⟨l.val, h2⟩)
    else
      z ⟨16 + (l.val - 16), by omega⟩ * Ideal.cos (p * inv ⟨l.val - 16, by omega⟩)
        + z ⟨l.val - 16, by omega⟩ * Ideal.sin (p * inv ⟨l.val - 16, by omega⟩)
  else z ⟨32 + (l.val - 32), by omega⟩

/-- The two forms of the embedding agree at every position. -/
theorem turn_eq (z : Fin 128 → EReal) (p : BitVec 32) (l : Fin 128) : turn z (fun l => real p * freq l) l = halves z (real p) l := by
  unfold turn halves freq
  dsimp only
  by_cases h : l.val < 32
  · rw [if_pos h, dif_pos h]
    by_cases h2 : l.val < 16
    · rw [dif_pos h2, dif_pos h2, if_pos h2]
      obtain ⟨r, hr⟩ := inv_real ⟨l.val, h2⟩
      have e : (⟨(l.val + 128 - 112) % 128, Nat.mod_lt _ (by norm_num)⟩ : Fin 128) = ⟨16 + l.val, by omega⟩ :=
        Fin.ext (by show (l.val + 128 - 112) % 128 = 16 + l.val; omega)
      rw [e, hr, mul_neg]
      unfold real
      rw [← EReal.coe_mul, cos_neg, sin_neg, mul_neg, sub_eq_add_neg]
    · have e1 : (⟨(l.val + 128 - 16) % 128, Nat.mod_lt _ (by norm_num)⟩ : Fin 128) = ⟨l.val - 16, by omega⟩ :=
        Fin.ext (by show (l.val + 128 - 16) % 128 = l.val - 16; omega)
      have e2 : (⟨16 + (l.val - 16), by omega⟩ : Fin 128) = l := Fin.ext (by show 16 + (l.val - 16) = l.val; omega)
      rw [dif_neg h2, dif_neg h2, if_neg h2, dif_pos h, e1, e2]
  · have e : (⟨32 + (l.val - 32), by omega⟩ : Fin 128) = l := Fin.ext (by show 32 + (l.val - 32) = l.val; omega)
    rw [if_neg h, dif_neg h, e]

section

open Cert.Reference7Ideal

variable (x0 : FVec Ideal S32768x2048 .bf16) (x1 : FVec Ideal S2048x10248 .f32) (x2 : IVec S4x8192 32)

theorem product_apply (R : Fin 32768) (d : Fin 3072) : val_main_v2 (F := Ideal) x0 x1 (ix2 R d)
    = proj (fun k => x0 (ix2 R k)) (fun e k => x1 (ix2 e k)) d := by
  unfold proj
  pointwise [val_main_v2, val_main_v1, val_main_v0]

/-- The reference's turned queries, and its turned keys. -/
theorem queries_apply (b : Fin 4) (h : Fin 8) (s : Fin 8192) (l : Fin 128) : val_main_v40 (F := Ideal) x0 x1 x2 (ix4 b h s l)
    = halves (fun k => val_main_v2 (F := Ideal) x0 x1 (ix2 ⟨b.val * 8192 + s.val, by omega⟩ ⟨h.val * 128 + k.val, by omega⟩))
      (real (x2 (ix2 b s))) l := by
  pointwise [val_main_v3, val_main_v4, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst, val_main_cst_0, val_main_cst_1]
  unfold halves inv real
  rfl

theorem keys_apply (b : Fin 4) (h : Fin 8) (s : Fin 8192) (l : Fin 128) : val_main_v74 (F := Ideal) x0 x1 x2 (ix4 b h s l)
    = halves (fun k => val_main_v2 (F := Ideal) x0 x1 (ix2 ⟨b.val * 8192 + s.val, by omega⟩ ⟨1024 + (h.val * 128 + k.val), by omega⟩))
      (real (x2 (ix2 b s))) l := by
  pointwise [val_main_v3, val_main_v5, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_cst_2, val_main_cst_3, val_main_cst_4]
  unfold halves inv real
  rfl

theorem reference_apply (R : Fin 32768) (D : Fin 3072) : val_main_v81 (F := Ideal) x0 x1 x2 (ix2 R D)
    = turned (proj (fun k => x0 (ix2 R k)) (fun e k => x1 (ix2 e k)))
      (fun l => real (x2 (ix2 ⟨R.val / 8192, by omega⟩ ⟨R.val % 8192, Nat.mod_lt _ (by norm_num)⟩)) * freq l) D := by
  pointwise [val_main_v75, val_main_v76, val_main_v77, val_main_v78, val_main_v79, val_main_v80, val_main_v81, val_main_v6, val_main_v3]
  have hrow : (⟨R.val / 8192 * 8192 + R.val % 8192, by omega⟩ : Fin 32768) = R :=
    Fin.ext (by show R.val / 8192 * 8192 + R.val % 8192 = R.val; omega)
  by_cases h : D.val < 1024
  · rw [dif_pos h, queries_apply, turned_head _ _ D (D.val / 128 * 128) ⟨D.val % 128, by omega⟩ (by omega) (by omega)
      (by show D.val = D.val / 128 * 128 + D.val % 128; omega), turn_eq]
    simp only [hrow, product_apply]
  · rw [dif_neg h]
    by_cases h2 : D.val < 2048
    · rw [dif_pos (by omega), keys_apply, turned_head _ _ D (D.val / 128 * 128) ⟨D.val % 128, by omega⟩ (by omega) (by omega)
        (by show D.val = D.val / 128 * 128 + D.val % 128; omega), turn_eq]
      have hl : (⟨(D.val - 1024) % 128, by omega⟩ : Fin 128) = ⟨D.val % 128, by omega⟩ :=
        Fin.ext (by show (D.val - 1024) % 128 = D.val % 128; omega)
      have hk : ∀ k : Fin 128, (⟨1024 + ((D.val - 1024) / 128 * 128 + k.val), by omega⟩ : Fin 3072) = ⟨D.val / 128 * 128 + k.val, by omega⟩ :=
        fun k => Fin.ext (by show 1024 + ((D.val - 1024) / 128 * 128 + k.val) = D.val / 128 * 128 + k.val; omega)
      simp only [hl, hrow, product_apply, hk]
    · rw [dif_neg (by omega), product_apply]
      unfold turned
      rw [dif_neg h2]
      exact congrArg (proj _ _) (Fin.ext (by show 2048 + (D.val - 1024 - 1024) = D.val; omega))

end

variable (m : (ℓ : Loc Kernel7Ideal.nD Kernel7Ideal.τ Kernel7Ideal.sig) → Buf (Elt Ideal) ℓ)

/-- The reference's value of the arguments is the kernel's result array. -/
theorem reference_eq (c : Dev Kernel7Ideal.nD) : val_main_v81 (F := Ideal) (H m c) (W m c) (P m c) = result m c := by
  funext i
  obtain ⟨R, D, rfl⟩ : ∃ (R : Fin 32768) (D : Fin 3072), i = ix2 R D := ⟨i 0, i 1, eq_ix2 i⟩
  exact reference_apply _ _ _ R D

/-- The reference terminates with its arguments unchanged and every counter at zero. -/
theorem frame_reference : Cert.quiescent_Reference7Ideal (hReference7Ideal := Cert.Reference7Ideal.Gen.facts) :=
  fun m g _ => (θ_run Cert.Reference7Ideal.defs _ _).mono
    (fun r h => ⟨fun c => (h c).2, sem_eq_zero_of_no_sems (by decide) r.2⟩) (Cert.Reference7Ideal.Value.run m g)

/-- The two programs end with equal results. -/
theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => result m c, ?_, ?_⟩
  · exact (θ_run Cert.Kernel7Ideal.defs _ _).mono (fun r h c => ⟨(h c).1.trans (final4 m c), (h c).2⟩)
      (Cert.Kernel7Ideal.Value.run_blocks m g)
  · refine (θ_run Cert.Reference7Ideal.defs _ _).mono (fun r h c => ⟨?_, (h c).2⟩) (Cert.Reference7Ideal.Value.run m' g')
    obtain ⟨e0, e1, e2⟩ := hargs c
    rw [(h c).1, val_main_v81_eq, e0, e1, e2]
    exact reference_eq m c

end Cert.InprojA

end
-- ==== Proof.lean ====
module

public import proofs.«01_k».proof.Defs
public import proofs.«01_k».proof.Proof.Mlstm
public import proofs.«01_k».proof.Proof.Ffn
public import proofs.«01_k».proof.Proof.Ple
public import proofs.«01_k».proof.Proof.OutProj
public import proofs.«01_k».proof.Proof.Merge
public import proofs.«01_k».proof.Proof.InprojM
public import proofs.«01_k».proof.Proof.InprojA
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Pre_finite.Gen.facts,
    fun m g _ => Cert.Kernel.Gen.frame m g,
    fun m g _ => Cert.KernelIdeal.Gen.frame m g,
    fun m g _ => Cert.KernelIdeal.Gen.frame m g,
    Cert.Mlstm.frame_reference,
    Cert.Mlstm.frame_reference_finite,
    fun m g _ => Cert.Kernel2.Gen.frame m g,
    fun m g _ => Cert.Kernel2Ideal.Gen.frame m g,
    Cert.Ffn.frame_reference,
    fun m g _ => Cert.Kernel3.Gen.frame m g,
    fun m g _ => Cert.Kernel3Ideal.Gen.frame m g,
    Cert.Ple.frame_reference,
    fun m g _ => Cert.Kernel4.Gen.frame m g,
    fun m g _ => Cert.Kernel4Ideal.Gen.frame m g,
    Cert.OutProj.frame_reference,
    fun m g _ => Cert.Kernel5.Gen.frame m g,
    fun m g _ => Cert.Kernel5Ideal.Gen.frame m g,
    Cert.Merge.frame_reference,
    fun m g _ => Cert.Kernel6.Gen.frame m g,
    fun m g _ => Cert.Kernel6Ideal.Gen.frame m g,
    Cert.InprojM.frame_reference,
    fun m g _ => Cert.Kernel7.Gen.frame m g,
    fun m g _ => Cert.Kernel7Ideal.Gen.frame m g,
    Cert.InprojA.frame_reference,
    Cert.Mlstm.preserves,
    Cert.Mlstm.algebraic,
    trivial,
    Cert.Ffn.algebraic,
    trivial,
    Cert.Ple.algebraic,
    trivial,
    Cert.OutProj.algebraic,
    trivial,
    Cert.Merge.algebraic,
    trivial,
    Cert.InprojM.algebraic,
    trivial,
    Cert.InprojA.algebraic⟩

end Cert.Proof

end
